-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_qk_finite [hPre_qk_finite : Cert.Pre_qk_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_qk_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_qk_finite [hPre_qk_finite : Cert.Pre_qk_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_qk_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_qk_finite [hKernel5Ideal : Cert.Kernel5Ideal.Facts] [hPre_qk_finite : Cert.Pre_qk_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_qk_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_qk_finite [hReference5Ideal : Cert.Reference5Ideal.Facts] [hPre_qk_finite : Cert.Pre_qk_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_qk_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_v244) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v99) = v0 c
          ∧ r.2.mem ((c.tc : Thread Cert.Reference4Ideal.nD Cert.Reference4Ideal.τ).loc Cert.Reference4Ideal.main_v106) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_qk_finite [hKernel5Ideal : Cert.Kernel5Ideal.Facts] [hReference5Ideal : Cert.Reference5Ideal.Facts] [hPre_qk_finite : Cert.Pre_qk_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_qk_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v28_0)) (v1 : (c : Dev Cert.Kernel5Ideal.nD) → Buf (Elt Ideal) ((c.tc : Thread Cert.Kernel5Ideal.nD Cert.Kernel5Ideal.τ).loc Cert.Kernel5Ideal.main_v28_1)) (v2 : (c : Dev Cert.Kernel5Ideal.nD) → Buf (Elt Ideal) ((c.tc : Thread Cert.Kernel5Ideal.nD Cert.Kernel5Ideal.τ).loc Cert.Kernel5Ideal.main_v28_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_0) = v0 c
          ∧ r.2.mem ((c.tc : Thread Cert.Kernel5Ideal.nD Cert.Kernel5Ideal.τ).loc Cert.Kernel5Ideal.main_v28_1) = v1 c
          ∧ r.2.mem ((c.tc : Thread Cert.Kernel5Ideal.nD Cert.Kernel5Ideal.τ).loc Cert.Kernel5Ideal.main_v28_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v61) = v1 c
          ∧ r.2.mem ((c.tc : Thread Cert.Reference5Ideal.nD Cert.Reference5Ideal.τ).loc Cert.Reference5Ideal.main_v63) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v10_1)) (v2 : (c : Dev Cert.Kernel6Ideal.nD) → Buf (Elt Ideal) ((c.tc : Thread Cert.Kernel6Ideal.nD Cert.Kernel6Ideal.τ).loc Cert.Kernel6Ideal.main_v10_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v10_1) = v1 c
          ∧ r.2.mem ((c.tc : Thread Cert.Kernel6Ideal.nD Cert.Kernel6Ideal.τ).loc Cert.Kernel6Ideal.main_v10_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v83) = v0 c
          ∧ r.2.mem ((c.tc : Thread Cert.Reference6Ideal.nD Cert.Reference6Ideal.τ).loc Cert.Reference6Ideal.main_v84) = v1 c
          ∧ r.2.mem ((c.tc : Thread Cert.Reference6Ideal.nD Cert.Reference6Ideal.τ).loc Cert.Reference6Ideal.main_v86) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)) (v2 : (c : Dev Cert.Kernel7Ideal.nD) → Buf (Elt Ideal) ((c.tc : Thread Cert.Kernel7Ideal.nD Cert.Kernel7Ideal.τ).loc Cert.Kernel7Ideal.main_v8_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_v8_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_v82) = v1 c
          ∧ r.2.mem ((c.tc : Thread Cert.Reference7Ideal.nD Cert.Reference7Ideal.τ).loc Cert.Reference7Ideal.main_v84) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_qk_finite : Cert.Pre_qk_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_qk_finite (hKernel5Ideal := hKernel5Ideal) (hPre_qk_finite := hPre_qk_finite)
    ∧ quiescent_Reference5Ideal (hReference5Ideal := hReference5Ideal)
    ∧ quiescent_Reference5Ideal_pre_qk_finite (hReference5Ideal := hReference5Ideal) (hPre_qk_finite := hPre_qk_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_qk_finite (hKernel5Ideal := hKernel5Ideal) (hReference5Ideal := hReference5Ideal) (hPre_qk_finite := hPre_qk_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_qk_finite.lean ====
abbrev S10240x3328 : Shape := ⟨2, ![10240, 3328]⟩
abbrev S1x64 : Shape := ⟨2, ![1, 64]⟩
abbrev S8192x640 : Shape := ⟨2, ![8192, 640]⟩
abbrev S8192x10x64 : Shape := ⟨3, ![8192, 10, 64]⟩
abbrev S_ : Shape := ⟨0, ![]⟩
abbrev S64 : Shape := ⟨1, ![64]⟩
abbrev S1x1x64 : Shape := ⟨3, ![1, 1, 64]⟩

class Facts : Prop where
  slices_S10240x3328_S8192x640_0_2560 : S10240x3328.Slices ![0, 2560] S8192x640
  bitsLt_bf16_f32 : FTy.bits .bf16 < FTy.bits .f32
  shapeCasts_S8192x640_S8192x10x64 : S8192x640.ShapeCasts S8192x10x64
  bcast_S_S8192x10x64 : S_.BroadcastsInDim S8192x10x64 (![] : Fin 0 → Fin S8192x10x64.rank)
  shapeCasts_S1x64_S64 : S1x64.ShapeCasts S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S8192x10x64_0_1_2 : S1x1x64.BroadcastsInDim S8192x10x64 (![0, 1, 2] : Fin 3 → Fin S8192x10x64.rank)

variable [Facts]

def fn {F : FTy → Type} [FloatOps F] (main_arg0 : FVec F S10240x3328 .bf16) (main_arg1 : FVec F S1x64 .f32) (main_arg2 : FVec F S1x64 .f32) : IVec S8192x10x64 1 :=
  let main_v0 : FVec F S8192x640 .bf16 := (extractStridedSlice S8192x640 ![0, 2560] · slices_S10240x3328_S8192x640_0_2560) main_arg0
  let main_v1 : FVec F S8192x640 .f32 := (extf .f32 · bitsLt_bf16_f32) main_v0
  let main_v2 : FVec F S8192x10x64 .f32 := shapeCast S8192x10x64 main_v1 shapeCasts_S8192x640_S8192x10x64
  let main_v3 : FVec F S8192x10x64 .f32 := Host.absf main_v2
  let main_cst : FVec F S_ .f32 := constant S_ .f32 0x7F800000#32
  let main_v4 : FVec F S8192x10x64 .f32 := broadcastInDim S8192x10x64 ![] bcast_S_S8192x10x64 main_cst
  let main_v5 : IVec S8192x10x64 1 := cmpf .olt main_v3 main_v4
  let main_v6 : FVec F S64 .f32 := shapeCast S64 main_arg1 shapeCasts_S1x64_S64
  let main_v7 : FVec F S64 .f32 := Host.absf main_v6
  let main_cst_0 : FVec F S_ .f32 := constant S_ .f32 0x7F800000#32
  let main_v8 : FVec F S64 .f32 := broadcastInDim S64 ![] bcast_S_S64 main_cst_0
  let main_v9 : IVec S64 1 := cmpf .olt main_v7 main_v8
  let main_v10 : IVec S1x1x64 1 := broadcastInDim S1x1x64 ![2] bcast_S64_S1x1x64_2 main_v9
  let main_v11 : IVec S8192x10x64 1 := broadcastInDim S8192x10x64 ![0, 1, 2] bcast_S1x1x64_S8192x10x64_0_1_2 main_v10
  let main_v12 : IVec S8192x10x64 1 := andi main_v5 main_v11
  let main_v13 : FVec F S64 .f32 := shapeCast S64 main_arg2 shapeCasts_S1x64_S64
  let main_v14 : FVec F S64 .f32 := Host.absf main_v13
  let main_cst_1 : FVec F S_ .f32 := constant S_ .f32 0x7F800000#32
  let main_v15 : FVec F S64 .f32 := broadcastInDim S64 ![] bcast_S_S64 main_cst_1
  let main_v16 : IVec S64 1 := cmpf .olt main_v14 main_v15
  let main_v17 : IVec S1x1x64 1 := broadcastInDim S1x1x64 ![2] bcast_S64_S1x1x64_2 main_v16
  let main_v18 : IVec S8192x10x64 1 := broadcastInDim S8192x10x64 ![0, 1, 2] bcast_S1x1x64_S8192x10x64_0_1_2 main_v17
  let main_v19 : IVec S8192x10x64 1 := andi main_v12 main_v18
  main_v19
-- ==== Kernel.lean ====
abbrev S10240x3328 : Shape := ⟨2, ![10240, 3328]⟩
abbrev S2x2x512 : Shape := ⟨3, ![2, 2, 512]⟩
abbrev S1x512 : Shape := ⟨2, ![1, 512]⟩
abbrev S512 : Shape := ⟨1, ![512]⟩
abbrev S8192x512 : Shape := ⟨2, ![8192, 512]⟩
abbrev S32x1x2x4x128x128 : Shape := ⟨6, ![32, 1, 2, 4, 128, 128]⟩
abbrev S256x512 : Shape := ⟨2, ![256, 512]⟩
abbrev S1x1x2x4x128x128 : Shape := ⟨6, ![1, 1, 2, 4, 128, 128]⟩
abbrev S1x2x512 : Shape := ⟨3, ![1, 2, 512]⟩
abbrev S2x512 : Shape := ⟨2, ![2, 512]⟩
abbrev S128x128 : Shape := ⟨2, ![128, 128]⟩
abbrev S1x128 : Shape := ⟨2, ![1, 128]⟩
abbrev S64x128 : Shape := ⟨2, ![64, 128]⟩
abbrev S1x1x1x1x128x128 : Shape := ⟨6, ![1, 1, 1, 1, 128, 128]⟩
abbrev S256x128 : Shape := ⟨2, ![256, 128]⟩
abbrev S256 : Shape := ⟨1, ![256]⟩
abbrev S256x1 : Shape := ⟨2, ![256, 1]⟩

abbrev nBuf : Space → Nat
  | .hbm => 7
  | .vmem => 18
  | .smem => 0
  | _ => 0

abbrev bufTy : (tb : Table) → Fin (tcTables nBuf tb) → BufTy
  | .hbm, ⟨0, _⟩ => ⟨S10240x3328, .bf16⟩
  | .hbm, ⟨1, _⟩ => ⟨S2x2x512, .f32⟩
  | .hbm, ⟨2, _⟩ => ⟨S1x512, .f32⟩
  | .hbm, ⟨3, _⟩ => ⟨S512, .f32⟩
  | .hbm, ⟨4, _⟩ => ⟨S1x512, .f32⟩
  | .hbm, ⟨5, _⟩ => ⟨S8192x512, .bf16⟩
  | .hbm, ⟨6, _⟩ => ⟨S32x1x2x4x128x128, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S2x2x512, .f32⟩
  | .local _ .vmem, ⟨11, _⟩ => ⟨S1x512, .f32⟩
  | .local _ .vmem, ⟨12, _⟩ => ⟨S256x512, .bf16⟩
  | .local _ .vmem, ⟨13, _⟩ => ⟨S256x512, .bf16⟩
  | .local _ .vmem, ⟨14, _⟩ => ⟨S1x1x2x4x128x128, .f32⟩
  | .local _ .vmem, ⟨15, _⟩ => ⟨S1x1x2x4x128x128, .f32⟩
  | .local _ .vmem, ⟨16, _⟩ => ⟨S256x512, .f32⟩
  | .local _ .vmem, ⟨17, _⟩ => ⟨S256x512, .f32⟩
  | _, _ => ⟨S10240x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi c1_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c2_i32 : BitVec 32 := 2#32
  let v1 : BitVec 32 := Scalar.addi c2_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c3_i32 : BitVec 32 := 3#32
  let v1 : BitVec 32 := Scalar.addi c3_i32 arg1
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S10240x3328 : Shape := ⟨2, ![10240, 3328]⟩
abbrev S2x2x512 : Shape := ⟨3, ![2, 2, 512]⟩
abbrev S1x512 : Shape := ⟨2, ![1, 512]⟩
abbrev S_ : Shape := ⟨0, ![]⟩
abbrev S2x512 : Shape := ⟨2, ![2, 512]⟩
abbrev S1x2x512 : Shape := ⟨3, ![1, 2, 512]⟩
abbrev S8192x2560 : Shape := ⟨2, ![8192, 2560]⟩
abbrev S32x256x2560 : Shape := ⟨3, ![32, 256, 2560]⟩
abbrev S32x256x512 : Shape := ⟨3, ![32, 256, 512]⟩
abbrev S32x256x4x128 : Shape := ⟨4, ![32, 256, 4, 128]⟩
abbrev S32x4x256x128 : Shape := ⟨4, ![32, 4, 256, 128]⟩
abbrev S512 : Shape := ⟨1, ![512]⟩
abbrev S1x1x512 : Shape := ⟨3, ![1, 1, 512]⟩
abbrev S32x2x4x128x128 : Shape := ⟨5, ![32, 2, 4, 128, 128]⟩
abbrev S32x1x4x128x128 : Shape := ⟨5, ![32, 1, 4, 128, 128]⟩
abbrev S32x4x128x128 : Shape := ⟨4, ![32, 4, 128, 128]⟩
abbrev S32x4x4x64x128 : Shape := ⟨5, ![32, 4, 4, 64, 128]⟩
abbrev S32x4x4x1x128 : Shape := ⟨5, ![32, 4, 4, 1, 128]⟩
abbrev S32x4x4x64x64 : Shape := ⟨5, ![32, 4, 4, 64, 64]⟩
abbrev S64x64 : Shape := ⟨2, ![64, 64]⟩
abbrev S32x4x4x128x128 : Shape := ⟨5, ![32, 4, 4, 128, 128]⟩
abbrev S32x4x4x128 : Shape := ⟨4, ![32, 4, 4, 128]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x4x1x128x128 : Shape := ⟨5, ![32, 4, 1, 128, 128]⟩
abbrev S32x256x4 : Shape := ⟨3, ![32, 256, 4]⟩
abbrev S32x256x4x1 : Shape := ⟨4, ![32, 256, 4, 1]⟩
abbrev S4x128 : Shape := ⟨2, ![4, 128]⟩
abbrev S1x1x4x128 : Shape := ⟨4, ![1, 1, 4, 128]⟩
abbrev S8192x512 : Shape := ⟨2, ![8192, 512]⟩
abbrev S32x1x2x4x128x128 : Shape := ⟨6, ![32, 1, 2, 4, 128, 128]⟩

abbrev nBuf : Space → Nat
  | .hbm => 301
  | .vmem => 0
  | .smem => 0
  | _ => 0

abbrev hbmTy0_0 (i : Nat) : BufTy := match i % 128 with
  | 0 => ⟨S10240x3328, .bf16⟩
  | 1 => ⟨S2x2x512, .f32⟩
  | 2 => ⟨S1x512, .f32⟩
  | 3 => ⟨S_, .f32⟩
  | 4 => ⟨S2x512, .f32⟩
  | 5 => ⟨S_, .f32⟩
  | 6 => ⟨S2x512, .f32⟩
  | 7 => ⟨S2x512, .f32⟩
  | 8 => ⟨S1x2x512, .f32⟩
  | 9 => ⟨S2x2x512, .f32⟩
  | 10 => ⟨S2x2x512, .f32⟩
  | 11 => ⟨S2x2x512, .f32⟩
  | 12 => ⟨S_, .f32⟩
  | 13 => ⟨S2x512, .f32⟩
  | 14 => ⟨S1x2x512, .f32⟩
  | 15 => ⟨S2x2x512, .f32⟩
  | 16 => ⟨S2x2x512, .f32⟩
  | 17 => ⟨S_, .f32⟩
  | 18 => ⟨S_, .f32⟩
  | 19 => ⟨S2x2x512, .f32⟩
  | 20 => ⟨S1x2x512, .f32⟩
  | 21 => ⟨S2x512, .f32⟩
  | 22 => ⟨S8192x2560, .bf16⟩
  | 23 => ⟨S8192x2560, .f32⟩
  | 24 => ⟨S32x256x2560, .f32⟩
  | 25 => ⟨S32x256x512, .f32⟩
  | 26 => ⟨S32x256x512, .f32⟩
  | 27 => ⟨S32x256x512, .f32⟩
  | 28 => ⟨S32x256x512, .f32⟩
  | 29 => ⟨S32x256x512, .f32⟩
  | 30 => ⟨S32x256x4x128, .f32⟩
  | 31 => ⟨S32x4x256x128, .f32⟩
  | 32 => ⟨S32x256x4x128, .f32⟩
  | 33 => ⟨S32x4x256x128, .f32⟩
  | 34 => ⟨S1x512, .f32⟩
  | 35 => ⟨S512, .f32⟩
  | 36 => ⟨S1x512, .f32⟩
  | 37 => ⟨S512, .f32⟩
  | 38 => ⟨S_, .f32⟩
  | 39 => ⟨S512, .f32⟩
  | 40 => ⟨S512, .f32⟩
  | 41 => ⟨S32x256x512, .f32⟩
  | 42 => ⟨S32x256x512, .f32⟩
  | 43 => ⟨S_, .f32⟩
  | 44 => ⟨S32x256x512, .f32⟩
  | 45 => ⟨S32x256x512, .f32⟩
  | 46 => ⟨S_, .f32⟩
  | 47 => ⟨S32x256x512, .f32⟩
  | 48 => ⟨S32x256x512, .f32⟩
  | 49 => ⟨S1x1x512, .f32⟩
  | 50 => ⟨S32x256x512, .f32⟩
  | 51 => ⟨S32x256x512, .f32⟩
  | 52 => ⟨S1x1x512, .f32⟩
  | 53 => ⟨S32x256x512, .f32⟩
  | 54 => ⟨S32x256x512, .f32⟩
  | 55 => ⟨S32x256x512, .f32⟩
  | 56 => ⟨S32x256x4x128, .f32⟩
  | 57 => ⟨S32x4x256x128, .f32⟩
  | 58 => ⟨S1x512, .f32⟩
  | 59 => ⟨S512, .f32⟩
  | 60 => ⟨S1x512, .f32⟩
  | 61 => ⟨S512, .f32⟩
  | 62 => ⟨S_, .f32⟩
  | 63 => ⟨S512, .f32⟩
  | 64 => ⟨S512, .f32⟩
  | 65 => ⟨S32x256x512, .f32⟩
  | 66 => ⟨S32x256x512, .f32⟩
  | 67 => ⟨S_, .f32⟩
  | 68 => ⟨S32x256x512, .f32⟩
  | 69 => ⟨S32x256x512, .f32⟩
  | 70 => ⟨S_, .f32⟩
  | 71 => ⟨S32x256x512, .f32⟩
  | 72 => ⟨S32x256x512, .f32⟩
  | 73 => ⟨S1x1x512, .f32⟩
  | 74 => ⟨S32x256x512, .f32⟩
  | 75 => ⟨S32x256x512, .f32⟩
  | 76 => ⟨S1x1x512, .f32⟩
  | 77 => ⟨S32x256x512, .f32⟩
  | 78 => ⟨S32x256x512, .f32⟩
  | 79 => ⟨S32x256x512, .f32⟩
  | 80 => ⟨S32x256x4x128, .f32⟩
  | 81 => ⟨S32x4x256x128, .f32⟩
  | 82 => ⟨S_, .f32⟩
  | 83 => ⟨S32x2x4x128x128, .f32⟩
  | 84 => ⟨S32x1x4x128x128, .f32⟩
  | 85 => ⟨S32x4x128x128, .f32⟩
  | 86 => ⟨S32x4x256x128, .f32⟩
  | 87 => ⟨S32x4x256x128, .f32⟩
  | 88 => ⟨S32x4x4x64x128, .f32⟩
  | 89 => ⟨S32x4x4x64x128, .f32⟩
  | 90 => ⟨S32x4x4x64x128, .f32⟩
  | 91 => ⟨S32x4x4x64x128, .f32⟩
  | 92 => ⟨S_, .f32⟩
  | 93 => ⟨S_, .f32⟩
  | 94 => ⟨S32x4x4x64x128, .f32⟩
  | 95 => ⟨S32x4x4x1x128, .f32⟩
  | 96 => ⟨S32x4x4x64x128, .f32⟩
  | 97 => ⟨S32x4x4x64x128, .f32⟩
  | 98 => ⟨S32x4x4x64x128, .f32⟩
  | 99 => ⟨S32x4x4x64x128, .f32⟩
  | 100 => ⟨S32x4x4x64x128, .f32⟩
  | 101 => ⟨S32x4x4x64x128, .f32⟩
  | 102 => ⟨S32x4x4x64x128, .f32⟩
  | 103 => ⟨S32x4x4x64x128, .f32⟩
  | 104 => ⟨S32x4x4x64x64, .f32⟩
  | 105 => ⟨S_, .i1⟩
  | 106 => ⟨S64x64, .i1⟩
  | 107 => ⟨S64x64, .i32⟩
  | 108 => ⟨S_, .i32⟩
  | 109 => ⟨S64x64, .i32⟩
  | 110 => ⟨S64x64, .i32⟩
  | 111 => ⟨S64x64, .i32⟩
  | 112 => ⟨S64x64, .i1⟩
  | 113 => ⟨S_, .i1⟩
  | 114 => ⟨S64x64, .i1⟩
  | 115 => ⟨S64x64, .i1⟩
  | 116 => ⟨S_, .f32⟩
  | 117 => ⟨S_, .f32⟩
  | 118 => ⟨S32x4x4x64x64, .i1⟩
  | 119 => ⟨S32x4x4x64x64, .f32⟩
  | 120 => ⟨S32x4x4x64x64, .f32⟩
  | 121 => ⟨S32x4x4x64x128, .f32⟩
  | 122 => ⟨S32x4x4x1x128, .f32⟩
  | 123 => ⟨S32x4x4x64x128, .f32⟩
  | 124 => ⟨S32x4x4x64x128, .f32⟩
  | 125 => ⟨S32x4x4x64x128, .f32⟩
  | 126 => ⟨S32x4x4x64x128, .f32⟩
  | 127 => ⟨S32x4x4x128x128, .f32⟩
  | _ => ⟨S10240x3328, .bf16⟩

abbrev hbmTy0_1 (i : Nat) : BufTy := match i % 128 with
  | 0 => ⟨S32x4x4x128, .f32⟩
  | 1 => ⟨S32x4x4x128, .f32⟩
  | 2 => ⟨S32x4x1x128, .f32⟩
  | 3 => ⟨S32x4x128, .f32⟩
  | 4 => ⟨S32x4x128x1, .f32⟩
  | 5 => ⟨S32x4x128x128, .f32⟩
  | 6 => ⟨S32x4x128x128, .f32⟩
  | 7 => ⟨S32x4x1x128x128, .f32⟩
  | 8 => ⟨S32x4x128x128, .f32⟩
  | 9 => ⟨S32x4x128x128, .f32⟩
  | 10 => ⟨S32x4x1x128, .f32⟩
  | 11 => ⟨S32x4x128, .f32⟩
  | 12 => ⟨S32x4x128x1, .f32⟩
  | 13 => ⟨S32x4x128x128, .f32⟩
  | 14 => ⟨S32x4x128x128, .f32⟩
  | 15 => ⟨S32x4x1x128x128, .f32⟩
  | 16 => ⟨S32x4x128x128, .f32⟩
  | 17 => ⟨S32x4x128x128, .f32⟩
  | 18 => ⟨S32x4x1x128, .f32⟩
  | 19 => ⟨S32x4x128, .f32⟩
  | 20 => ⟨S32x4x128x1, .f32⟩
  | 21 => ⟨S32x4x128x128, .f32⟩
  | 22 => ⟨S32x4x128x128, .f32⟩
  | 23 => ⟨S32x4x1x128x128, .f32⟩
  | 24 => ⟨S32x4x128x128, .f32⟩
  | 25 => ⟨S32x4x128x128, .f32⟩
  | 26 => ⟨S32x4x1x128, .f32⟩
  | 27 => ⟨S32x4x128, .f32⟩
  | 28 => ⟨S32x4x128x1, .f32⟩
  | 29 => ⟨S32x4x128x128, .f32⟩
  | 30 => ⟨S32x4x128x128, .f32⟩
  | 31 => ⟨S32x4x1x128x128, .f32⟩
  | 32 => ⟨S32x4x128x128, .f32⟩
  | 33 => ⟨S32x4x128x128, .f32⟩
  | 34 => ⟨S32x4x4x64x128, .f32⟩
  | 35 => ⟨S32x4x4x64x128, .f32⟩
  | 36 => ⟨S32x4x1x128x128, .f32⟩
  | 37 => ⟨S32x4x1x128x128, .f32⟩
  | 38 => ⟨S32x4x1x128x128, .f32⟩
  | 39 => ⟨S32x4x1x128x128, .f32⟩
  | 40 => ⟨S32x4x4x128x128, .f32⟩
  | 41 => ⟨S32x4x4x64x128, .f32⟩
  | 42 => ⟨S32x4x4x64x128, .f32⟩
  | 43 => ⟨S32x4x256x128, .f32⟩
  | 44 => ⟨S32x4x256x128, .f32⟩
  | 45 => ⟨S32x4x256x128, .f32⟩
  | 46 => ⟨S32x4x256x128, .f32⟩
  | 47 => ⟨S32x1x4x128x128, .f32⟩
  | 48 => ⟨S32x4x128x128, .f32⟩
  | 49 => ⟨S32x4x256x128, .f32⟩
  | 50 => ⟨S32x4x256x128, .f32⟩
  | 51 => ⟨S32x4x4x64x128, .f32⟩
  | 52 => ⟨S32x4x4x64x128, .f32⟩
  | 53 => ⟨S32x4x4x64x128, .f32⟩
  | 54 => ⟨S32x4x4x64x128, .f32⟩
  | 55 => ⟨S_, .f32⟩
  | 56 => ⟨S_, .f32⟩
  | 57 => ⟨S32x4x4x64x128, .f32⟩
  | 58 => ⟨S32x4x4x1x128, .f32⟩
  | 59 => ⟨S32x4x4x64x128, .f32⟩
  | 60 => ⟨S32x4x4x64x128, .f32⟩
  | 61 => ⟨S32x4x4x64x128, .f32⟩
  | 62 => ⟨S32x4x4x64x128, .f32⟩
  | 63 => ⟨S32x4x4x64x128, .f32⟩
  | 64 => ⟨S32x4x4x64x128, .f32⟩
  | 65 => ⟨S32x4x4x64x128, .f32⟩
  | 66 => ⟨S32x4x4x64x128, .f32⟩
  | 67 => ⟨S32x4x4x64x64, .f32⟩
  | 68 => ⟨S_, .i1⟩
  | 69 => ⟨S64x64, .i1⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .i1⟩
  | 77 => ⟨S64x64, .i1⟩
  | 78 => ⟨S64x64, .i1⟩
  | 79 => ⟨S_, .f32⟩
  | 80 => ⟨S_, .f32⟩
  | 81 => ⟨S32x4x4x64x64, .i1⟩
  | 82 => ⟨S32x4x4x64x64, .f32⟩
  | 83 => ⟨S32x4x4x64x64, .f32⟩
  | 84 => ⟨S32x4x4x64x128, .f32⟩
  | 85 => ⟨S32x4x4x1x128, .f32⟩
  | 86 => ⟨S32x4x4x64x128, .f32⟩
  | 87 => ⟨S32x4x4x64x128, .f32⟩
  | 88 => ⟨S32x4x4x64x128, .f32⟩
  | 89 => ⟨S32x4x4x64x128, .f32⟩
  | 90 => ⟨S32x4x4x128x128, .f32⟩
  | 91 => ⟨S32x4x4x128, .f32⟩
  | 92 => ⟨S32x4x4x128, .f32⟩
  | 93 => ⟨S32x4x1x128, .f32⟩
  | 94 => ⟨S32x4x128, .f32⟩
  | 95 => ⟨S32x4x128x1, .f32⟩
  | 96 => ⟨S32x4x128x128, .f32⟩
  | 97 => ⟨S32x4x128x128, .f32⟩
  | 98 => ⟨S32x4x1x128x128, .f32⟩
  | 99 => ⟨S32x4x128x128, .f32⟩
  | 100 => ⟨S32x4x128x128, .f32⟩
  | 101 => ⟨S32x4x1x128, .f32⟩
  | 102 => ⟨S32x4x128, .f32⟩
  | 103 => ⟨S32x4x128x1, .f32⟩
  | 104 => ⟨S32x4x128x128, .f32⟩
  | 105 => ⟨S32x4x128x128, .f32⟩
  | 106 => ⟨S32x4x1x128x128, .f32⟩
  | 107 => ⟨S32x4x128x128, .f32⟩
  | 108 => ⟨S32x4x128x128, .f32⟩
  | 109 => ⟨S32x4x1x128, .f32⟩
  | 110 => ⟨S32x4x128, .f32⟩
  | 111 => ⟨S32x4x128x1, .f32⟩
  | 112 => ⟨S32x4x128x128, .f32⟩
  | 113 => ⟨S32x4x128x128, .f32⟩
  | 114 => ⟨S32x4x1x128x128, .f32⟩
  | 115 => ⟨S32x4x128x128, .f32⟩
  | 116 => ⟨S32x4x128x128, .f32⟩
  | 117 => ⟨S32x4x1x128, .f32⟩
  | 118 => ⟨S32x4x128, .f32⟩
  | 119 => ⟨S32x4x128x1, .f32⟩
  | 120 => ⟨S32x4x128x128, .f32⟩
  | 121 => ⟨S32x4x128x128, .f32⟩
  | 122 => ⟨S32x4x1x128x128, .f32⟩
  | 123 => ⟨S32x4x128x128, .f32⟩
  | 124 => ⟨S32x4x128x128, .f32⟩
  | 125 => ⟨S32x4x4x64x128, .f32⟩
  | 126 => ⟨S32x4x4x64x128, .f32⟩
  | 127 => ⟨S32x4x1x128x128, .f32⟩
  | _ => ⟨S10240x3328, .bf16⟩

abbrev hbmTy0_2 (i : Nat) : BufTy := match i % 128 with
  | 0 => ⟨S32x4x1x128x128, .f32⟩
  | 1 => ⟨S32x4x1x128x128, .f32⟩
  | 2 => ⟨S32x4x1x128x128, .f32⟩
  | 3 => ⟨S32x4x4x128x128, .f32⟩
  | 4 => ⟨S32x4x4x64x128, .f32⟩
  | 5 => ⟨S32x4x4x64x128, .f32⟩
  | 6 => ⟨S32x4x256x128, .f32⟩
  | 7 => ⟨S32x4x256x128, .f32⟩
  | 8 => ⟨S32x4x256x128, .f32⟩
  | 9 => ⟨S32x256x4x128, .f32⟩
  | 10 => ⟨S32x256x4x128, .f32⟩
  | 11 => ⟨S_, .f32⟩
  | 12 => ⟨S32x256x4, .f32⟩
  | 13 => ⟨S32x256x4x1, .f32⟩
  | 14 => ⟨S_, .f32⟩
  | 15 => ⟨S32x256x4x1, .f32⟩
  | 16 => ⟨S32x256x4x1, .f32⟩
  | 17 => ⟨S_, .f32⟩
  | 18 => ⟨S32x256x4x1, .f32⟩
  | 19 => ⟨S32x256x4x1, .f32⟩
  | 20 => ⟨S32x256x4x1, .f32⟩
  | 21 => ⟨S32x256x4x128, .f32⟩
  | 22 => ⟨S32x256x4x128, .f32⟩
  | 23 => ⟨S512, .f32⟩
  | 24 => ⟨S4x128, .f32⟩
  | 25 => ⟨S1x1x4x128, .f32⟩
  | 26 => ⟨S32x256x4x128, .f32⟩
  | 27 => ⟨S32x256x4x128, .f32⟩
  | 28 => ⟨S32x256x512, .f32⟩
  | 29 => ⟨S32x256x512, .f32⟩
  | 30 => ⟨S32x256x512, .f32⟩
  | 31 => ⟨S_, .f32⟩
  | 32 => ⟨S32x256x512, .f32⟩
  | 33 => ⟨S32x256x512, .f32⟩
  | 34 => ⟨S_, .f32⟩
  | 35 => ⟨S32x256x512, .f32⟩
  | 36 => ⟨S32x256x512, .f32⟩
  | 37 => ⟨S32x256x512, .f32⟩
  | 38 => ⟨S32x256x512, .f32⟩
  | 39 => ⟨S8192x512, .f32⟩
  | 40 => ⟨S8192x512, .bf16⟩
  | 41 => ⟨S32x1x4x128x128, .f32⟩
  | 42 => ⟨S32x1x4x128x128, .f32⟩
  | 43 => ⟨S32x2x4x128x128, .f32⟩
  | 44 => ⟨S32x1x2x4x128x128, .f32⟩
  | _ => ⟨S10240x3328, .bf16⟩

abbrev hbmTy (i : Nat) : BufTy := match i / 128 with
  | 0 => hbmTy0_0 i
  | 1 => hbmTy0_1 i
  | 2 => hbmTy0_2 i
  | _ => ⟨S10240x3328, .bf16⟩

abbrev bufTy : (tb : Table) → Fin (tcTables nBuf tb) → BufTy
  | .hbm, ⟨i, _⟩ => hbmTy i
  | _, _ => ⟨S10240x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_8 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_call1_call0_cst : Ref sig .tc := ⟨.hbm, 92, rfl⟩
abbrev main_call1_call0_v0 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_c : Ref sig .tc := ⟨.hbm, 105, rfl⟩
abbrev main_v88 : Ref sig .tc := ⟨.hbm, 106, rfl⟩
abbrev main_call2_v0 : Ref sig .tc := ⟨.hbm, 107, rfl⟩
abbrev main_call2_c : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_c_0 : Ref sig .tc := ⟨.hbm, 113, rfl⟩
abbrev main_call2_v5 : Ref sig .tc := ⟨.hbm, 114, rfl⟩
abbrev main_v89 : Ref sig .tc := ⟨.hbm, 115, rfl⟩
abbrev main_cst_9 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_call4_call0_cst : Ref sig .tc := ⟨.hbm, 183, rfl⟩
abbrev main_call4_call0_v0 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_c_10 : Ref sig .tc := ⟨.hbm, 196, rfl⟩
abbrev main_v164 : Ref sig .tc := ⟨.hbm, 197, rfl⟩
abbrev main_call5_v0 : Ref sig .tc := ⟨.hbm, 198, rfl⟩
abbrev main_call5_c : Ref sig .tc := ⟨.hbm, 199, rfl⟩
abbrev main_call5_v1 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_call5_c_0 : Ref sig .tc := ⟨.hbm, 204, rfl⟩
abbrev main_call5_v5 : Ref sig .tc := ⟨.hbm, 205, rfl⟩
abbrev main_v165 : Ref sig .tc := ⟨.hbm, 206, rfl⟩
abbrev main_cst_11 : Ref sig .tc := ⟨.hbm, 207, rfl⟩
abbrev main_call6_v0 : Ref sig .tc := ⟨.hbm, 208, rfl⟩
abbrev main_call6_v1 : Ref sig .tc := ⟨.hbm, 209, rfl⟩
abbrev main_call6_v2 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_cst_12 : Ref sig .tc := ⟨.hbm, 267, rfl⟩
abbrev main_v222 : Ref sig .tc := ⟨.hbm, 268, rfl⟩
abbrev main_v223 : Ref sig .tc := ⟨.hbm, 269, rfl⟩
abbrev main_cst_13 : Ref sig .tc := ⟨.hbm, 270, rfl⟩
abbrev main_v224 : Ref sig .tc := ⟨.hbm, 271, rfl⟩
abbrev main_v225 : Ref sig .tc := ⟨.hbm, 272, rfl⟩
abbrev main_cst_14 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_call7_v0 : Ref sig .tc := ⟨.hbm, 285, rfl⟩
abbrev main_call7_v1 : Ref sig .tc := ⟨.hbm, 286, rfl⟩
abbrev main_call7_cst : Ref sig .tc := ⟨.hbm, 287, rfl⟩
abbrev main_call7_v2 : Ref sig .tc := ⟨.hbm, 288, rfl⟩
abbrev main_call7_v3 : Ref sig .tc := ⟨.hbm, 289, rfl⟩
abbrev main_call7_cst_0 : Ref sig .tc := ⟨.hbm, 290, rfl⟩
abbrev main_call7_v4 : Ref sig .tc := ⟨.hbm, 291, rfl⟩
abbrev main_call7_v5 : Ref sig .tc := ⟨.hbm, 292, rfl⟩
abbrev main_v237 : Ref sig .tc := ⟨.hbm, 293, rfl⟩
abbrev main_v238 : Ref sig .tc := ⟨.hbm, 294, rfl⟩
abbrev main_v239 : Ref sig .tc := ⟨.hbm, 295, rfl⟩
abbrev main_v240 : Ref sig .tc := ⟨.hbm, 296, rfl⟩
abbrev main_v241 : Ref sig .tc := ⟨.hbm, 297, rfl⟩
abbrev main_v242 : Ref sig .tc := ⟨.hbm, 298, rfl⟩
abbrev main_v243 : Ref sig .tc := ⟨.hbm, 299, rfl⟩
abbrev main_v244 : Ref sig .tc := ⟨.hbm, 300, rfl⟩

abbrev nD : Nat := 1
abbrev τ : Topo := Topo.v7x

variable {F : FTy → Type} [FloatOps F]
-- ==== Kernel2.lean ====
abbrev S10240x1024 : Shape := ⟨2, ![10240, 1024]⟩
abbrev S10240x16 : Shape := ⟨2, ![10240, 16]⟩
abbrev S2x16x1024x512 : Shape := ⟨4, ![2, 16, 1024, 512]⟩
abbrev S2x16x512x1024 : Shape := ⟨4, ![2, 16, 512, 1024]⟩
abbrev S8x6x1024 : Shape := ⟨3, ![8, 6, 1024]⟩
abbrev S512x1024 : Shape := ⟨2, ![512, 1024]⟩
abbrev S512x16 : Shape := ⟨2, ![512, 16]⟩
abbrev S1x1x1024x512 : Shape := ⟨4, ![1, 1, 1024, 512]⟩
abbrev S1x1x512x1024 : Shape := ⟨4, ![1, 1, 512, 1024]⟩
abbrev S1x6x1024 : Shape := ⟨3, ![1, 6, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩

abbrev nBuf : Space → Nat
  | .hbm => 8
  | .vmem => 17
  | .smem => 0
  | _ => 0

abbrev bufTy : (tb : Table) → Fin (tcTables nBuf tb) → BufTy
  | .hbm, ⟨0, _⟩ => ⟨S10240x1024, .bf16⟩
  | .hbm, ⟨1, _⟩ => ⟨S10240x16, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S10240x1024, .f32⟩
  | .hbm, ⟨6, _⟩ => ⟨S8x6x1024, .f32⟩
  | .hbm, ⟨7, _⟩ => ⟨S10240x1024, .f32⟩
  | .local _ .vmem, ⟨0, _⟩ => ⟨S512x1024, .bf16⟩
  | .local _ .vmem, ⟨1, _⟩ => ⟨S512x1024, .bf16⟩
  | .local _ .vmem, ⟨2, _⟩ => ⟨S512x16, .f32⟩
  | .local _ .vmem, ⟨3, _⟩ => ⟨S512x16, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x1024x512, .f32⟩
  | .local _ .vmem, ⟨7, _⟩ => ⟨S1x1x1024x512, .f32⟩
  | .local _ .vmem, ⟨8, _⟩ => ⟨S1x1x512x1024, .f32⟩
  | .local _ .vmem, ⟨9, _⟩ => ⟨S1x1x512x1024, .f32⟩
  | .local _ .vmem, ⟨10, _⟩ => ⟨S512x1024, .f32⟩
  | .local _ .vmem, ⟨11, _⟩ => ⟨S512x1024, .f32⟩
  | .local _ .vmem, ⟨12, _⟩ => ⟨S1x6x1024, .f32⟩
  | .local _ .vmem, ⟨13, _⟩ => ⟨S1x6x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![20, 16], ![false, false]⟩

def k0_cond2 (i : grid0.Coords) : BitVec 1 :=
  let arg1 : BitVec 32 := BitVec.ofNat 32 (i 1).val
  let c15_i32 : BitVec 32 := 15#32
  let v35 : BitVec 1 := Scalar.cmpi .eq arg1 c15_i32
  let v36 : BitVec 32 := Scalar.extui v35
  let c0_i32_24 : BitVec 32 := 0#32
  let v37 : BitVec 1 := Scalar.cmpi .ne v36 c0_i32_24
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S10240x1024 : Shape := ⟨2, ![10240, 1024]⟩
abbrev S10240x16 : Shape := ⟨2, ![10240, 16]⟩
abbrev S2x16x1024x512 : Shape := ⟨4, ![2, 16, 1024, 512]⟩
abbrev S2x16x512x1024 : Shape := ⟨4, ![2, 16, 512, 1024]⟩
abbrev S8x6x1024 : Shape := ⟨3, ![8, 6, 1024]⟩
abbrev S1x16x1024x512 : Shape := ⟨4, ![1, 16, 1024, 512]⟩
abbrev S16x1024x512 : Shape := ⟨3, ![16, 1024, 512]⟩
abbrev S16x512x10240 : Shape := ⟨3, ![16, 512, 10240]⟩
abbrev S16x10240x512 : Shape := ⟨3, ![16, 10240, 512]⟩
abbrev S_ : Shape := ⟨0, ![]⟩
abbrev S16x10240 : Shape := ⟨2, ![16, 10240]⟩
abbrev S16x10240x1 : Shape := ⟨3, ![16, 10240, 1]⟩
abbrev S1x16x512x1024 : Shape := ⟨4, ![1, 16, 512, 1024]⟩
abbrev S16x512x1024 : Shape := ⟨3, ![16, 512, 1024]⟩
abbrev S8x1x1024 : Shape := ⟨3, ![8, 1, 1024]⟩
abbrev S8x1024 : Shape := ⟨2, ![8, 1024]⟩
abbrev S8192x1024 : Shape := ⟨2, ![8192, 1024]⟩
abbrev S1x1024 : Shape := ⟨2, ![1, 1024]⟩
abbrev S1024 : Shape := ⟨1, ![1024]⟩
abbrev S2048x1024 : Shape := ⟨2, ![2048, 1024]⟩
abbrev S2x1024x1024 : Shape := ⟨3, ![2, 1024, 1024]⟩
abbrev S2x1024 : Shape := ⟨2, ![2, 1024]⟩
abbrev S2x1x1024 : Shape := ⟨3, ![2, 1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S10240x16, .f32⟩
  | .hbm, ⟨2, _⟩ => ⟨S2x16x1024x512, .f32⟩
  | .hbm, ⟨3, _⟩ => ⟨S2x16x1024x512, .f32⟩
  | .hbm, ⟨4, _⟩ => ⟨S2x16x512x1024, .f32⟩
  | .hbm, ⟨5, _⟩ => ⟨S10240x1024, .f32⟩
  | .hbm, ⟨6, _⟩ => ⟨S8x6x1024, .f32⟩
  | .hbm, ⟨7, _⟩ => ⟨S10240x1024, .f32⟩
  | .hbm, ⟨8, _⟩ => ⟨S1x16x1024x512, .f32⟩
  | .hbm, ⟨9, _⟩ => ⟨S16x1024x512, .f32⟩
  | .hbm, ⟨10, _⟩ => ⟨S16x512x10240, .f32⟩
  | .hbm, ⟨11, _⟩ => ⟨S16x10240x512, .f32⟩
  | .hbm, ⟨12, _⟩ => ⟨S1x16x1024x512, .f32⟩
  | .hbm, ⟨13, _⟩ => ⟨S16x1024x512, .f32⟩
  | .hbm, ⟨14, _⟩ => ⟨S16x512x10240, .f32⟩
  | .hbm, ⟨15, _⟩ => ⟨S16x10240x512, .f32⟩
  | .hbm, ⟨16, _⟩ => ⟨S16x10240x512, .f32⟩
  | .hbm, ⟨17, _⟩ => ⟨S16x10240x512, .f32⟩
  | .hbm, ⟨18, _⟩ => ⟨S_, .f32⟩
  | .hbm, ⟨19, _⟩ => ⟨S16x10240x512, .f32⟩
  | .hbm, ⟨20, _⟩ => ⟨S16x10240x512, .f32⟩
  | .hbm, ⟨21, _⟩ => ⟨S_, .f32⟩
  | .hbm, ⟨22, _⟩ => ⟨S16x10240x512, .f32⟩
  | .hbm, ⟨23, _⟩ => ⟨S16x10240x512, .f32⟩
  | .hbm, ⟨24, _⟩ => ⟨S16x10240x512, .f32⟩
  | .hbm, ⟨25, _⟩ => ⟨S16x10240x512, .f32⟩
  | .hbm, ⟨26, _⟩ => ⟨S16x10240, .f32⟩
  | .hbm, ⟨27, _⟩ => ⟨S16x10240x1, .f32⟩
  | .hbm, ⟨28, _⟩ => ⟨S16x10240x512, .f32⟩
  | .hbm, ⟨29, _⟩ => ⟨S16x10240x512, .f32⟩
  | .hbm, ⟨30, _⟩ => ⟨S1x16x512x1024, .f32⟩
  | .hbm, ⟨31, _⟩ => ⟨S16x512x1024, .f32⟩
  | .hbm, ⟨32, _⟩ => ⟨S10240x1024, .f32⟩
  | .hbm, ⟨33, _⟩ => ⟨S8x1x1024, .f32⟩
  | .hbm, ⟨34, _⟩ => ⟨S8x1024, .f32⟩
  | .hbm, ⟨35, _⟩ => ⟨S8192x1024, .f32⟩
  | .hbm, ⟨36, _⟩ => ⟨S1x1024, .f32⟩
  | .hbm, ⟨37, _⟩ => ⟨S1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S2048x1024, .f32⟩
  | .hbm, ⟨44, _⟩ => ⟨S2x1024x1024, .f32⟩
  | .hbm, ⟨45, _⟩ => ⟨S2x1024, .f32⟩
  | .hbm, ⟨46, _⟩ => ⟨S2x1x1024, .f32⟩
  | .hbm, ⟨47, _⟩ => ⟨S2048x1024, .f32⟩
  | .hbm, ⟨48, _⟩ => ⟨S2x1024x1024, .f32⟩
  | .hbm, ⟨49, _⟩ => ⟨S2x1024x1024, .f32⟩
  | .hbm, ⟨50, _⟩ => ⟨S2x1024x1024, .f32⟩
  | .hbm, ⟨51, _⟩ => ⟨S2x1024x1024, .f32⟩
  | .hbm, ⟨52, _⟩ => ⟨S2048x1024, .f32⟩
  | .hbm, ⟨53, _⟩ => ⟨S10240x1024, .f32⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel3.lean ====
abbrev S8192x1024 : Shape := ⟨2, ![8192, 1024]⟩
abbrev S2048x1024 : Shape := ⟨2, ![2048, 1024]⟩
abbrev S2x2x1024 : Shape := ⟨3, ![2, 2, 1024]⟩
abbrev S2x8x6x1024 : Shape := ⟨4, ![2, 8, 6, 1024]⟩
abbrev S1x1024x3328 : Shape := ⟨3, ![1, 1024, 3328]⟩
abbrev S1x1x1024 : Shape := ⟨3, ![1, 1, 1024]⟩
abbrev S1024 : Shape := ⟨1, ![1024]⟩
abbrev S1x8x6x1024 : Shape := ⟨4, ![1, 8, 6, 1024]⟩
abbrev S8x6x1024 : Shape := ⟨3, ![8, 6, 1024]⟩
abbrev S1024x3328 : Shape := ⟨2, ![1024, 3328]⟩
abbrev S1x1024 : Shape := ⟨2, ![1, 1024]⟩
abbrev S10240x3328 : Shape := ⟨2, ![10240, 3328]⟩
abbrev S512x1024 : Shape := ⟨2, ![512, 1024]⟩
abbrev S1x6x1024 : Shape := ⟨3, ![1, 6, 1024]⟩
abbrev S512x3328 : Shape := ⟨2, ![512, 3328]⟩
abbrev S2x256x1024 : Shape := ⟨3, ![2, 256, 1024]⟩
abbrev S256x1024 : Shape := ⟨2, ![256, 1024]⟩
abbrev S6x1024 : Shape := ⟨2, ![6, 1024]⟩
abbrev S256 : Shape := ⟨1, ![256]⟩
abbrev S256x1 : Shape := ⟨2, ![256, 1]⟩
abbrev S1x256x1024 : Shape := ⟨3, ![1, 256, 1024]⟩
abbrev S256x3328 : Shape := ⟨2, ![256, 3328]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2x2x1024, .f32⟩
  | .hbm, ⟨3, _⟩ => ⟨S2x8x6x1024, .f32⟩
  | .hbm, ⟨4, _⟩ => ⟨S1x1024x3328, .f32⟩
  | .hbm, ⟨5, _⟩ => ⟨S1x1x1024, .f32⟩
  | .hbm, ⟨6, _⟩ => ⟨S1024, .f32⟩
  | .hbm, ⟨7, _⟩ => ⟨S1x8x6x1024, .f32⟩
  | .hbm, ⟨8, _⟩ => ⟨S8x6x1024, .f32⟩
  | .hbm, ⟨9, _⟩ => ⟨S1024x3328, .f32⟩
  | .hbm, ⟨10, _⟩ => ⟨S1x1024, .f32⟩
  | .hbm, ⟨11, _⟩ => ⟨S10240x3328, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x6x1024, .f32⟩
  | .local _ .vmem, ⟨6, _⟩ => ⟨S1x6x1024, .f32⟩
  | .local _ .vmem, ⟨7, _⟩ => ⟨S1024x3328, .f32⟩
  | .local _ .vmem, ⟨8, _⟩ => ⟨S512x3328, .bf16⟩
  | .local _ .vmem, ⟨9, _⟩ => ⟨S512x3328, .bf16⟩
  | .local _ .vmem, ⟨10, _⟩ => ⟨S1024x3328, .bf16⟩
  | .local _ .vmem, ⟨11, _⟩ => ⟨S2x256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3328 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3328 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x1024 : Shape := ⟨2, ![8192, 1024]⟩
abbrev S2048x1024 : Shape := ⟨2, ![2048, 1024]⟩
abbrev S2x2x1024 : Shape := ⟨3, ![2, 2, 1024]⟩
abbrev S2x8x6x1024 : Shape := ⟨4, ![2, 8, 6, 1024]⟩
abbrev S1x1024x3328 : Shape := ⟨3, ![1, 1024, 3328]⟩
abbrev S1x8x1x1024 : Shape := ⟨4, ![1, 8, 1, 1024]⟩
abbrev S8x1024 : Shape := ⟨2, ![8, 1024]⟩
abbrev S1x1x1024 : Shape := ⟨3, ![1, 1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2x1024x1024 : Shape := ⟨3, ![2, 1024, 1024]⟩
abbrev S2x1024 : Shape := ⟨2, ![2, 1024]⟩
abbrev S2x1024x1 : Shape := ⟨3, ![2, 1024, 1]⟩
abbrev S2x1x1024 : Shape := ⟨3, ![2, 1, 1024]⟩
abbrev S10240x1024 : Shape := ⟨2, ![10240, 1024]⟩
abbrev S1024x3328 : Shape := ⟨2, ![1024, 3328]⟩
abbrev S10240x3328 : Shape := ⟨2, ![10240, 3328]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2048x1024, .f32⟩
  | .hbm, ⟨2, _⟩ => ⟨S2x2x1024, .f32⟩
  | .hbm, ⟨3, _⟩ => ⟨S2x8x6x1024, .f32⟩
  | .hbm, ⟨4, _⟩ => ⟨S1x1024x3328, .f32⟩
  | .hbm, ⟨5, _⟩ => ⟨S1x8x1x1024, .f32⟩
  | .hbm, ⟨6, _⟩ => ⟨S8x1024, .f32⟩
  | .hbm, ⟨7, _⟩ => ⟨S1x8x1x1024, .f32⟩
  | .hbm, ⟨8, _⟩ => ⟨S8x1024, .f32⟩
  | .hbm, ⟨9, _⟩ => ⟨S1x1x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S2x1024x1024, .f32⟩
  | .hbm, ⟨41, _⟩ => ⟨S1x1x1024, .f32⟩
  | .hbm, ⟨42, _⟩ => ⟨S1024, .f32⟩
  | .hbm, ⟨43, _⟩ => ⟨S2x1024x1024, .f32⟩
  | .hbm, ⟨44, _⟩ => ⟨S_, .f32⟩
  | .hbm, ⟨45, _⟩ => ⟨S2x1024, .f32⟩
  | .hbm, ⟨46, _⟩ => ⟨S2x1024x1, .f32⟩
  | .hbm, ⟨47, _⟩ => ⟨S_, .f32⟩
  | .hbm, ⟨48, _⟩ => ⟨S2x1024x1, .f32⟩
  | .hbm, ⟨49, _⟩ => ⟨S2x1024x1, .f32⟩
  | .hbm, ⟨50, _⟩ => ⟨S_, .f32⟩
  | .hbm, ⟨51, _⟩ => ⟨S2x1024x1, .f32⟩
  | .hbm, ⟨52, _⟩ => ⟨S2x1024x1, .f32⟩
  | .hbm, ⟨53, _⟩ => ⟨S2x1024x1, .f32⟩
  | .hbm, ⟨54, _⟩ => ⟨S2x1024x1024, .f32⟩
  | .hbm, ⟨55, _⟩ => ⟨S2x1024x1024, .f32⟩
  | .hbm, ⟨56, _⟩ => ⟨S1x1x1024, .f32⟩
  | .hbm, ⟨57, _⟩ => ⟨S2x1024x1024, .f32⟩
  | .hbm, ⟨58, _⟩ => ⟨S2x1024x1024, .f32⟩
  | .hbm, ⟨59, _⟩ => ⟨S2x1024, .f32⟩
  | .hbm, ⟨60, _⟩ => ⟨S2x1x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x1024x1024, .f32⟩
  | .hbm, ⟨65, _⟩ => ⟨S2x1024x1024, .f32⟩
  | .hbm, ⟨66, _⟩ => ⟨S2x1024, .f32⟩
  | .hbm, ⟨67, _⟩ => ⟨S2x1x1024, .f32⟩
  | .hbm, ⟨68, _⟩ => ⟨S2x1024x1024, .f32⟩
  | .hbm, ⟨69, _⟩ => ⟨S2x1024x1024, .f32⟩
  | .hbm, ⟨70, _⟩ => ⟨S2048x1024, .f32⟩
  | .hbm, ⟨71, _⟩ => ⟨S10240x1024, .f32⟩
  | .hbm, ⟨72, _⟩ => ⟨S1024x3328, .f32⟩
  | .hbm, ⟨73, _⟩ => ⟨S10240x3328, .f32⟩
  | .hbm, ⟨74, _⟩ => ⟨S10240x3328, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Kernel4.lean ====
abbrev S10240x1024 : Shape := ⟨2, ![10240, 1024]⟩
abbrev S10240x512 : Shape := ⟨2, ![10240, 512]⟩
abbrev S10240x2 : Shape := ⟨2, ![10240, 2]⟩
abbrev S2x8x6x1024 : Shape := ⟨4, ![2, 8, 6, 1024]⟩
abbrev S2x2x1024 : Shape := ⟨3, ![2, 2, 1024]⟩
abbrev S1x1024x3072 : Shape := ⟨3, ![1, 1024, 3072]⟩
abbrev S1x3072 : Shape := ⟨2, ![1, 3072]⟩
abbrev S1x8x6x1024 : Shape := ⟨4, ![1, 8, 6, 1024]⟩
abbrev S8x6x1024 : Shape := ⟨3, ![8, 6, 1024]⟩
abbrev S1x1x1024 : Shape := ⟨3, ![1, 1, 1024]⟩
abbrev S1024 : Shape := ⟨1, ![1024]⟩
abbrev S1024x3072 : Shape := ⟨2, ![1024, 3072]⟩
abbrev S3072 : Shape := ⟨1, ![3072]⟩
abbrev S1x1024 : Shape := ⟨2, ![1, 1024]⟩
abbrev S10240x3072 : Shape := ⟨2, ![10240, 3072]⟩
abbrev S512x1024 : Shape := ⟨2, ![512, 1024]⟩
abbrev S512x512 : Shape := ⟨2, ![512, 512]⟩
abbrev S512x2 : Shape := ⟨2, ![512, 2]⟩
abbrev S1x6x1024 : Shape := ⟨3, ![1, 6, 1024]⟩
abbrev S512x3072 : Shape := ⟨2, ![512, 3072]⟩
abbrev S2x256x1024 : Shape := ⟨3, ![2, 256, 1024]⟩
abbrev S256x2 : Shape := ⟨2, ![256, 2]⟩
abbrev S256x1 : Shape := ⟨2, ![256, 1]⟩
abbrev S256x512 : Shape := ⟨2, ![256, 512]⟩
abbrev S256x1024 : Shape := ⟨2, ![256, 1024]⟩
abbrev S6x1024 : Shape := ⟨2, ![6, 1024]⟩
abbrev S256 : Shape := ⟨1, ![256]⟩
abbrev S1x256x1024 : Shape := ⟨3, ![1, 256, 1024]⟩
abbrev S256x3072 : Shape := ⟨2, ![256, 3072]⟩

abbrev nBuf : Space → Nat
  | .hbm => 20
  | .vmem => 21
  | .smem => 0
  | _ => 0

abbrev bufTy : (tb : Table) → Fin (tcTables nBuf tb) → BufTy
  | .hbm, ⟨0, _⟩ => ⟨S10240x1024, .f32⟩
  | .hbm, ⟨1, _⟩ => ⟨S10240x512, .i32⟩
  | .hbm, ⟨2, _⟩ => ⟨S10240x512, .i32⟩
  | .hbm, ⟨3, _⟩ => ⟨S10240x2, .f32⟩
  | .hbm, ⟨4, _⟩ => ⟨S2x8x6x1024, .f32⟩
  | .hbm, ⟨5, _⟩ => ⟨S2x2x1024, .f32⟩
  | .hbm, ⟨6, _⟩ => ⟨S1x1024x3072, .f32⟩
  | .hbm, ⟨7, _⟩ => ⟨S1x3072, .f32⟩
  | .hbm, ⟨8, _⟩ => ⟨S1x8x6x1024, .f32⟩
  | .hbm, ⟨9, _⟩ => ⟨S8x6x1024, .f32⟩
  | .hbm, ⟨10, _⟩ => ⟨S1x1x1024, .f32⟩
  | .hbm, ⟨11, _⟩ => ⟨S1024, .f32⟩
  | .hbm, ⟨12, _⟩ => ⟨S1x8x6x1024, .f32⟩
  | .hbm, ⟨13, _⟩ => ⟨S8x6x1024, .f32⟩
  | .hbm, ⟨14, _⟩ => ⟨S1024x3072, .f32⟩
  | .hbm, ⟨15, _⟩ => ⟨S3072, .f32⟩
  | .hbm, ⟨16, _⟩ => ⟨S1x1024, .f32⟩
  | .hbm, ⟨17, _⟩ => ⟨S1x3072, .f32⟩
  | .hbm, ⟨18, _⟩ => ⟨S10240x1024, .f32⟩
  | .hbm, ⟨19, _⟩ => ⟨S10240x3072, .bf16⟩
  | .local _ .vmem, ⟨0, _⟩ => ⟨S512x1024, .f32⟩
  | .local _ .vmem, ⟨1, _⟩ => ⟨S512x1024, .f32⟩
  | .local _ .vmem, ⟨2, _⟩ => ⟨S512x512, .i32⟩
  | .local _ .vmem, ⟨3, _⟩ => ⟨S512x512, .i32⟩
  | .local _ .vmem, ⟨4, _⟩ => ⟨S512x512, .i32⟩
  | .local _ .vmem, ⟨5, _⟩ => ⟨S512x512, .i32⟩
  | .local _ .vmem, ⟨6, _⟩ => ⟨S512x2, .f32⟩
  | .local _ .vmem, ⟨7, _⟩ => ⟨S512x2, .f32⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1x6x1024, .f32⟩
  | .local _ .vmem, ⟨12, _⟩ => ⟨S1x6x1024, .f32⟩
  | .local _ .vmem, ⟨13, _⟩ => ⟨S1024x3072, .f32⟩
  | .local _ .vmem, ⟨14, _⟩ => ⟨S1x3072, .f32⟩
  | .local _ .vmem, ⟨15, _⟩ => ⟨S512x1024, .f32⟩
  | .local _ .vmem, ⟨16, _⟩ => ⟨S512x1024, .f32⟩
  | .local _ .vmem, ⟨17, _⟩ => ⟨S512x3072, .bf16⟩
  | .local _ .vmem, ⟨18, _⟩ => ⟨S512x3072, .bf16⟩
  | .local _ .vmem, ⟨19, _⟩ => ⟨S1024x3072, .bf16⟩
  | .local _ .vmem, ⟨20, _⟩ => ⟨S2x256x1024, .bf16⟩
  | _, _ => ⟨S10240x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S10240x1024 : Shape := ⟨2, ![10240, 1024]⟩
abbrev S10240x512 : Shape := ⟨2, ![10240, 512]⟩
abbrev S10240x2 : Shape := ⟨2, ![10240, 2]⟩
abbrev S2x8x6x1024 : Shape := ⟨4, ![2, 8, 6, 1024]⟩
abbrev S2x2x1024 : Shape := ⟨3, ![2, 2, 1024]⟩
abbrev S1x1024x3072 : Shape := ⟨3, ![1, 1024, 3072]⟩
abbrev S1x3072 : Shape := ⟨2, ![1, 3072]⟩
abbrev S10240x1 : Shape := ⟨2, ![10240, 1]⟩
abbrev S_ : Shape := ⟨0, ![]⟩
abbrev S1x8x1x1024 : Shape := ⟨4, ![1, 8, 1, 1024]⟩
abbrev S8x1024 : Shape := ⟨2, ![8, 1024]⟩
abbrev S8192x1024 : Shape := ⟨2, ![8192, 1024]⟩
abbrev S1x1024 : Shape := ⟨2, ![1, 1024]⟩
abbrev S1024 : Shape := ⟨1, ![1024]⟩
abbrev S2048x1024 : Shape := ⟨2, ![2048, 1024]⟩
abbrev S2x1024x1024 : Shape := ⟨3, ![2, 1024, 1024]⟩
abbrev S2x1024 : Shape := ⟨2, ![2, 1024]⟩
abbrev S2x1x1024 : Shape := ⟨3, ![2, 1, 1024]⟩
abbrev S1x1x1024 : Shape := ⟨3, ![1, 1, 1024]⟩
abbrev S8192 : Shape := ⟨1, ![8192]⟩
abbrev S8192x1 : Shape := ⟨2, ![8192, 1]⟩
abbrev S2x1024x1 : Shape := ⟨3, ![2, 1024, 1]⟩
abbrev S1024x3072 : Shape := ⟨2, ![1024, 3072]⟩
abbrev S10240x3072 : Shape := ⟨2, ![10240, 3072]⟩
abbrev S3072 : Shape := ⟨1, ![3072]⟩

abbrev nBuf : Space → Nat
  | .hbm => 127
  | .vmem => 0
  | .smem => 0
  | _ => 0

abbrev bufTy : (tb : Table) → Fin (tcTables nBuf tb) → BufTy
  | .hbm, ⟨0, _⟩ => ⟨S10240x1024, .f32⟩
  | .hbm, ⟨1, _⟩ => ⟨S10240x512, .i32⟩
  | .hbm, ⟨2, _⟩ => ⟨S10240x512, .i32⟩
  | .hbm, ⟨3, _⟩ => ⟨S10240x2, .f32⟩
  | .hbm, ⟨4, _⟩ => ⟨S2x8x6x1024, .f32⟩
  | .hbm, ⟨5, _⟩ => ⟨S2x2x1024, .f32⟩
  | .hbm, ⟨6, _⟩ => ⟨S1x1024x3072, .f32⟩
  | .hbm, ⟨7, _⟩ => ⟨S1x3072, .f32⟩
  | .hbm, ⟨8, _⟩ => ⟨S10240x1, .f32⟩
  | .hbm, ⟨9, _⟩ => ⟨S_, .i32⟩
  | .hbm, ⟨10, _⟩ => ⟨S10240x512, .i32⟩
  | .hbm, ⟨11, _⟩ => ⟨S10240x512, .i32⟩
  | .hbm, ⟨12, _⟩ => ⟨S10240x512, .f32⟩
  | .hbm, ⟨13, _⟩ => ⟨S_, .i32⟩
  | .hbm, ⟨14, _⟩ => ⟨S10240x512, .i32⟩
  | .hbm, ⟨15, _⟩ => ⟨S10240x512, .i32⟩
  | .hbm, ⟨16, _⟩ => ⟨S10240x512, .f32⟩
  | .hbm, ⟨17, _⟩ => ⟨S10240x1024, .f32⟩
  | .hbm, ⟨18, _⟩ => ⟨S10240x1024, .f32⟩
  | .hbm, ⟨19, _⟩ => ⟨S10240x1024, .f32⟩
  | .hbm, ⟨20, _⟩ => ⟨S10240x1, .f32⟩
  | .hbm, ⟨21, _⟩ => ⟨S_, .i32⟩
  | .hbm, ⟨22, _⟩ => ⟨S10240x512, .i32⟩
  | .hbm, ⟨23, _⟩ => ⟨S10240x512, .i32⟩
  | .hbm, ⟨24, _⟩ => ⟨S10240x512, .f32⟩
  | .hbm, ⟨25, _⟩ => ⟨S_, .i32⟩
  | .hbm, ⟨26, _⟩ => ⟨S10240x512, .i32⟩
  | .hbm, ⟨27, _⟩ => ⟨S10240x512, .i32⟩
  | .hbm, ⟨28, _⟩ => ⟨S10240x512, .f32⟩
  | .hbm, ⟨29, _⟩ => ⟨S10240x1024, .f32⟩
  | .hbm, ⟨30, _⟩ => ⟨S10240x1024, .f32⟩
  | .hbm, ⟨31, _⟩ => ⟨S10240x1024, .f32⟩
  | .hbm, ⟨32, _⟩ => ⟨S10240x1024, .f32⟩
  | .hbm, ⟨33, _⟩ => ⟨S1x8x1x1024, .f32⟩
  | .hbm, ⟨34, _⟩ => ⟨S8x1024, .f32⟩
  | .hbm, ⟨35, _⟩ => ⟨S1x8x1x1024, .f32⟩
  | .hbm, ⟨36, _⟩ => ⟨S8x1024, .f32⟩
  | .hbm, ⟨37, _⟩ => ⟨S1x8x1x1024, .f32⟩
  | .hbm, ⟨38, _⟩ => ⟨S8x1024, .f32⟩
  | .hbm, ⟨39, _⟩ => ⟨S8192x1024, .f32⟩
  | .hbm, ⟨40, _⟩ => ⟨S1x1024, .f32⟩
  | .hbm, ⟨41, _⟩ => ⟨S1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S2048x1024, .f32⟩
  | .hbm, ⟨48, _⟩ => ⟨S2x1024x1024, .f32⟩
  | .hbm, ⟨49, _⟩ => ⟨S2x1024, .f32⟩
  | .hbm, ⟨50, _⟩ => ⟨S2x1x1024, .f32⟩
  | .hbm, ⟨51, _⟩ => ⟨S2048x1024, .f32⟩
  | .hbm, ⟨52, _⟩ => ⟨S2x1024x1024, .f32⟩
  | .hbm, ⟨53, _⟩ => ⟨S2x1024x1024, .f32⟩
  | .hbm, ⟨54, _⟩ => ⟨S2x1024x1024, .f32⟩
  | .hbm, ⟨55, _⟩ => ⟨S2x1024x1024, .f32⟩
  | .hbm, ⟨56, _⟩ => ⟨S1x1x1024, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S1024, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S1x1024, .f32⟩
  | .hbm, ⟨83, _⟩ => ⟨S1024, .f32⟩
  | .hbm, ⟨84, _⟩ => ⟨S1x1024, .f32⟩
  | .hbm, ⟨85, _⟩ => ⟨S8192x1024, .f32⟩
  | .hbm, ⟨86, _⟩ => ⟨S8192x1024, .f32⟩
  | .hbm, ⟨87, _⟩ => ⟨S1x1x1024, .f32⟩
  | .hbm, ⟨88, _⟩ => ⟨S1024, .f32⟩
  | .hbm, ⟨89, _⟩ => ⟨S2x1024x1024, .f32⟩
  | .hbm, ⟨90, _⟩ => ⟨S_, .f32⟩
  | .hbm, ⟨91, _⟩ => ⟨S2x1024, .f32⟩
  | .hbm, ⟨92, _⟩ => ⟨S2x1024x1, .f32⟩
  | .hbm, ⟨93, _⟩ => ⟨S_, .f32⟩
  | .hbm, ⟨94, _⟩ => ⟨S2x1024x1, .f32⟩
  | .hbm, ⟨95, _⟩ => ⟨S2x1024x1, .f32⟩
  | .hbm, ⟨96, _⟩ => ⟨S_, .f32⟩
  | .hbm, ⟨97, _⟩ => ⟨S2x1024x1, .f32⟩
  | .hbm, ⟨98, _⟩ => ⟨S2x1024x1, .f32⟩
  | .hbm, ⟨99, _⟩ => ⟨S2x1024x1, .f32⟩
  | .hbm, ⟨100, _⟩ => ⟨S2x1024x1024, .f32⟩
  | .hbm, ⟨101, _⟩ => ⟨S2x1024x1024, .f32⟩
  | .hbm, ⟨102, _⟩ => ⟨S1x1x1024, .f32⟩
  | .hbm, ⟨103, _⟩ => ⟨S2x1024x1024, .f32⟩
  | .hbm, ⟨104, _⟩ => ⟨S2x1024x1024, .f32⟩
  | .hbm, ⟨105, _⟩ => ⟨S2x1024, .f32⟩
  | .hbm, ⟨106, _⟩ => ⟨S2x1x1024, .f32⟩
  | .hbm, ⟨107, _⟩ => ⟨S_, .f32⟩
  | .hbm, ⟨108, _⟩ => ⟨S2x1x1024, .f32⟩
  | .hbm, ⟨109, _⟩ => ⟨S2x1x1024, .f32⟩
  | .hbm, ⟨110, _⟩ => ⟨S2x1024x1024, .f32⟩
  | .hbm, ⟨111, _⟩ => ⟨S2x1024x1024, .f32⟩
  | .hbm, ⟨112, _⟩ => ⟨S2x1024, .f32⟩
  | .hbm, ⟨113, _⟩ => ⟨S2x1x1024, .f32⟩
  | .hbm, ⟨114, _⟩ => ⟨S2x1024x1024, .f32⟩
  | .hbm, ⟨115, _⟩ => ⟨S2x1024x1024, .f32⟩
  | .hbm, ⟨116, _⟩ => ⟨S2048x1024, .f32⟩
  | .hbm, ⟨117, _⟩ => ⟨S10240x1024, .f32⟩
  | .hbm, ⟨118, _⟩ => ⟨S2048x1024, .f32⟩
  | .hbm, ⟨119, _⟩ => ⟨S10240x1024, .f32⟩
  | .hbm, ⟨120, _⟩ => ⟨S1024x3072, .f32⟩
  | .hbm, ⟨121, _⟩ => ⟨S10240x3072, .f32⟩
  | .hbm, ⟨122, _⟩ => ⟨S3072, .f32⟩
  | .hbm, ⟨123, _⟩ => ⟨S1x3072, .f32⟩
  | .hbm, ⟨124, _⟩ => ⟨S10240x3072, .f32⟩
  | .hbm, ⟨125, _⟩ => ⟨S10240x3072, .f32⟩
  | .hbm, ⟨126, _⟩ => ⟨S10240x3072, .bf16⟩
  | _, _ => ⟨S10240x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst : Ref sig .tc := ⟨.hbm, 59, rfl⟩
abbrev main_v47 : Ref sig .tc := ⟨.hbm, 60, rfl⟩
abbrev main_v48 : Ref sig .tc := ⟨.hbm, 61, rfl⟩
abbrev main_cst_3 : Ref sig .tc := ⟨.hbm, 62, rfl⟩
abbrev main_v49 : Ref sig .tc := ⟨.hbm, 63, rfl⟩
abbrev main_v50 : Ref sig .tc := ⟨.hbm, 64, rfl⟩
abbrev main_cst_4 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_5 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_6 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_cst_8 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_9 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩

abbrev nD : Nat := 1
abbrev τ : Topo := Topo.v7x

variable {F : FTy → Type} [FloatOps F]
-- ==== Kernel5.lean ====
abbrev S10240x3328 : Shape := ⟨2, ![10240, 3328]⟩
abbrev S1x64 : Shape := ⟨2, ![1, 64]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S512x512 : Shape := ⟨2, ![512, 512]⟩
abbrev S_ : Shape := ⟨0, ![]⟩
abbrev S128x128 : Shape := ⟨2, ![128, 128]⟩
abbrev S8192x512 : Shape := ⟨2, ![8192, 512]⟩
abbrev S32x128x256 : Shape := ⟨3, ![32, 128, 256]⟩
abbrev S2048x512 : Shape := ⟨2, ![2048, 512]⟩
abbrev S2048x128 : Shape := ⟨2, ![2048, 128]⟩
abbrev S8x128x256 : Shape := ⟨3, ![8, 128, 256]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S256x512 : Shape := ⟨2, ![256, 512]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 46
  | .vmem => 16
  | .smem => 0
  | _ => 0

abbrev bufTy : (tb : Table) → Fin (tcTables nBuf tb) → BufTy
  | .hbm, ⟨0, _⟩ => ⟨S10240x3328, .bf16⟩
  | .hbm, ⟨1, _⟩ => ⟨S1x64, .f32⟩
  | .hbm, ⟨2, _⟩ => ⟨S1x64, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S8x64, .f32⟩
  | .hbm, ⟨7, _⟩ => ⟨S512, .f32⟩
  | .hbm, ⟨8, _⟩ => ⟨S1x512, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S_, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .bf16⟩
  | .hbm, ⟨28, _⟩ => ⟨S128x128, .i32⟩
  | .hbm, ⟨29, _⟩ => ⟨S_, .i32⟩
  | .hbm, ⟨30, _⟩ => ⟨S128x128, .i32⟩
  | .hbm, ⟨31, _⟩ => ⟨S128x128, .i32⟩
  | .hbm, ⟨32, _⟩ => ⟨S128x128, .i32⟩
  | .hbm, ⟨33, _⟩ => ⟨S_, .i32⟩
  | .hbm, ⟨34, _⟩ => ⟨S128x128, .i32⟩
  | .hbm, ⟨35, _⟩ => ⟨S128x128, .i32⟩
  | .hbm, ⟨36, _⟩ => ⟨S128x128, .i1⟩
  | .hbm, ⟨37, _⟩ => ⟨S_, .f32⟩
  | .hbm, ⟨38, _⟩ => ⟨S_, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .bf16⟩
  | .hbm, ⟨43, _⟩ => ⟨S8192x512, .bf16⟩
  | .hbm, ⟨44, _⟩ => ⟨S32x128x256, .f32⟩
  | .hbm, ⟨45, _⟩ => ⟨S32x128x256, .f32⟩
  | .local _ .vmem, ⟨0, _⟩ => ⟨S2048x512, .bf16⟩
  | .local _ .vmem, ⟨1, _⟩ => ⟨S2048x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S128x128, .bf16⟩
  | .local _ .vmem, ⟨10, _⟩ => ⟨S2048x512, .bf16⟩
  | .local _ .vmem, ⟨11, _⟩ => ⟨S2048x512, .bf16⟩
  | .local _ .vmem, ⟨12, _⟩ => ⟨S8x128x256, .f32⟩
  | .local _ .vmem, ⟨13, _⟩ => ⟨S8x128x256, .f32⟩
  | .local _ .vmem, ⟨14, _⟩ => ⟨S8x128x256, .f32⟩
  | .local _ .vmem, ⟨15, _⟩ => ⟨S8x128x256, .f32⟩
  | _, _ => ⟨S10240x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S10240x3328 : Shape := ⟨2, ![10240, 3328]⟩
abbrev S1x64 : Shape := ⟨2, ![1, 64]⟩
abbrev S8192x768 : Shape := ⟨2, ![8192, 768]⟩
abbrev S32x256x768 : Shape := ⟨3, ![32, 256, 768]⟩
abbrev S32x256x512 : Shape := ⟨3, ![32, 256, 512]⟩
abbrev S32x256x128 : Shape := ⟨3, ![32, 256, 128]⟩
abbrev S32x256x8x64 : Shape := ⟨4, ![32, 256, 8, 64]⟩
abbrev S64 : Shape := ⟨1, ![64]⟩
abbrev S_ : Shape := ⟨0, ![]⟩
abbrev S32x256x8 : Shape := ⟨3, ![32, 256, 8]⟩
abbrev S32x256x8x1 : Shape := ⟨4, ![32, 256, 8, 1]⟩
abbrev S1x1x1x64 : Shape := ⟨4, ![1, 1, 1, 64]⟩
abbrev S32x8x256x64 : Shape := ⟨4, ![32, 8, 256, 64]⟩
abbrev S32x256x2x64 : Shape := ⟨4, ![32, 256, 2, 64]⟩
abbrev S32x256x2 : Shape := ⟨3, ![32, 256, 2]⟩
abbrev S32x256x2x1 : Shape := ⟨4, ![32, 256, 2, 1]⟩
abbrev S32x2x256x64 : Shape := ⟨4, ![32, 2, 256, 64]⟩
abbrev S32x2x4x256x64 : Shape := ⟨5, ![32, 2, 4, 256, 64]⟩
abbrev S32x2x4x256x256 : Shape := ⟨5, ![32, 2, 4, 256, 256]⟩
abbrev S32x2x4x256 : Shape := ⟨4, ![32, 2, 4, 256]⟩
abbrev S32x2x4x256x1 : Shape := ⟨5, ![32, 2, 4, 256, 1]⟩
abbrev S8192x512 : Shape := ⟨2, ![8192, 512]⟩
abbrev S32x2x64x256 : Shape := ⟨4, ![32, 2, 64, 256]⟩
abbrev S32x128x256 : Shape := ⟨3, ![32, 128, 256]⟩

abbrev nBuf : Space → Nat
  | .hbm => 77
  | .vmem => 0
  | .smem => 0
  | _ => 0

abbrev bufTy : (tb : Table) → Fin (tcTables nBuf tb) → BufTy
  | .hbm, ⟨0, _⟩ => ⟨S10240x3328, .bf16⟩
  | .hbm, ⟨1, _⟩ => ⟨S1x64, .f32⟩
  | .hbm, ⟨2, _⟩ => ⟨S1x64, .f32⟩
  | .hbm, ⟨3, _⟩ => ⟨S8192x768, .bf16⟩
  | .hbm, ⟨4, _⟩ => ⟨S8192x768, .f32⟩
  | .hbm, ⟨5, _⟩ => ⟨S32x256x768, .f32⟩
  | .hbm, ⟨6, _⟩ => ⟨S32x256x512, .f32⟩
  | .hbm, ⟨7, _⟩ => ⟨S32x256x128, .f32⟩
  | .hbm, ⟨8, _⟩ => ⟨S32x256x128, .f32⟩
  | .hbm, ⟨9, _⟩ => ⟨S32x256x8x64, .f32⟩
  | .hbm, ⟨10, _⟩ => ⟨S64, .f32⟩
  | .hbm, ⟨11, _⟩ => ⟨S32x256x8x64, .f32⟩
  | .hbm, ⟨12, _⟩ => ⟨S_, .f32⟩
  | .hbm, ⟨13, _⟩ => ⟨S32x256x8, .f32⟩
  | .hbm, ⟨14, _⟩ => ⟨S32x256x8x1, .f32⟩
  | .hbm, ⟨15, _⟩ => ⟨S_, .f32⟩
  | .hbm, ⟨16, _⟩ => ⟨S32x256x8x1, .f32⟩
  | .hbm, ⟨17, _⟩ => ⟨S32x256x8x1, .f32⟩
  | .hbm, ⟨18, _⟩ => ⟨S_, .f32⟩
  | .hbm, ⟨19, _⟩ => ⟨S32x256x8x1, .f32⟩
  | .hbm, ⟨20, _⟩ => ⟨S32x256x8x1, .f32⟩
  | .hbm, ⟨21, _⟩ => ⟨S32x256x8x1, .f32⟩
  | .hbm, ⟨22, _⟩ => ⟨S32x256x8x64, .f32⟩
  | .hbm, ⟨23, _⟩ => ⟨S32x256x8x64, .f32⟩
  | .hbm, ⟨24, _⟩ => ⟨S1x1x1x64, .f32⟩
  | .hbm, ⟨25, _⟩ => ⟨S32x256x8x64, .f32⟩
  | .hbm, ⟨26, _⟩ => ⟨S32x256x8x64, .f32⟩
  | .hbm, ⟨27, _⟩ => ⟨S32x8x256x64, .f32⟩
  | .hbm, ⟨28, _⟩ => ⟨S32x256x2x64, .f32⟩
  | .hbm, ⟨29, _⟩ => ⟨S64, .f32⟩
  | .hbm, ⟨30, _⟩ => ⟨S32x256x2x64, .f32⟩
  | .hbm, ⟨31, _⟩ => ⟨S_, .f32⟩
  | .hbm, ⟨32, _⟩ => ⟨S32x256x2, .f32⟩
  | .hbm, ⟨33, _⟩ => ⟨S32x256x2x1, .f32⟩
  | .hbm, ⟨34, _⟩ => ⟨S_, .f32⟩
  | .hbm, ⟨35, _⟩ => ⟨S32x256x2x1, .f32⟩
  | .hbm, ⟨36, _⟩ => ⟨S32x256x2x1, .f32⟩
  | .hbm, ⟨37, _⟩ => ⟨S_, .f32⟩
  | .hbm, ⟨38, _⟩ => ⟨S32x256x2x1, .f32⟩
  | .hbm, ⟨39, _⟩ => ⟨S32x256x2x1, .f32⟩
  | .hbm, ⟨40, _⟩ => ⟨S32x256x2x1, .f32⟩
  | .hbm, ⟨41, _⟩ => ⟨S32x256x2x64, .f32⟩
  | .hbm, ⟨42, _⟩ => ⟨S32x256x2x64, .f32⟩
  | .hbm, ⟨43, _⟩ => ⟨S1x1x1x64, .f32⟩
  | .hbm, ⟨44, _⟩ => ⟨S32x256x2x64, .f32⟩
  | .hbm, ⟨45, _⟩ => ⟨S32x256x2x64, .f32⟩
  | .hbm, ⟨46, _⟩ => ⟨S32x2x256x64, .f32⟩
  | .hbm, ⟨47, _⟩ => ⟨S32x256x2x64, .f32⟩
  | .hbm, ⟨48, _⟩ => ⟨S32x2x256x64, .f32⟩
  | .hbm, ⟨49, _⟩ => ⟨S32x2x4x256x64, .f32⟩
  | .hbm, ⟨50, _⟩ => ⟨S32x2x4x256x256, .f32⟩
  | .hbm, ⟨51, _⟩ => ⟨S_, .f32⟩
  | .hbm, ⟨52, _⟩ => ⟨S32x2x4x256x256, .f32⟩
  | .hbm, ⟨53, _⟩ => ⟨S32x2x4x256x256, .f32⟩
  | .hbm, ⟨54, _⟩ => ⟨S_, .f32⟩
  | .hbm, ⟨55, _⟩ => ⟨S32x2x4x256, .f32⟩
  | .hbm, ⟨56, _⟩ => ⟨S_, .f32⟩
  | .hbm, ⟨57, _⟩ => ⟨S32x2x4x256, .f32⟩
  | .hbm, ⟨58, _⟩ => ⟨S32x2x4x256, .f32⟩
  | .hbm, ⟨59, _⟩ => ⟨S32x2x4x256x1, .f32⟩
  | .hbm, ⟨60, _⟩ => ⟨S32x2x4x256x256, .f32⟩
  | .hbm, ⟨61, _⟩ => ⟨S32x2x4x256x256, .f32⟩
  | .hbm, ⟨62, _⟩ => ⟨S32x2x4x256x256, .f32⟩
  | .hbm, ⟨63, _⟩ => ⟨S_, .f32⟩
  | .hbm, ⟨64, _⟩ => ⟨S32x2x4x256, .f32⟩
  | .hbm, ⟨65, _⟩ => ⟨S32x2x4x256x1, .f32⟩
  | .hbm, ⟨66, _⟩ => ⟨S32x2x4x256x256, .f32⟩
  | .hbm, ⟨67, _⟩ => ⟨S32x2x4x256x256, .f32⟩
  | .hbm, ⟨68, _⟩ => ⟨S32x2x4x256x64, .f32⟩
  | .hbm, ⟨69, _⟩ => ⟨S32x8x256x64, .f32⟩
  | .hbm, ⟨70, _⟩ => ⟨S32x256x8x64, .f32⟩
  | .hbm, ⟨71, _⟩ => ⟨S8192x512, .f32⟩
  | .hbm, ⟨72, _⟩ => ⟨S8192x512, .bf16⟩
  | .hbm, ⟨73, _⟩ => ⟨S32x2x64x256, .f32⟩
  | .hbm, ⟨74, _⟩ => ⟨S32x128x256, .f32⟩
  | .hbm, ⟨75, _⟩ => ⟨S32x2x64x256, .f32⟩
  | .hbm, ⟨76, _⟩ => ⟨S32x128x256, .f32⟩
  | _, _ => ⟨S10240x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩

abbrev nD : Nat := 1
abbrev τ : Topo := Topo.v7x

variable {F : FTy → Type} [FloatOps F]
-- ==== Kernel6.lean ====
abbrev S10240x512 : Shape := ⟨2, ![10240, 512]⟩
abbrev S1x1024x1024 : Shape := ⟨3, ![1, 1024, 1024]⟩
abbrev S10240x1024 : Shape := ⟨2, ![10240, 1024]⟩
abbrev S2x2x1024 : Shape := ⟨3, ![2, 2, 1024]⟩
abbrev S2x8x6x1024 : Shape := ⟨4, ![2, 8, 6, 1024]⟩
abbrev S1024x16 : Shape := ⟨2, ![1024, 16]⟩
abbrev S1024x1024 : Shape := ⟨2, ![1024, 1024]⟩
abbrev S512x1024 : Shape := ⟨2, ![512, 1024]⟩
abbrev S1x1x1024 : Shape := ⟨3, ![1, 1, 1024]⟩
abbrev S1024 : Shape := ⟨1, ![1024]⟩
abbrev S1x8x6x1024 : Shape := ⟨4, ![1, 8, 6, 1024]⟩
abbrev S8x6x1024 : Shape := ⟨3, ![8, 6, 1024]⟩
abbrev S16x1024 : Shape := ⟨2, ![16, 1024]⟩
abbrev S1x1024 : Shape := ⟨2, ![1, 1024]⟩
abbrev S16x10240 : Shape := ⟨2, ![16, 10240]⟩
abbrev S256x512 : Shape := ⟨2, ![256, 512]⟩
abbrev S256x1024 : Shape := ⟨2, ![256, 1024]⟩
abbrev S1x6x1024 : Shape := ⟨3, ![1, 6, 1024]⟩
abbrev S16x256 : Shape := ⟨2, ![16, 256]⟩
abbrev S6x1024 : Shape := ⟨2, ![6, 1024]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S10240x512, .bf16⟩
  | .hbm, ⟨1, _⟩ => ⟨S10240x512, .bf16⟩
  | .hbm, ⟨2, _⟩ => ⟨S1x1024x1024, .f32⟩
  | .hbm, ⟨3, _⟩ => ⟨S10240x1024, .f32⟩
  | .hbm, ⟨4, _⟩ => ⟨S2x2x1024, .f32⟩
  | .hbm, ⟨5, _⟩ => ⟨S2x8x6x1024, .f32⟩
  | .hbm, ⟨6, _⟩ => ⟨S1024x16, .f32⟩
  | .hbm, ⟨7, _⟩ => ⟨S1024x1024, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S1x1x1024, .f32⟩
  | .hbm, ⟨12, _⟩ => ⟨S1024, .f32⟩
  | .hbm, ⟨13, _⟩ => ⟨S1x8x6x1024, .f32⟩
  | .hbm, ⟨14, _⟩ => ⟨S8x6x1024, .f32⟩
  | .hbm, ⟨15, _⟩ => ⟨S16x1024, .f32⟩
  | .hbm, ⟨16, _⟩ => ⟨S1x1024, .f32⟩
  | .hbm, ⟨17, _⟩ => ⟨S10240x1024, .f32⟩
  | .hbm, ⟨18, _⟩ => ⟨S10240x1024, .bf16⟩
  | .hbm, ⟨19, _⟩ => ⟨S16x10240, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S512x1024, .bf16⟩
  | .local _ .vmem, ⟨5, _⟩ => ⟨S512x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x6x1024, .f32⟩
  | .local _ .vmem, ⟨10, _⟩ => ⟨S1x6x1024, .f32⟩
  | .local _ .vmem, ⟨11, _⟩ => ⟨S16x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S16x256, .f32⟩
  | .local _ .vmem, ⟨17, _⟩ => ⟨S16x256, .f32⟩
  | _, _ => ⟨S10240x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S10240x512 : Shape := ⟨2, ![10240, 512]⟩
abbrev S1x1024x1024 : Shape := ⟨3, ![1, 1024, 1024]⟩
abbrev S10240x1024 : Shape := ⟨2, ![10240, 1024]⟩
abbrev S2x2x1024 : Shape := ⟨3, ![2, 2, 1024]⟩
abbrev S2x8x6x1024 : Shape := ⟨4, ![2, 8, 6, 1024]⟩
abbrev S1024x16 : Shape := ⟨2, ![1024, 16]⟩
abbrev S1024x1024 : Shape := ⟨2, ![1024, 1024]⟩
abbrev S1x8x6x1024 : Shape := ⟨4, ![1, 8, 6, 1024]⟩
abbrev S8x6x1024 : Shape := ⟨3, ![8, 6, 1024]⟩
abbrev S1x1x1024 : Shape := ⟨3, ![1, 1, 1024]⟩
abbrev S1024 : Shape := ⟨1, ![1024]⟩
abbrev S8x1x1024 : Shape := ⟨3, ![8, 1, 1024]⟩
abbrev S8x1024 : Shape := ⟨2, ![8, 1024]⟩
abbrev S8192x1024 : Shape := ⟨2, ![8192, 1024]⟩
abbrev S1x1024 : Shape := ⟨2, ![1, 1024]⟩
abbrev S2048x1024 : Shape := ⟨2, ![2048, 1024]⟩
abbrev S2x1024x1024 : Shape := ⟨3, ![2, 1024, 1024]⟩
abbrev S2x1024 : Shape := ⟨2, ![2, 1024]⟩
abbrev S2x1x1024 : Shape := ⟨3, ![2, 1, 1024]⟩
abbrev S_ : Shape := ⟨0, ![]⟩
abbrev S8192 : Shape := ⟨1, ![8192]⟩
abbrev S8192x1 : Shape := ⟨2, ![8192, 1]⟩
abbrev S2x1024x1 : Shape := ⟨3, ![2, 1024, 1]⟩
abbrev S10240x16 : Shape := ⟨2, ![10240, 16]⟩
abbrev S16x10240 : Shape := ⟨2, ![16, 10240]⟩

abbrev nBuf : Space → Nat
  | .hbm => 102
  | .vmem => 0
  | .smem => 0
  | _ => 0

abbrev bufTy : (tb : Table) → Fin (tcTables nBuf tb) → BufTy
  | .hbm, ⟨0, _⟩ => ⟨S10240x512, .bf16⟩
  | .hbm, ⟨1, _⟩ => ⟨S10240x512, .bf16⟩
  | .hbm, ⟨2, _⟩ => ⟨S1x1024x1024, .f32⟩
  | .hbm, ⟨3, _⟩ => ⟨S10240x1024, .f32⟩
  | .hbm, ⟨4, _⟩ => ⟨S2x2x1024, .f32⟩
  | .hbm, ⟨5, _⟩ => ⟨S2x8x6x1024, .f32⟩
  | .hbm, ⟨6, _⟩ => ⟨S1024x16, .f32⟩
  | .hbm, ⟨7, _⟩ => ⟨S10240x512, .f32⟩
  | .hbm, ⟨8, _⟩ => ⟨S10240x512, .f32⟩
  | .hbm, ⟨9, _⟩ => ⟨S10240x1024, .f32⟩
  | .hbm, ⟨10, _⟩ => ⟨S1024x1024, .f32⟩
  | .hbm, ⟨11, _⟩ => ⟨S10240x1024, .f32⟩
  | .hbm, ⟨12, _⟩ => ⟨S1x8x6x1024, .f32⟩
  | .hbm, ⟨13, _⟩ => ⟨S8x6x1024, .f32⟩
  | .hbm, ⟨14, _⟩ => ⟨S1x1x1024, .f32⟩
  | .hbm, ⟨15, _⟩ => ⟨S1024, .f32⟩
  | .hbm, ⟨16, _⟩ => ⟨S8x1x1024, .f32⟩
  | .hbm, ⟨17, _⟩ => ⟨S8x1024, .f32⟩
  | .hbm, ⟨18, _⟩ => ⟨S8x1x1024, .f32⟩
  | .hbm, ⟨19, _⟩ => ⟨S8x1024, .f32⟩
  | .hbm, ⟨20, _⟩ => ⟨S8x1x1024, .f32⟩
  | .hbm, ⟨21, _⟩ => ⟨S8x1024, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S2048x1024, .f32⟩
  | .hbm, ⟨31, _⟩ => ⟨S2x1024x1024, .f32⟩
  | .hbm, ⟨32, _⟩ => ⟨S2x1024, .f32⟩
  | .hbm, ⟨33, _⟩ => ⟨S2x1x1024, .f32⟩
  | .hbm, ⟨34, _⟩ => ⟨S2048x1024, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S2x1024x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S1x1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S1x1024, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S2x1024x1024, .f32⟩
  | .hbm, ⟨69, _⟩ => ⟨S_, .f32⟩
  | .hbm, ⟨70, _⟩ => ⟨S2x1024, .f32⟩
  | .hbm, ⟨71, _⟩ => ⟨S2x1024x1, .f32⟩
  | .hbm, ⟨72, _⟩ => ⟨S_, .f32⟩
  | .hbm, ⟨73, _⟩ => ⟨S2x1024x1, .f32⟩
  | .hbm, ⟨74, _⟩ => ⟨S2x1024x1, .f32⟩
  | .hbm, ⟨75, _⟩ => ⟨S_, .f32⟩
  | .hbm, ⟨76, _⟩ => ⟨S2x1024x1, .f32⟩
  | .hbm, ⟨77, _⟩ => ⟨S2x1024x1, .f32⟩
  | .hbm, ⟨78, _⟩ => ⟨S2x1024x1, .f32⟩
  | .hbm, ⟨79, _⟩ => ⟨S2x1024x1024, .f32⟩
  | .hbm, ⟨80, _⟩ => ⟨S2x1024x1024, .f32⟩
  | .hbm, ⟨81, _⟩ => ⟨S1x1x1024, .f32⟩
  | .hbm, ⟨82, _⟩ => ⟨S2x1024x1024, .f32⟩
  | .hbm, ⟨83, _⟩ => ⟨S2x1024x1024, .f32⟩
  | .hbm, ⟨84, _⟩ => ⟨S2x1024, .f32⟩
  | .hbm, ⟨85, _⟩ => ⟨S2x1x1024, .f32⟩
  | .hbm, ⟨86, _⟩ => ⟨S_, .f32⟩
  | .hbm, ⟨87, _⟩ => ⟨S2x1x1024, .f32⟩
  | .hbm, ⟨88, _⟩ => ⟨S2x1x1024, .f32⟩
  | .hbm, ⟨89, _⟩ => ⟨S2x1024x1024, .f32⟩
  | .hbm, ⟨90, _⟩ => ⟨S2x1024x1024, .f32⟩
  | .hbm, ⟨91, _⟩ => ⟨S2x1024, .f32⟩
  | .hbm, ⟨92, _⟩ => ⟨S2x1x1024, .f32⟩
  | .hbm, ⟨93, _⟩ => ⟨S2x1024x1024, .f32⟩
  | .hbm, ⟨94, _⟩ => ⟨S2x1024x1024, .f32⟩
  | .hbm, ⟨95, _⟩ => ⟨S2048x1024, .f32⟩
  | .hbm, ⟨96, _⟩ => ⟨S10240x1024, .f32⟩
  | .hbm, ⟨97, _⟩ => ⟨S2048x1024, .f32⟩
  | .hbm, ⟨98, _⟩ => ⟨S10240x1024, .f32⟩
  | .hbm, ⟨99, _⟩ => ⟨S10240x1024, .bf16⟩
  | .hbm, ⟨100, _⟩ => ⟨S10240x16, .f32⟩
  | .hbm, ⟨101, _⟩ => ⟨S16x10240, .f32⟩
  | _, _ => ⟨S10240x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst : Ref sig .tc := ⟨.hbm, 40, rfl⟩
abbrev main_v33 : Ref sig .tc := ⟨.hbm, 41, rfl⟩
abbrev main_v34 : Ref sig .tc := ⟨.hbm, 42, rfl⟩
abbrev main_cst_0 : Ref sig .tc := ⟨.hbm, 43, rfl⟩
abbrev main_v35 : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_2 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_3 : Ref sig .tc := ⟨.hbm, 69, rfl⟩
abbrev main_v58 : Ref sig .tc := ⟨.hbm, 70, rfl⟩
abbrev main_v59 : Ref sig .tc := ⟨.hbm, 71, rfl⟩
abbrev main_cst_4 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩

abbrev nD : Nat := 1
abbrev τ : Topo := Topo.v7x

variable {F : FTy → Type} [FloatOps F]
-- ==== Kernel7.lean ====
abbrev S10240x1024 : Shape := ⟨2, ![10240, 1024]⟩
abbrev S1x1024x1024 : Shape := ⟨3, ![1, 1024, 1024]⟩
abbrev S2x2x1024 : Shape := ⟨3, ![2, 2, 1024]⟩
abbrev S2x8x6x1024 : Shape := ⟨4, ![2, 8, 6, 1024]⟩
abbrev S1024x16 : Shape := ⟨2, ![1024, 16]⟩
abbrev S1024x1024 : Shape := ⟨2, ![1024, 1024]⟩
abbrev S1x1x1024 : Shape := ⟨3, ![1, 1, 1024]⟩
abbrev S1024 : Shape := ⟨1, ![1024]⟩
abbrev S1x8x6x1024 : Shape := ⟨4, ![1, 8, 6, 1024]⟩
abbrev S8x6x1024 : Shape := ⟨3, ![8, 6, 1024]⟩
abbrev S16x1024 : Shape := ⟨2, ![16, 1024]⟩
abbrev S1x1024 : Shape := ⟨2, ![1, 1024]⟩
abbrev S16x10240 : Shape := ⟨2, ![16, 10240]⟩
abbrev S256x1024 : Shape := ⟨2, ![256, 1024]⟩
abbrev S1x6x1024 : Shape := ⟨3, ![1, 6, 1024]⟩
abbrev S16x256 : Shape := ⟨2, ![16, 256]⟩
abbrev S6x1024 : Shape := ⟨2, ![6, 1024]⟩
abbrev S256 : Shape := ⟨1, ![256]⟩
abbrev S256x1 : Shape := ⟨2, ![256, 1]⟩

abbrev nBuf : Space → Nat
  | .hbm => 17
  | .vmem => 15
  | .smem => 0
  | _ => 0

abbrev bufTy : (tb : Table) → Fin (tcTables nBuf tb) → BufTy
  | .hbm, ⟨0, _⟩ => ⟨S10240x1024, .bf16⟩
  | .hbm, ⟨1, _⟩ => ⟨S1x1024x1024, .f32⟩
  | .hbm, ⟨2, _⟩ => ⟨S10240x1024, .f32⟩
  | .hbm, ⟨3, _⟩ => ⟨S2x2x1024, .f32⟩
  | .hbm, ⟨4, _⟩ => ⟨S2x8x6x1024, .f32⟩
  | .hbm, ⟨5, _⟩ => ⟨S1024x16, .f32⟩
  | .hbm, ⟨6, _⟩ => ⟨S1024x1024, .f32⟩
  | .hbm, ⟨7, _⟩ => ⟨S1024x1024, .bf16⟩
  | .hbm, ⟨8, _⟩ => ⟨S1x1x1024, .f32⟩
  | .hbm, ⟨9, _⟩ => ⟨S1024, .f32⟩
  | .hbm, ⟨10, _⟩ => ⟨S1x8x6x1024, .f32⟩
  | .hbm, ⟨11, _⟩ => ⟨S8x6x1024, .f32⟩
  | .hbm, ⟨12, _⟩ => ⟨S16x1024, .f32⟩
  | .hbm, ⟨13, _⟩ => ⟨S1x1024, .f32⟩
  | .hbm, ⟨14, _⟩ => ⟨S10240x1024, .f32⟩
  | .hbm, ⟨15, _⟩ => ⟨S10240x1024, .bf16⟩
  | .hbm, ⟨16, _⟩ => ⟨S16x10240, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x6x1024, .f32⟩
  | .local _ .vmem, ⟨7, _⟩ => ⟨S1x6x1024, .f32⟩
  | .local _ .vmem, ⟨8, _⟩ => ⟨S16x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S16x256, .f32⟩
  | .local _ .vmem, ⟨14, _⟩ => ⟨S16x256, .f32⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  ![v21.toNat, c0_i32_7.toNat, c0_i32_8.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S10240x1024 : Shape := ⟨2, ![10240, 1024]⟩
abbrev S1x1024x1024 : Shape := ⟨3, ![1, 1024, 1024]⟩
abbrev S2x2x1024 : Shape := ⟨3, ![2, 2, 1024]⟩
abbrev S2x8x6x1024 : Shape := ⟨4, ![2, 8, 6, 1024]⟩
abbrev S1024x16 : Shape := ⟨2, ![1024, 16]⟩
abbrev S1024x1024 : Shape := ⟨2, ![1024, 1024]⟩
abbrev S1x8x6x1024 : Shape := ⟨4, ![1, 8, 6, 1024]⟩
abbrev S8x6x1024 : Shape := ⟨3, ![8, 6, 1024]⟩
abbrev S1x1x1024 : Shape := ⟨3, ![1, 1, 1024]⟩
abbrev S1024 : Shape := ⟨1, ![1024]⟩
abbrev S8x1x1024 : Shape := ⟨3, ![8, 1, 1024]⟩
abbrev S8x1024 : Shape := ⟨2, ![8, 1024]⟩
abbrev S8192x1024 : Shape := ⟨2, ![8192, 1024]⟩
abbrev S1x1024 : Shape := ⟨2, ![1, 1024]⟩
abbrev S2048x1024 : Shape := ⟨2, ![2048, 1024]⟩
abbrev S2x1024x1024 : Shape := ⟨3, ![2, 1024, 1024]⟩
abbrev S2x1024 : Shape := ⟨2, ![2, 1024]⟩
abbrev S2x1x1024 : Shape := ⟨3, ![2, 1, 1024]⟩
abbrev S_ : Shape := ⟨0, ![]⟩
abbrev S8192 : Shape := ⟨1, ![8192]⟩
abbrev S8192x1 : Shape := ⟨2, ![8192, 1]⟩
abbrev S2x1024x1 : Shape := ⟨3, ![2, 1024, 1]⟩
abbrev S10240x16 : Shape := ⟨2, ![10240, 16]⟩
abbrev S16x10240 : Shape := ⟨2, ![16, 10240]⟩

abbrev nBuf : Space → Nat
  | .hbm => 99
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S1x1024x1024, .f32⟩
  | .hbm, ⟨2, _⟩ => ⟨S10240x1024, .f32⟩
  | .hbm, ⟨3, _⟩ => ⟨S2x2x1024, .f32⟩
  | .hbm, ⟨4, _⟩ => ⟨S2x8x6x1024, .f32⟩
  | .hbm, ⟨5, _⟩ => ⟨S1024x16, .f32⟩
  | .hbm, ⟨6, _⟩ => ⟨S10240x1024, .f32⟩
  | .hbm, ⟨7, _⟩ => ⟨S1024x1024, .f32⟩
  | .hbm, ⟨8, _⟩ => ⟨S10240x1024, .f32⟩
  | .hbm, ⟨9, _⟩ => ⟨S1x8x6x1024, .f32⟩
  | .hbm, ⟨10, _⟩ => ⟨S8x6x1024, .f32⟩
  | .hbm, ⟨11, _⟩ => ⟨S1x1x1024, .f32⟩
  | .hbm, ⟨12, _⟩ => ⟨S1024, .f32⟩
  | .hbm, ⟨13, _⟩ => ⟨S8x1x1024, .f32⟩
  | .hbm, ⟨14, _⟩ => ⟨S8x1024, .f32⟩
  | .hbm, ⟨15, _⟩ => ⟨S8x1x1024, .f32⟩
  | .hbm, ⟨16, _⟩ => ⟨S8x1024, .f32⟩
  | .hbm, ⟨17, _⟩ => ⟨S8x1x1024, .f32⟩
  | .hbm, ⟨18, _⟩ => ⟨S8x1024, .f32⟩
  | .hbm, ⟨19, _⟩ => ⟨S8192x1024, .f32⟩
  | .hbm, ⟨20, _⟩ => ⟨S1x1024, .f32⟩
  | .hbm, ⟨21, _⟩ => ⟨S1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S2048x1024, .f32⟩
  | .hbm, ⟨28, _⟩ => ⟨S2x1024x1024, .f32⟩
  | .hbm, ⟨29, _⟩ => ⟨S2x1024, .f32⟩
  | .hbm, ⟨30, _⟩ => ⟨S2x1x1024, .f32⟩
  | .hbm, ⟨31, _⟩ => ⟨S2048x1024, .f32⟩
  | .hbm, ⟨32, _⟩ => ⟨S2x1024x1024, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S1x1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S1x1024, .f32⟩
  | .hbm, ⟨61, _⟩ => ⟨S1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S2x1024x1024, .f32⟩
  | .hbm, ⟨66, _⟩ => ⟨S_, .f32⟩
  | .hbm, ⟨67, _⟩ => ⟨S2x1024, .f32⟩
  | .hbm, ⟨68, _⟩ => ⟨S2x1024x1, .f32⟩
  | .hbm, ⟨69, _⟩ => ⟨S_, .f32⟩
  | .hbm, ⟨70, _⟩ => ⟨S2x1024x1, .f32⟩
  | .hbm, ⟨71, _⟩ => ⟨S2x1024x1, .f32⟩
  | .hbm, ⟨72, _⟩ => ⟨S_, .f32⟩
  | .hbm, ⟨73, _⟩ => ⟨S2x1024x1, .f32⟩
  | .hbm, ⟨74, _⟩ => ⟨S2x1024x1, .f32⟩
  | .hbm, ⟨75, _⟩ => ⟨S2x1024x1, .f32⟩
  | .hbm, ⟨76, _⟩ => ⟨S2x1024x1024, .f32⟩
  | .hbm, ⟨77, _⟩ => ⟨S2x1024x1024, .f32⟩
  | .hbm, ⟨78, _⟩ => ⟨S1x1x1024, .f32⟩
  | .hbm, ⟨79, _⟩ => ⟨S2x1024x1024, .f32⟩
  | .hbm, ⟨80, _⟩ => ⟨S2x1024x1024, .f32⟩
  | .hbm, ⟨81, _⟩ => ⟨S2x1024, .f32⟩
  | .hbm, ⟨82, _⟩ => ⟨S2x1x1024, .f32⟩
  | .hbm, ⟨83, _⟩ => ⟨S_, .f32⟩
  | .hbm, ⟨84, _⟩ => ⟨S2x1x1024, .f32⟩
  | .hbm, ⟨85, _⟩ => ⟨S2x1x1024, .f32⟩
  | .hbm, ⟨86, _⟩ => ⟨S2x1024x1024, .f32⟩
  | .hbm, ⟨87, _⟩ => ⟨S2x1024x1024, .f32⟩
  | .hbm, ⟨88, _⟩ => ⟨S2x1024, .f32⟩
  | .hbm, ⟨89, _⟩ => ⟨S2x1x1024, .f32⟩
  | .hbm, ⟨90, _⟩ => ⟨S2x1024x1024, .f32⟩
  | .hbm, ⟨91, _⟩ => ⟨S2x1024x1024, .f32⟩
  | .hbm, ⟨92, _⟩ => ⟨S2048x1024, .f32⟩
  | .hbm, ⟨93, _⟩ => ⟨S10240x1024, .f32⟩
  | .hbm, ⟨94, _⟩ => ⟨S2048x1024, .f32⟩
  | .hbm, ⟨95, _⟩ => ⟨S10240x1024, .f32⟩
  | .hbm, ⟨96, _⟩ => ⟨S10240x1024, .bf16⟩
  | .hbm, ⟨97, _⟩ => ⟨S10240x16, .f32⟩
  | .hbm, ⟨98, _⟩ => ⟨S16x10240, .f32⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_v31 : Ref sig .tc := ⟨.hbm, 38, rfl⟩
abbrev main_v32 : Ref sig .tc := ⟨.hbm, 39, rfl⟩
abbrev main_cst_0 : Ref sig .tc := ⟨.hbm, 40, rfl⟩
abbrev main_v33 : Ref sig .tc := ⟨.hbm, 41, rfl⟩
abbrev main_v34 : Ref sig .tc := ⟨.hbm, 42, rfl⟩
abbrev main_cst_1 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_2 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_3 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_v58 : Ref sig .tc := ⟨.hbm, 70, rfl⟩
abbrev main_v59 : Ref sig .tc := ⟨.hbm, 71, rfl⟩
abbrev main_cst_5 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_cst_6 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩

abbrev nD : Nat := 1
abbrev τ : Topo := Topo.v7x

variable {F : FTy → Type} [FloatOps F]
-- ==== Proof.Hgrn.Unit.lean ====
/- One head, one direction and one block of 128 rows of the prompt recurrence, as a whole-vector function of its four
   inputs (`gate parameter`, `q`, `z`, `v`) and the state it starts from. The kernel's body holds sixteen of them. -/
module

public import proofs.«01_k».proof.Proof.Gen.KernelIdeal.Skeleton

@[expose] public section

noncomputable section

namespace Cert.KernelIdeal.Hgrn

open Cert.KernelIdeal Cert.KernelIdeal.Gen Idealize.ShloMosaic Idealize.SL.Sem

variable {F : FTy → Type} [FloatOps F]

/-- The row number and the column number of a 128 by 128 tile. -/
def rowI : IVec S128x128 32 := iota .tc S128x128 32 [0] iota_S128x128_d0_w32
def colI : IVec S128x128 32 := iota .tc S128x128 32 [1] iota_S128x128_d1_w32

/-- The pairs of rows that lie in one chunk of 64. -/
def same : IVec S128x128 1 := k0_pay6 colI k0_pay3 64#32 k0_pay4 k0_pay5

/-- The pairs the recurrence connects: one chunk, and the second row not after the first in the direction `d`. -/
def keep (d : Bool) : IVec S128x128 1 := andi same (cmpi (bif d then .sge else .sle) colI rowI)

def tri (d : Bool) : FVec F S128x128 .bf16 :=
  truncf .bf16 (select (keep d) (broadcast S128x128 (Scalar.ofBits .f32 0x3F800000#32))
    (broadcast S128x128 (Scalar.ofBits .f32 0x00000000#32))) bitsLt_bf16_f32

/-- The forget gate. -/
def gate (lb : FVec F S1x128 .f32) (z : Vec F S128x128 .bf16) : FVec F S128x128 .f32 :=
  addf (broadcastTo S128x128 lb broadcasts_S1x128_S128x128)
    (mulf (broadcastTo S128x128 (subf (broadcast S1x128 (Scalar.ofBits .f32 0x3F800000#32)) lb) broadcasts_S1x128_S128x128)
      (logistic (extf .f32 z bitsLt_bf16_f32)))

/-- The sum of a vector's rows up to each row of its chunk, the vector taken as a leading part and a remainder. -/
def sums (d : Bool) (l : FVec F S128x128 .f32) : FVec F S128x128 .f32 :=
  addf (matmul dot_S128x128_S128x128_S128x128_1_0_0_1_n_n none (tri d) (truncf .bf16 l bitsLt_bf16_f32)
      (constant S128x128 .f32 0x00000000#32))
    (matmul dot_S128x128_S128x128_S128x128_1_0_0_1_n_n none (tri d)
      (truncf .bf16 (subf l (extf .f32 (truncf .bf16 l bitsLt_bf16_f32) bitsLt_bf16_f32)) bitsLt_bf16_f32)
      (constant S128x128 .f32 0x00000000#32))

/-- Each chunk's own row, repeated over the chunk. -/
def twoRows (a b : FVec F S1x128 .f32) : FVec F S128x128 .f32 :=
  concatenate S128x128 0
    [⟨S64x128, broadcastTo S64x128 (shapeCast S1x128 a shapeCasts_S1x128_S1x128) broadcasts_S1x128_S64x128⟩,
     ⟨S64x128, broadcastTo S64x128 (shapeCast S1x128 b shapeCasts_S1x128_S1x128) broadcasts_S1x128_S64x128⟩]
    concatenates_S64x128_S64x128_S128x128_d0

def mid (d : Bool) (b : FVec F S128x128 .f32) : FVec F S128x128 .f32 :=
  match d with
  | false => twoRows (extractStridedSlice S1x128 ![32, 0] b slices_S128x128_o32_0_S1x128)
      (extractStridedSlice S1x128 ![96, 0] b slices_S128x128_o96_0_S1x128)
  | true => twoRows (extractStridedSlice S1x128 ![31, 0] b slices_S128x128_o31_0_S1x128)
      (extractStridedSlice S1x128 ![95, 0] b slices_S128x128_o95_0_S1x128)

def last (d : Bool) (b : FVec F S128x128 .f32) : FVec F S128x128 .f32 :=
  match d with
  | false => twoRows (extractStridedSlice S1x128 ![63, 0] b slices_S128x128_o63_0_S1x128)
      (extractStridedSlice S1x128 ![127, 0] b slices_S128x128_o127_0_S1x128)
  | true => twoRows (extractStridedSlice S1x128 ![0, 0] b slices_S128x128_o0_0_S1x128)
      (extractStridedSlice S1x128 ![64, 0] b slices_S128x128_o64_0_S1x128)

/-- The running sum of the gates' logarithms. -/
def decayLog (d : Bool) (lb : FVec F S1x128 .f32) (z : Vec F S128x128 .bf16) : FVec F S128x128 .f32 :=
  sums d (log (gate lb z))

/-- `1 - f`. -/
def keyOf (lb : FVec F S1x128 .f32) (z : Vec F S128x128 .bf16) : FVec F S128x128 .f32 :=
  subf (broadcast S128x128 (Scalar.ofBits .f32 0x3F800000#32)) (gate lb z)

/-- The part of the output that comes from the chunk's own rows. -/
def within (d : Bool) (lb : FVec F S1x128 .f32) (q z v : Vec F S128x128 .bf16) : FVec F S128x128 .f32 :=
  matmul dot_S128x128_S128x128_S128x128_1_0_0_1_n_n none
    (truncf .bf16
      (select (keep d)
        (matmul dot_S128x128_S128x128_S128x128_1_1_0_0_n_n none
          (truncf .bf16 (mulf (extf .f32 q bitsLt_bf16_f32) (exp (subf (decayLog d lb z) (mid d (decayLog d lb z)))))
            bitsLt_bf16_f32)
          (truncf .bf16 (mulf (keyOf lb z) (exp (subf (mid d (decayLog d lb z)) (decayLog d lb z)))) bitsLt_bf16_f32)
          (constant S128x128 .f32 0x00000000#32))
        (broadcast S128x128 (Scalar.ofBits .f32 0x00000000#32)))
      bitsLt_bf16_f32)
    v (constant S128x128 .f32 0x00000000#32)

/-- The queries against the state before the chunk. -/
def fromState (d : Bool) (lb : FVec F S1x128 .f32) (q z : Vec F S128x128 .bf16) : FVec F S128x128 .bf16 :=
  truncf .bf16 (mulf (extf .f32 q bitsLt_bf16_f32) (exp (decayLog d lb z))) bitsLt_bf16_f32

/-- The keys as the state takes them. -/
def toState (d : Bool) (lb : FVec F S1x128 .f32) (z : Vec F S128x128 .bf16) : FVec F S128x128 .bf16 :=
  truncf .bf16 (mulf (keyOf lb z) (exp (subf (last d (decayLog d lb z)) (decayLog d lb z)))) bitsLt_bf16_f32

/-- What the rows 0 to 63, and the rows 64 to 127, add to the (transposed) state. -/
def upd0 (v ks : FVec F S128x128 .bf16) : FVec F S128x128 .f32 :=
  matmul dot_S64x128_S64x128_S128x128_0_0_1_1_n_n none
    (extractStridedSlice S64x128 ![0, 0] v slices_S128x128_o0_0_S64x128)
    (extractStridedSlice S64x128 ![0, 0] ks slices_S128x128_o0_0_S64x128) (constant S128x128 .f32 0x00000000#32)

def upd1 (v ks : FVec F S128x128 .bf16) : FVec F S128x128 .f32 :=
  matmul dot_S64x128_S64x128_S128x128_0_0_1_1_n_n none
    (extractStridedSlice S64x128 ![64, 0] v slices_S128x128_o64_0_S64x128)
    (extractStridedSlice S64x128 ![64, 0] ks slices_S128x128_o64_0_S64x128) (constant S128x128 .f32 0x00000000#32)

/-- The state after the rows 0 to 63, and after the rows 64 to 127. -/
def step0 (decay : FVec F S128x128 .f32) (u : FVec F S128x128 .f32) (s : FVec F S128x128 .f32) : FVec F S128x128 .f32 :=
  addf (mulf s (broadcastTo S128x128 (extractStridedSlice S1x128 ![0, 0] decay slices_S128x128_o0_0_S1x128)
    broadcasts_S1x128_S128x128)) u

def step1 (decay : FVec F S128x128 .f32) (u : FVec F S128x128 .f32) (s : FVec F S128x128 .f32) : FVec F S128x128 .f32 :=
  addf (mulf s (broadcastTo S128x128 (extractStridedSlice S1x128 ![64, 0] decay slices_S128x128_o64_0_S1x128)
    broadcasts_S1x128_S128x128)) u

/-- The decay of the state over each chunk. -/
def decayOf (d : Bool) (lb : FVec F S1x128 .f32) (z : Vec F S128x128 .bf16) : FVec F S128x128 .f32 :=
  exp (last d (decayLog d lb z))

/-- The state after the block's first chunk in the direction `d`, and after both. -/
def half (d : Bool) (lb : FVec F S1x128 .f32) (z v : Vec F S128x128 .bf16) (s : FVec F S128x128 .f32) : FVec F S128x128 .f32 :=
  match d with
  | false => step0 (decayOf false lb z) (upd0 v (toState false lb z)) s
  | true => step1 (decayOf true lb z) (upd1 v (toState true lb z)) s

def after (d : Bool) (lb : FVec F S1x128 .f32) (z v : Vec F S128x128 .bf16) (s : FVec F S128x128 .f32) : FVec F S128x128 .f32 :=
  match d with
  | false => step1 (decayOf false lb z) (upd1 v (toState false lb z)) (half false lb z v s)
  | true => step0 (decayOf true lb z) (upd0 v (toState true lb z)) (half true lb z v s)

/-- 64 rows of queries against a state. -/
def ask (q : FVec F S64x128 .bf16) (s : FVec F S128x128 .f32) : FVec F S64x128 .f32 :=
  matmul dot_S64x128_S128x128_S64x128_1_1_0_0_n_n none q (truncf .bf16 s bitsLt_bf16_f32) (constant S64x128 .f32 0x00000000#32)

def low (q : FVec F S128x128 .bf16) : FVec F S64x128 .bf16 :=
  extractStridedSlice S64x128 ![0, 0] q slices_S128x128_o0_0_S64x128
def high (q : FVec F S128x128 .bf16) : FVec F S64x128 .bf16 :=
  extractStridedSlice S64x128 ![64, 0] q slices_S128x128_o64_0_S64x128

/-- The block's output rows. -/
def rows (d : Bool) (lb : FVec F S1x128 .f32) (q z v : Vec F S128x128 .bf16) (s : FVec F S128x128 .f32) : FVec F S128x128 .f32 :=
  shapeCast S128x128
    (addf (within d lb q z v)
      (match d with
       | false => concatenate S128x128 0
          [⟨S64x128, ask (low (fromState false lb q z)) s⟩,
           ⟨S64x128, ask (high (fromState false lb q z)) (half false lb z v s)⟩] concatenates_S64x128_S64x128_S128x128_d0
       | true => concatenate S128x128 0
          [⟨S64x128, ask (low (fromState true lb q z)) (half true lb z v s)⟩,
           ⟨S64x128, ask (high (fromState true lb q z)) s⟩] concatenates_S64x128_S64x128_S128x128_d0))
    shapeCasts_S128x128_S128x128

/-- The empty state. -/
def zeroS : FVec F S128x128 .f32 := broadcast S128x128 (Scalar.ofBits .f32 0x00000000#32)

/-- The piece stored for a state: it is kept transposed. -/
def stored (s : FVec F S128x128 .f32) : FVec F S1x1x1x1x128x128 .f32 :=
  shapeCast S1x1x1x1x128x128 (transpose S128x128 [1, 0] s transposes_S128x128_p1_0_S128x128) shapeCasts_S128x128_S1x1x1x1x128x128

/-- The two directions' outputs of one head, normed over the head's lanes, gained and gated. -/
def finish (a b : Vec F S256x128 .f32) (og : Vec F S1x128 .f32) (ga : Vec F S256x128 .bf16) : FVec F S256x128 .bf16 :=
  k0_pay365 (k0_pay364 a b) og ga

end Cert.KernelIdeal.Hgrn

end
-- ==== Proof.Hgrn.Body.lean ====
/- What the body leaves in its two output blocks, as functions of the blocks it loads. -/
module

public import proofs.«01_k».proof.Proof.Gen.KernelIdeal.Frame
public import Idealize.ShloMosaic.Lib.Pipeline.Value
public import proofs.«01_k».proof.Proof.Hgrn.Unit

@[expose] public section

set_option maxRecDepth 16384

noncomputable section

namespace Cert.KernelIdeal.Hgrn

open Cert.KernelIdeal Cert.KernelIdeal.Gen Idealize.ShloMosaic Idealize.SL.Sem

variable {F : FTy → Type} [FloatOps F]

/-- The tile of 128 rows `b` (the first or the second) and head `h`, as a rectangle of a 256 by 512 block. -/
def tile (b : Bool) (h : Fin 4) : Rect S256x512 :=
  Rect.unit (s := S256x512) ![bif b then 128 else 0, 128 * h.val] S128x128.size
    (by revert b h; decide)

/-- That tile of a block. -/
def part (b : Bool) (h : Fin 4) (x : Vec F S256x512 .bf16) : Vec F S128x128 .bf16 := View.ld x (tile b h)

/-- The lower bound of the gate, for a direction and a head. -/
def bound (x5 : Vec F S2x2x512 .f32) (d : Bool) (h : Fin 4) : FVec F S1x128 .f32 :=
  match d, h with
  | false, 0 => extractStridedSlice S1x128 ![0, 0] (k0_pay2 x5) slices_S2x512_o0_0_S1x128
  | false, 1 => extractStridedSlice S1x128 ![0, 128] (k0_pay2 x5) slices_S2x512_o0_128_S1x128
  | false, 2 => extractStridedSlice S1x128 ![0, 256] (k0_pay2 x5) slices_S2x512_o0_256_S1x128
  | false, 3 => extractStridedSlice S1x128 ![0, 384] (k0_pay2 x5) slices_S2x512_o0_384_S1x128
  | true, 0 => extractStridedSlice S1x128 ![1, 0] (k0_pay2 x5) slices_S2x512_o1_0_S1x128
  | true, 1 => extractStridedSlice S1x128 ![1, 128] (k0_pay2 x5) slices_S2x512_o1_128_S1x128
  | true, 2 => extractStridedSlice S1x128 ![1, 256] (k0_pay2 x5) slices_S2x512_o1_256_S1x128
  | true, 3 => extractStridedSlice S1x128 ![1, 384] (k0_pay2 x5) slices_S2x512_o1_384_S1x128

/-- The state of one direction and head after the block it takes first. -/
def state1 (x1 x2 x3 : Vec F S256x512 .bf16) (x5 : Vec F S2x2x512 .f32) (d : Bool) (h : Fin 4) : FVec F S128x128 .f32 :=
  after d (bound x5 d h) (part d h (bif d then x2 else x1)) (part d h x3) zeroS

/-- And after both. -/
def state2 (x1 x2 x3 : Vec F S256x512 .bf16) (x5 : Vec F S2x2x512 .f32) (d : Bool) (h : Fin 4) : FVec F S128x128 .f32 :=
  after d (bound x5 d h) (part (!d) h (bif d then x2 else x1)) (part (!d) h x3) (state1 x1 x2 x3 x5 d h)

theorem zero3 : (![0, 0, 0] : Fin 3 → Nat) = fun _ => 0 := funext fun a => by fin_cases a <;> rfl

def sRect (d : Fin 2) (h : Fin 4) : Rect S1x1x2x4x128x128 :=
  Rect.unit (s := S1x1x2x4x128x128) ![0, 0, d.val, h.val, 0, 0] S1x1x1x1x128x128.size (by revert d h; decide)

theorem states_eq (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S2x2x512 .f32) (harg7 : arg7.IsWhole) (arg8 : Memref sig .tc .vmem S1x512 .f32) (harg8 : arg8.IsWhole) (arg9 : Memref sig .tc .vmem S256x512 .bf16) (harg9 : arg9.IsWhole) (arg10 : Memref sig .tc .vmem S1x1x2x4x128x128 .f32) (harg10 : arg10.IsWhole) (arg11 : Memref sig .tc .vmem S256x512 .f32) (harg11 : arg11.IsWhole) (arg12 : Memref sig .tc .vmem S256x512 .f32) (harg12 : arg12.IsWhole)
    (x0 : Vec F S256x512 .bf16) (x1 : Vec F S256x512 .bf16) (x2 : Vec F S256x512 .bf16) (x3 : Vec F S256x512 .bf16) (x4 : Vec F S256x512 .bf16) (x5 : Vec F S2x2x512 .f32) (x6 : Vec F S1x512 .f32) :
    out0_A_8 c i arg2 harg2 arg3 harg3 arg4 harg4 arg5 harg5 arg6 harg6 arg7 harg7 arg8 harg8 arg9 harg9 arg10 harg10 arg11 harg11 arg12 harg12 x0 x1 x2 x3 x4 x5 x6 =
      View.canon (Val := Elt F) [⟨sRect 1 3, stored (state2 x1 x2 x3 x5 true 3)⟩, ⟨sRect 0 3, stored (state2 x1 x2 x3 x5 false 3)⟩,
        ⟨sRect 1 2, stored (state2 x1 x2 x3 x5 true 2)⟩, ⟨sRect 0 2, stored (state2 x1 x2 x3 x5 false 2)⟩,
        ⟨sRect 1 1, stored (state2 x1 x2 x3 x5 true 1)⟩, ⟨sRect 0 1, stored (state2 x1 x2 x3 x5 false 1)⟩,
        ⟨sRect 1 0, stored (state2 x1 x2 x3 x5 true 0)⟩, ⟨sRect 0 0, stored (state2 x1 x2 x3 x5 false 0)⟩] := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread,
    View.ld_unit_zero (S := S2x2x512) zero3]
  rfl

/-- The output rows of one direction, head and block of 128 rows. -/
def unitRows (x0 x1 x2 x3 : Vec F S256x512 .bf16) (x5 : Vec F S2x2x512 .f32) (d b : Bool) (h : Fin 4) : FVec F S128x128 .f32 :=
  rows d (bound x5 d h) (part b h x0) (part b h (bif d then x2 else x1)) (part b h x3)
    (bif b ^^ d then state1 x1 x2 x3 x5 d h else zeroS)

/-- The stores that fill the buffer of the direction `d`: the later block's first, as the last store comes first. -/
def pieces (x0 x1 x2 x3 : Vec F S256x512 .bf16) (x5 : Vec F S2x2x512 .f32) (d : Bool) : List (View.Piece (Elt F) S256x512 .f32) :=
  [⟨tile (!d) 3, unitRows x0 x1 x2 x3 x5 d (!d) 3⟩, ⟨tile (!d) 2, unitRows x0 x1 x2 x3 x5 d (!d) 2⟩,
   ⟨tile (!d) 1, unitRows x0 x1 x2 x3 x5 d (!d) 1⟩, ⟨tile (!d) 0, unitRows x0 x1 x2 x3 x5 d (!d) 0⟩,
   ⟨tile d 3, unitRows x0 x1 x2 x3 x5 d d 3⟩, ⟨tile d 2, unitRows x0 x1 x2 x3 x5 d d 2⟩,
   ⟨tile d 1, unitRows x0 x1 x2 x3 x5 d d 1⟩, ⟨tile d 0, unitRows x0 x1 x2 x3 x5 d d 0⟩]

/-- The columns of one head, of a 256 by 512 block and of the one row of gains. -/
def colsOf (h : Fin 4) : Rect S256x512 :=
  Rect.unit (s := S256x512) ![0, 128 * h.val] S256x128.size (by revert h; decide)

def lanesOf (h : Fin 4) : Rect S1x512 :=
  Rect.unit (s := S1x512) ![0, 128 * h.val] S1x128.size (by revert h; decide)

/-- One head's columns of a direction's buffer. -/
def headRows (x0 x1 x2 x3 : Vec F S256x512 .bf16) (x5 : Vec F S2x2x512 .f32) (d : Bool) (h : Fin 4) : Vec F S256x128 .f32 :=
  fun j => View.canon (Val := Elt F) (pieces x0 x1 x2 x3 x5 d) ((colsOf h).emb j)

def outCols (x0 x1 x2 x3 x4 : Vec F S256x512 .bf16) (x5 : Vec F S2x2x512 .f32) (x6 : Vec F S1x512 .f32) (h : Fin 4) : FVec F S256x128 .bf16 :=
  finish (headRows x0 x1 x2 x3 x5 false h) (headRows x0 x1 x2 x3 x5 true h) (View.ld x6 (lanesOf h)) (View.ld x4 (colsOf h))

theorem out_eq (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S2x2x512 .f32) (harg7 : arg7.IsWhole) (arg8 : Memref sig .tc .vmem S1x512 .f32) (harg8 : arg8.IsWhole) (arg9 : Memref sig .tc .vmem S256x512 .bf16) (harg9 : arg9.IsWhole) (arg10 : Memref sig .tc .vmem S1x1x2x4x128x128 .f32) (harg10 : arg10.IsWhole) (arg11 : Memref sig .tc .vmem S256x512 .f32) (harg11 : arg11.IsWhole) (arg12 : Memref sig .tc .vmem S256x512 .f32) (harg12 : arg12.IsWhole)
    (x0 : Vec F S256x512 .bf16) (x1 : Vec F S256x512 .bf16) (x2 : Vec F S256x512 .bf16) (x3 : Vec F S256x512 .bf16) (x4 : Vec F S256x512 .bf16) (x5 : Vec F S2x2x512 .f32) (x6 : Vec F S1x512 .f32) :
    out0_A_7 c i arg2 harg2 arg3 harg3 arg4 harg4 arg5 harg5 arg6 harg6 arg7 harg7 arg8 harg8 arg9 harg9 arg10 harg10 arg11 harg11 arg12 harg12 x0 x1 x2 x3 x4 x5 x6 =
      View.canon (Val := Elt F) [⟨colsOf 3, outCols x0 x1 x2 x3 x4 x5 x6 3⟩, ⟨colsOf 2, outCols x0 x1 x2 x3 x4 x5 x6 2⟩,
        ⟨colsOf 1, outCols x0 x1 x2 x3 x4 x5 x6 1⟩, ⟨colsOf 0, outCols x0 x1 x2 x3 x4 x5 x6 0⟩] := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5 x6)]
  unfold kernelRun0_A
  dsimp only
  sl_unfold_words
  simp only [View.readCov_eq_canon', View.readAt_eq_ld, harg2.read_unread, harg3.read_unread, harg4.read_unread, harg5.read_unread, harg6.read_unread, harg7.read_unread, harg8.read_unread,
    View.ld_unit_zero (S := S2x2x512) zero3]
  rfl

end Cert.KernelIdeal.Hgrn

end
-- ==== Proof.Hgrn.Keep.lean ====
/- Which pairs of rows the kernel's two masks keep. -/
module

public import Idealize.ShloMosaic.Lib.Pointwise
public import proofs.«01_k».proof.Proof.Hgrn.Unit

@[expose] public section

set_option maxRecDepth 16384

noncomputable section

namespace Cert.KernelIdeal.Hgrn

open Cert.KernelIdeal Cert.KernelIdeal.Gen Idealize.ShloMosaic Idealize.SL.Sem

/-- The pairs `keep` keeps. -/
def Near (d : Bool) (r r' : Fin 128) : Prop := r.val / 64 = r'.val / 64 ∧ (bif d then decide (r ≤ r') else decide (r' ≤ r)) = true

instance (d : Bool) (r r' : Fin 128) : Decidable (Near d r r') := inferInstanceAs (Decidable (_ ∧ _))

theorem keep_apply (d : Bool) (r r' : Fin 128) : keep d (ix2 r r') = if Near d r r' then 1#1 else 0#1 := by
  revert d r r'
  decide +kernel

end Cert.KernelIdeal.Hgrn

end
-- ==== Proof.Hgrn.Math.lean ====
/- The recurrence over extended reals, one chunk of 64 positions at a time, with no program in it. -/
module

public import Idealize.ShloMosaic.Lib.Pointwise

@[expose] public section

noncomputable section

namespace Cert.Hgrn

open Idealize.ShloMosaic

/-- A chunk: a value for each of 64 positions and 128 lanes. -/
abbrev Chunk := Fin 64 → Fin 128 → EReal
/-- A state: a value for each key lane and value lane. -/
abbrev State := Fin 128 → Fin 128 → EReal

/-- The logarithm of the decay from the chunk's start through position `i`. -/
def cum (l : Chunk) (i : Fin 64) (k : Fin 128) : EReal := ∑ j : Fin 64, if j ≤ i then l j k else 0

/-- The key of a position: one minus its gate, from the gate's logarithm. -/
def key (l : Chunk) : Chunk := fun j k => -(Ideal.exp (l j k) - 1)

def weight (kk q l : Chunk) (i j : Fin 64) : EReal :=
  ∑ k : Fin 128, (q i k * Ideal.exp (cum l i k - cum l 32 k)) * (kk j k * Ideal.exp (cum l 32 k - cum l j k))

/-- A chunk's output, given its keys and the state before it. -/
def outWith (kk q l v : Chunk) (S : State) : Chunk := fun i w =>
  (∑ j : Fin 64, (if j ≤ i then weight kk q l i j else 0) * v j w)
    + ∑ k : Fin 128, (q i k * Ideal.exp (cum l i k)) * S k w

/-- The state after a chunk, given its keys. -/
def nextWith (kk l v : Chunk) (S : State) : State := fun k w =>
  S k w * Ideal.exp (cum l 63 k) + ∑ j : Fin 64, v j w * (kk j k * Ideal.exp (cum l 63 k - cum l j k))

def out (q l v : Chunk) (S : State) : Chunk := outWith (key l) q l v S
def next (l v : Chunk) (S : State) : State := nextWith (key l) l v S

/-- The state that each of four chunks starts from, and the state after all four. -/
def prior (l v : Fin 4 → Chunk) (S : State) (c : Fin 4) : State :=
  match c with
  | 0 => S
  | 1 => next (l 0) (v 0) S
  | 2 => next (l 1) (v 1) (next (l 0) (v 0) S)
  | 3 => next (l 2) (v 2) (next (l 1) (v 1) (next (l 0) (v 0) S))

def final (l v : Fin 4 → Chunk) (S : State) : State := next (l 3) (v 3) (prior l v S 3)

/-- The gates of a chunk are numbers from 0 to 1, or, in a lane whose lower bound is `0 / 0`, all the value of `0 / 0`. -/
def Gates (f : Chunk) : Prop := ∀ k, (∀ j, f j k = ⊥) ∨ ∀ j, ∃ a : ℝ, 0 ≤ a ∧ a ≤ 1 ∧ f j k = a

theorem cum_bot {l : Chunk} {k : Fin 128} (h : ∀ j, l j k = ⊥) (i : Fin 64) : cum l i k = ⊥ := by
  unfold cum
  rw [← Finset.add_sum_erase _ _ (Finset.mem_univ i), if_pos le_rfl, h, EReal.bot_add]

theorem one_sub_gate {a : ℝ} (h0 : 0 ≤ a) (h1 : a ≤ 1) :
    (1 : EReal) - (a : EReal) = -(Ideal.exp (Ideal.log (a : EReal)) - 1) := by
  rcases h0.eq_or_lt with h | h
  · subst h
    rw [Ideal.log_coe, if_pos le_rfl, Ideal.exp_bot]
    simp
  · rw [Ideal.log_coe, if_neg (not_le.mpr h), Ideal.exp_coe, Real.exp_log h, ← EReal.coe_one, ← EReal.coe_sub,
      ← EReal.coe_sub, ← EReal.coe_neg]
    congr 1; ring

/-- One minus the gate and the key agree under any of the decays they are multiplied with. -/
theorem key_mul {f : Chunk} (hf : Gates f) (x j : Fin 64) (k : Fin 128) :
    (1 - f j k) * Ideal.exp (cum (fun j k => Ideal.log (f j k)) x k - cum (fun j k => Ideal.log (f j k)) j k)
      = key (fun j k => Ideal.log (f j k)) j k
        * Ideal.exp (cum (fun j k => Ideal.log (f j k)) x k - cum (fun j k => Ideal.log (f j k)) j k) := by
  rcases hf k with h | h
  · rw [cum_bot (fun j => by rw [h, Ideal.log_bot]) x]
    simp
  · obtain ⟨a, h0, h1, e⟩ := h j
    congr 1
    unfold key
    simp only [e, one_sub_gate h0 h1]

theorem outWith_gate {f : Chunk} (hf : Gates f) (q v : Chunk) (S : State) :
    outWith (fun j k => 1 - f j k) q (fun j k => Ideal.log (f j k)) v S = out q (fun j k => Ideal.log (f j k)) v S := by
  unfold out outWith weight
  simp only [key_mul hf]

theorem nextWith_gate {f : Chunk} (hf : Gates f) (v : Chunk) (S : State) :
    nextWith (fun j k => 1 - f j k) (fun j k => Ideal.log (f j k)) v S = next (fun j k => Ideal.log (f j k)) v S := by
  unfold next nextWith
  simp only [key_mul hf]

/-- A value plus its difference from itself. -/
theorem add_sub_self {x : EReal} (h : x ≠ ⊤) : x + (x - x) = x := by
  induction x with
  | bot => simp
  | coe r => rw [← EReal.coe_sub, ← EReal.coe_add]; congr 1; ring
  | top => exact absurd rfl h

/-- The lower bound of a gate: a number from 0 to 1, or the value of `0 / 0`. -/
def Bound (b : EReal) : Prop := b = ⊥ ∨ ∃ a : ℝ, 0 ≤ a ∧ a ≤ 1 ∧ b = a

theorem exp_sub_le {x y : EReal} (h : x ≤ y) : ∃ a : ℝ, 0 ≤ a ∧ a ≤ 1 ∧ Ideal.exp (x - y) = a := by
  have hs : x - y ≤ 0 := by
    induction x <;> induction y <;> simp_all [← EReal.coe_sub]
  generalize x - y = z at hs
  induction z with
  | bot => exact ⟨0, le_rfl, zero_le_one, by simp⟩
  | coe r =>
    have : r ≤ 0 := by exact_mod_cast hs
    exact ⟨Real.exp r, (Real.exp_pos r).le, Real.exp_le_one_iff.mpr this, rfl⟩
  | top => exact absurd hs (by simp)

theorem bound_softmax (x y : EReal) :
    Bound (Ideal.div (Ideal.exp (x - max x y)) (Ideal.exp (x - max x y) + Ideal.exp (y - max x y))) := by
  obtain ⟨a, a0, a1, ha⟩ := exp_sub_le (le_max_left x y)
  obtain ⟨b, b0, b1, hb⟩ := exp_sub_le (le_max_right x y)
  rw [ha, hb, ← EReal.coe_add]
  by_cases h : a + b = 0
  · left
    have : a = 0 := by linarith
    subst this
    simp [Ideal.div, h]
  · right
    rw [Ideal.div_coe h]
    have : 0 < a + b := lt_of_le_of_ne (by linarith) (Ne.symm h)
    refine ⟨a * (1 / (a + b)), by positivity, ?_, by rw [EReal.coe_mul]⟩
    rw [mul_one_div, div_le_one this]; linarith

theorem logistic_mem (z : EReal) : ∃ s : ℝ, 0 ≤ s ∧ s ≤ 1 ∧ Ideal.logistic z = s := by
  induction z with
  | bot => exact ⟨0, le_rfl, zero_le_one, by simp⟩
  | coe r =>
    have := Real.exp_pos (-r)
    refine ⟨(1 + Real.exp (-r))⁻¹, by positivity, inv_le_one_of_one_le₀ (by linarith), by simp⟩
  | top => exact ⟨1, zero_le_one, le_rfl, by simp⟩

/-- The gate from its lower bound and its argument. -/
def gateOf (b z : EReal) : EReal := b + (1 - b) * Ideal.logistic z

theorem gate_mem {b : EReal} (hb : Bound b) : (∀ z, gateOf b z = ⊥) ∨ ∀ z, ∃ a : ℝ, 0 ≤ a ∧ a ≤ 1 ∧ gateOf b z = a := by
  rcases hb with rfl | ⟨a, a0, a1, rfl⟩
  · left; intro z; unfold gateOf; rw [EReal.bot_add]
  · right
    intro z
    obtain ⟨s, s0, s1, hs⟩ := logistic_mem z
    refine ⟨a + (1 - a) * s, by nlinarith, by nlinarith, ?_⟩
    unfold gateOf
    rw [hs, ← EReal.coe_one, ← EReal.coe_sub, ← EReal.coe_mul, ← EReal.coe_add]

theorem log_gate_ne_top {b : EReal} (hb : Bound b) (z : EReal) : Ideal.log (gateOf b z) ≠ ⊤ := by
  rcases gate_mem hb with h | h
  · rw [h]; simp
  · obtain ⟨a, _, _, e⟩ := h z
    rw [e, Ideal.log_coe]
    split <;> simp

/-- The gates of a chunk, given each lane's lower bound. -/
theorem gates_of {b : Fin 128 → EReal} (hb : ∀ k, Bound (b k)) (z : Chunk) : Gates (fun j k => gateOf (b k) (z j k)) :=
  fun k => (gate_mem (hb k)).imp (fun h j => h _) (fun h j => h _)

end Cert.Hgrn

end
-- ==== Proof.Hgrn.Read.lean ====
/- One unit of the kernel's body, read as the recurrence over two chunks. -/
module

public import proofs.«01_k».proof.Proof.Hgrn.Keep
public import proofs.«01_k».proof.Proof.Hgrn.Math

@[expose] public section

set_option maxRecDepth 16384

noncomputable section

namespace Cert.KernelIdeal.Hgrn

open Cert.Hgrn Cert.KernelIdeal Cert.KernelIdeal.Gen Idealize.ShloMosaic Idealize.SL.Sem

/-- Position `i` of chunk `c` of a block of 128 rows, in the direction `d`. -/
def row (d : Bool) (c : Fin 2) (i : Fin 64) : Fin 128 :=
  ⟨bif d then 127 - (64 * c.val + i.val) else 64 * c.val + i.val, by cases d <;> simp <;> omega⟩

theorem row_false (c : Fin 2) (i : Fin 64) : (row false c i).val = 64 * c.val + i.val := rfl
theorem row_true (c : Fin 2) (i : Fin 64) : (row true c i).val = 127 - (64 * c.val + i.val) := rfl

theorem near_row (d : Bool) (c c' : Fin 2) (i j : Fin 64) : Near d (row d c i) (row d c' j) ↔ c = c' ∧ j ≤ i := by
  unfold Near
  cases d <;> simp only [row_false, row_true, cond_false, cond_true, decide_eq_true_eq, Fin.le_def, Fin.ext_iff] <;> omega

/-- Every row is one position of one chunk. -/
def rowEquiv (d : Bool) : Fin 2 × Fin 64 ≃ Fin 128 where
  toFun p := row d p.1 p.2
  invFun r := (⟨(bif d then 127 - r.val else r.val) / 64, by cases d <;> simp <;> omega⟩,
    ⟨(bif d then 127 - r.val else r.val) % 64, by omega⟩)
  left_inv p := by
    obtain ⟨c, i⟩ := p
    apply Prod.ext <;> apply Fin.ext <;> cases d <;> simp [row] <;> omega
  right_inv r := by
    apply Fin.ext; cases d <;> simp [row] <;> omega

theorem sum_row (d : Bool) (F : Fin 128 → EReal) : ∑ x, F x = ∑ c : Fin 2, ∑ i : Fin 64, F (row d c i) := by
  rw [← Fintype.sum_prod_type']
  exact (Equiv.sum_comp (rowEquiv d) F).symm

/-- A sum over the rows that `keep` connects with one row is a sum over that row's chunk up to its position. -/
theorem sum_near (d : Bool) (c : Fin 2) (i : Fin 64) (F : Fin 128 → EReal) :
    (∑ x, if Near d (row d c i) x then F x else 0) = ∑ j : Fin 64, if j ≤ i then F (row d c j) else 0 := by
  rw [sum_row d, Finset.sum_eq_single c]
  · refine Finset.sum_congr rfl fun j _ => ?_
    simp only [near_row, true_and]
  · intro c' _ h
    refine Finset.sum_eq_zero fun j _ => ?_
    rw [if_neg]
    rw [near_row]
    exact fun e => h e.1.symm
  · exact fun h => absurd (Finset.mem_univ _) h

theorem tri_apply (d : Bool) (r r' : Fin 128) : tri (F := Ideal) d (ix2 r r') = if Near d r r' then (1 : EReal) else 0 := by
  unfold tri
  pointwise [keep_apply]
  split <;> rfl

theorem gate_apply (lb : FVec Ideal S1x128 .f32) (z : Vec Ideal S128x128 .bf16) (r k : Fin 128) :
    gate lb z (ix2 r k) = gateOf (lb (ix2 0 k)) (z (ix2 r k)) := by
  pointwise [gate]
  rfl

theorem sums_apply (d : Bool) (l : FVec Ideal S128x128 .f32) (hl : ∀ r k, l (ix2 r k) ≠ ⊤) (c : Fin 2) (i : Fin 64) (k : Fin 128) :
    sums d l (ix2 (row d c i) k) = cum (fun j k => l (ix2 (row d c j) k)) i k := by
  pointwise [sums, tri_apply]
  rw [← Finset.sum_add_distrib]
  unfold cum
  rw [← sum_near d c i fun x => l (ix2 x k)]
  refine Finset.sum_congr rfl fun x _ => ?_
  split
  · rw [one_mul, one_mul]; exact Cert.Hgrn.add_sub_self (hl x k)
  · rw [zero_mul, zero_mul, add_zero]

theorem mid_apply (d : Bool) (b : FVec Ideal S128x128 .f32) (c : Fin 2) (i : Fin 64) (k : Fin 128) :
    mid d b (ix2 (row d c i) k) = b (ix2 (row d c 32) k) := by
  cases d <;> fin_cases c <;> pointwise [mid, twoRows]
  · rw [dif_pos (by rw [row_false]; simp)]; rfl
  · rw [dif_neg (by rw [row_false]; simp)]; rfl
  · rw [dif_neg (by rw [row_true]; simp; omega)]; rfl
  · rw [dif_pos (by rw [row_true]; simp; omega)]; rfl

theorem last_apply (d : Bool) (b : FVec Ideal S128x128 .f32) (c : Fin 2) (i : Fin 64) (k : Fin 128) :
    last d b (ix2 (row d c i) k) = b (ix2 (row d c 63) k) := by
  cases d <;> fin_cases c <;> pointwise [last, twoRows]
  · rw [dif_pos (by rw [row_false]; simp)]; rfl
  · rw [dif_neg (by rw [row_false]; simp)]; rfl
  · rw [dif_neg (by rw [row_true]; simp; omega)]; rfl
  · rw [dif_pos (by rw [row_true]; simp; omega)]; rfl

section Unit

variable (d : Bool) (lb : FVec Ideal S1x128 .f32) (q z v : Vec Ideal S128x128 .bf16) (s : FVec Ideal S128x128 .f32)

/-- A chunk of the block's rows, in the direction's order. -/
def chunkOf (x : Vec Ideal S128x128 .bf16) (c : Fin 2) : Chunk := fun i k => x (ix2 (row d c i) k)

/-- The chunk's gates. -/
def gates (c : Fin 2) : Chunk := fun i k => gateOf (lb (ix2 0 k)) (chunkOf d z c i k)

/-- The logarithms of the chunk's gates. -/
def logs (c : Fin 2) : Chunk := fun i k => Ideal.log (gates d lb z c i k)

/-- A state as the kernel holds it is transposed. -/
def stateOf : State := fun k w => s (ix2 w k)

variable (hb : ∀ k, Bound (lb (ix2 0 k)))
include hb

theorem gates_ok (c : Fin 2) : Gates (gates d lb z c) := gates_of hb _

theorem decayLog_apply (c : Fin 2) (i : Fin 64) (k : Fin 128) :
    decayLog d lb z (ix2 (row d c i) k) = cum (logs d lb z c) i k := by
  unfold decayLog
  rw [sums_apply]
  · unfold cum
    refine Finset.sum_congr rfl fun j _ => ?_
    pointwise [gate_apply]
    rfl
  · intro r k
    pointwise [gate_apply]
    exact log_gate_ne_top (hb k) _

omit hb in
theorem keyOf_apply (c : Fin 2) (i : Fin 64) (k : Fin 128) :
    keyOf lb z (ix2 (row d c i) k) = 1 - gates d lb z c i k := by
  pointwise [keyOf, gate_apply]
  rfl

theorem within_apply (c : Fin 2) (i : Fin 64) (w : Fin 128) :
    within d lb q z v (ix2 (row d c i) w) =
      ∑ j : Fin 64, (if j ≤ i then weight (fun j k => 1 - gates d lb z c j k) (chunkOf d q c) (logs d lb z c) i j else 0)
        * chunkOf d v c j w := by
  pointwise [within, keep_apply]
  have h : ∀ (x : Fin 128) (A : EReal), Scalar.select (if Near d (row d c i) x then 1#1 else 0#1) A 0 = if Near d (row d c i) x then A else 0 := by
    intro x A; split <;> rfl
  simp only [h]
  rw [sum_near d c i fun x => (∑ k, q (ix2 (row d c i) k) * Ideal.exp (decayLog d lb z (ix2 (row d c i) k) - mid d (decayLog d lb z) (ix2 (row d c i) k)) *
    (keyOf lb z (ix2 x k) * Ideal.exp (mid d (decayLog d lb z) (ix2 x k) - decayLog d lb z (ix2 x k)))) * v (ix2 x w)]
  refine Finset.sum_congr rfl fun j _ => ?_
  rw [ite_mul, zero_mul]
  simp only [mid_apply, decayLog_apply d lb z hb, keyOf_apply]
  rfl

theorem fromState_apply (c : Fin 2) (i : Fin 64) (k : Fin 128) :
    fromState d lb q z (ix2 (row d c i) k) = chunkOf d q c i k * Ideal.exp (cum (logs d lb z c) i k) := by
  pointwise [fromState, decayLog_apply d lb z hb]
  rfl

theorem toState_apply (c : Fin 2) (i : Fin 64) (k : Fin 128) :
    toState d lb z (ix2 (row d c i) k)
      = (1 - gates d lb z c i k) * Ideal.exp (cum (logs d lb z c) 63 k - cum (logs d lb z c) i k) := by
  pointwise [toState, keyOf_apply, last_apply, decayLog_apply d lb z hb]

omit hb in
theorem sum_rev (F : Fin 64 → EReal) : ∑ x, F x = ∑ j : Fin 64, F (Fin.rev j) := (Equiv.sum_comp Fin.revPerm F).symm

/-- What the rows of chunk `c` add to the state. -/
def updOf (v ks : FVec Ideal S128x128 .bf16) (c : Fin 2) (w k : Fin 128) : EReal :=
  ∑ j : Fin 64, v (ix2 (row d c j) w) * ks (ix2 (row d c j) k)

omit hb in
theorem upd0_apply (v ks : FVec Ideal S128x128 .bf16) (w k : Fin 128) :
    upd0 v ks (ix2 w k) = updOf d v ks (bif d then 1 else 0) w k := by
  pointwise [upd0]
  cases d
  · refine Finset.sum_congr rfl fun j _ => ?_
    rw [show (⟨↑j, _⟩ : Fin 128) = row false 0 j from Fin.ext (by rw [row_false]; simp)]; rfl
  · rw [sum_rev]
    refine Finset.sum_congr rfl fun j _ => ?_
    rw [show (⟨↑(Fin.rev j), _⟩ : Fin 128) = row true 1 j from Fin.ext (by rw [row_true]; simp [Fin.val_rev]; omega)]; rfl

omit hb in
theorem upd1_apply (v ks : FVec Ideal S128x128 .bf16) (w k : Fin 128) :
    upd1 v ks (ix2 w k) = updOf d v ks (bif d then 0 else 1) w k := by
  pointwise [upd1]
  cases d
  · refine Finset.sum_congr rfl fun j _ => ?_
    rw [show (⟨64 + ↑j, _⟩ : Fin 128) = row false 1 j from Fin.ext (by rw [row_false]; simp)]; rfl
  · rw [sum_rev]
    refine Finset.sum_congr rfl fun j _ => ?_
    rw [show (⟨64 + ↑(Fin.rev j), _⟩ : Fin 128) = row true 0 j from Fin.ext (by rw [row_true]; simp [Fin.val_rev]; omega)]; rfl

/-- The state after the block's first chunk, and after both. -/
def mids : State := next (logs d lb z 0) (chunkOf d v 0) (stateOf s)
def ends : State := next (logs d lb z 1) (chunkOf d v 1) (mids d lb z v s)

theorem decay_apply (c : Fin 2) (i : Fin 64) (k : Fin 128) :
    decayOf d lb z (ix2 (row d c i) k) = Ideal.exp (cum (logs d lb z c) 63 k) := by
  pointwise [decayOf, last_apply, decayLog_apply d lb z hb]

theorem next_eq (c : Fin 2) (S : State) (w k : Fin 128) :
    S k w * Ideal.exp (cum (logs d lb z c) 63 k) + updOf d v (toState d lb z) c w k
      = next (logs d lb z c) (chunkOf d v c) S k w := by
  unfold updOf
  simp only [toState_apply d lb z hb]
  exact congrFun (congrFun (nextWith_gate (gates_ok d lb z hb c) (chunkOf d v c) S) k) w

theorem half_apply (w k : Fin 128) : half d lb z v s (ix2 w k) = mids d lb z v s k w := by
  cases d <;> pointwise [half, step0, step1]
  · rw [upd0_apply false, show (0 : Fin 128) = row false 0 0 from rfl, decay_apply false lb z hb]
    exact next_eq false lb z v hb 0 (stateOf s) w k
  · rw [upd1_apply true, show (64 : Fin 128) = row true 0 63 from rfl, decay_apply true lb z hb]
    exact next_eq true lb z v hb 0 (stateOf s) w k

theorem after_apply (w k : Fin 128) : after d lb z v s (ix2 w k) = ends d lb z v s k w := by
  cases d <;> pointwise [after, step0, step1]
  · rw [upd1_apply false, show (64 : Fin 128) = row false 1 0 from rfl, decay_apply false lb z hb, half_apply false lb z v s hb]
    exact next_eq false lb z v hb 1 (mids false lb z v s) w k
  · rw [upd0_apply true, show (0 : Fin 128) = row true 1 63 from rfl, decay_apply true lb z hb, half_apply true lb z v s hb]
    exact next_eq true lb z v hb 1 (mids true lb z v s) w k

omit hb in
theorem high_row (r : Fin 128) (h : ¬r.val < 64) (p : 64 + (r.val - 64) < 128) : (⟨64 + (r.val - 64), p⟩ : Fin 128) = r :=
  Fin.ext (by show 64 + (r.val - 64) = r.val; omega)

/-- The state each chunk starts from. -/
def before (c : Fin 2) : State := if c = 0 then stateOf s else mids d lb z v s

theorem rows_apply (c : Fin 2) (i : Fin 64) (w : Fin 128) :
    rows d lb q z v s (ix2 (row d c i) w)
      = out (chunkOf d q c) (logs d lb z c) (chunkOf d v c) (before d lb z v s c) i w := by
  have h : within d lb q z v (ix2 (row d c i) w)
        + ∑ k : Fin 128, fromState d lb q z (ix2 (row d c i) k) * before d lb z v s c k w
      = out (chunkOf d q c) (logs d lb z c) (chunkOf d v c) (before d lb z v s c) i w := by
    rw [within_apply d lb q z v hb]
    simp only [fromState_apply d lb q z hb]
    exact congrFun (congrFun (outWith_gate (gates_ok d lb z hb c) (chunkOf d q c) (chunkOf d v c) (before d lb z v s c)) i) w
  rw [← h]
  cases d <;> fin_cases c <;> pointwise [rows, ask, low, high]
  · rw [dif_pos (by rw [row_false]; simp)]; rfl
  · rw [dif_neg (by rw [row_false]; simp)]
    simp only [high_row (row false 1 i) (by rw [row_false]; simp)]
    simp only [half_apply false lb z v s hb]; rfl
  · rw [dif_neg (by rw [row_true]; simp; omega)]
    simp only [high_row (row true 0 i) (by rw [row_true]; simp; omega)]
    rfl
  · rw [dif_pos (by rw [row_true]; simp; omega)]
    simp only [half_apply true lb z v s hb]; rfl

end Unit

end Cert.KernelIdeal.Hgrn

end
-- ==== Proof.Hgrn.Spec.lean ====
/- The gated recurrence over 32 sequences of 256 rows, both directions, with its norm and gate: the two results as
   functions of the three arguments, with no program in it. -/
module

public import proofs.«01_k».proof.Proof.Hgrn.Math

@[expose] public section

noncomputable section

namespace Cert.Hgrn

open Idealize.ShloMosaic

/-- Row of a sequence of 256 at position `i` of chunk `c` in the direction `d`. -/
def seqRow (d : Bool) (c : Fin 4) (i : Fin 64) : Fin 256 :=
  ⟨bif d then 255 - (64 * c.val + i.val) else 64 * c.val + i.val, by cases d <;> simp <;> omega⟩

/-- The chunk and the position of a row in the direction `d`. -/
def chunkAt (d : Bool) (r : Fin 256) : Fin 4 := ⟨(bif d then 255 - r.val else r.val) / 64, by cases d <;> simp <;> omega⟩
def posAt (d : Bool) (r : Fin 256) : Fin 64 := ⟨(bif d then 255 - r.val else r.val) % 64, by omega⟩

theorem seqRow_at (d : Bool) (r : Fin 256) : seqRow d (chunkAt d r) (posAt d r) = r := by
  apply Fin.ext; cases d <;> simp [seqRow, chunkAt, posAt] <;> omega

theorem chunkAt_seqRow (d : Bool) (c : Fin 4) (i : Fin 64) : chunkAt d (seqRow d c i) = c := by
  apply Fin.ext; cases d <;> simp [seqRow, chunkAt] <;> omega

theorem posAt_seqRow (d : Bool) (c : Fin 4) (i : Fin 64) : posAt d (seqRow d c i) = i := by
  apply Fin.ext; cases d <;> simp [seqRow, posAt] <;> omega

/-- Lane `k` of head `h`. -/
def lane (h : Fin 4) (k : Fin 128) : Fin 512 := ⟨128 * h.val + k.val, by omega⟩

variable (z : Fin 10240 → Fin 3328 → EReal) (lbs : Fin 2 → Fin 2 → Fin 512 → EReal) (gain : Fin 512 → EReal)

/-- The lower bound of the gate: the first of two softmax weights. -/
def lower (a b : EReal) : EReal :=
  Ideal.div (Ideal.exp (a - max a b)) (Ideal.exp (a - max a b) + Ideal.exp (b - max a b))

/-- Part `p` of the projection (`q`, the two gates, `v`, the output gate) for a row of a sequence. -/
def field (p : Fin 5) (n : Fin 32) (r : Fin 256) (l : Fin 512) : EReal :=
  z ⟨256 * n.val + r.val, by omega⟩ ⟨512 * p.val + l.val, by omega⟩

def bnd (d : Bool) (l : Fin 512) : EReal :=
  lower (lbs 0 (bif d then 1 else 0) l) (lbs 1 (bif d then 1 else 0) l)

/-- A chunk of a part, and of the gates' logarithms. -/
def fieldC (p : Fin 5) (d : Bool) (n : Fin 32) (h : Fin 4) (c : Fin 4) : Chunk := fun i k =>
  field z p n (seqRow d c i) (lane h k)

def logC (d : Bool) (n : Fin 32) (h : Fin 4) (c : Fin 4) : Chunk := fun i k =>
  Ideal.log (gateOf (bnd lbs d (lane h k)) (fieldC z (bif d then 2 else 1) d n h c i k))

def zero : State := fun _ _ => 0

/-- The recurrence's output at a row, and its last state. -/
def scanned (d : Bool) (n : Fin 32) (h : Fin 4) (c : Fin 4) : Chunk :=
  out (fieldC z 0 d n h c) (logC z lbs d n h c) (fieldC z 3 d n h c)
    (prior (logC z lbs d n h) (fieldC z 3 d n h) zero c)

def scannedRow (d : Bool) (n : Fin 32) (h : Fin 4) (r : Fin 256) (w : Fin 128) : EReal :=
  scanned z lbs d n h (chunkAt d r) (posAt d r) w

def lastState (d : Bool) (n : Fin 32) (h : Fin 4) : State := final (logC z lbs d n h) (fieldC z 3 d n h) zero

/-- A value over the root mean square of its lanes, gained, times its gate's `g * logistic g`. -/
def normed (o : Fin 128 → EReal) (w : Fin 128) (gain g : EReal) : EReal :=
  o w * Ideal.rsqrt (Ideal.div (∑ x, o x * o x) (Ideal.ofBits FTy.f32 1124073472#32) + Ideal.ofBits FTy.f32 897988541#32)
    * gain * (g * Ideal.logistic g)

def result (n : Fin 32) (h : Fin 4) (r : Fin 256) (w : Fin 128) : EReal :=
  normed (fun x => scannedRow z lbs false n h r x + scannedRow z lbs true n h r x) w (gain (lane h w))
    (field z 4 n r (lane h w))

theorem bound_bnd (d : Bool) (l : Fin 512) : Bound (bnd lbs d l) := bound_softmax _ _

end Cert.Hgrn

end
-- ==== Proof.Hgrn.BlockValue.lean ====
/- What the body leaves in its output blocks, at a point whose blocks are one sequence's: the recurrence's rows and states. -/
module

public import Idealize.ShloMosaic.Lib.Pipeline.ValueKit
public import proofs.«01_k».proof.Proof.Hgrn.Body
public import proofs.«01_k».proof.Proof.Hgrn.Read
public import proofs.«01_k».proof.Proof.Hgrn.Spec

@[expose] public section

set_option maxRecDepth 16384

noncomputable section

namespace Cert.KernelIdeal.Hgrn

open Cert.Hgrn Cert.KernelIdeal Cert.KernelIdeal.Gen Idealize.ShloMosaic Idealize.SL.Sem

theorem tile_emb (b : Bool) (h : Fin 4) (r k : Fin 128) :
    (tile b h).emb (ix2 r k) = (ix2 (n0 := 256) (n1 := 512) ⟨(bif b then 128 else 0) + r.val, by cases b <;> simp <;> omega⟩ (lane h k) : S256x512.Idx) := by
  funext a
  fin_cases a <;> apply Fin.ext <;> refine (ValueKit.rect_emb_unit_val _ _ _ _ _).trans ?_ <;> simp [ix2, lane]

theorem colsOf_emb (h : Fin 4) (r : Fin 256) (w : Fin 128) :
    (colsOf h).emb (ix2 r w) = (ix2 r (lane h w) : S256x512.Idx) := by
  funext a
  fin_cases a <;> apply Fin.ext <;> refine (ValueKit.rect_emb_unit_val _ _ _ _ _).trans ?_ <;> simp [ix2, lane]

theorem lanesOf_emb (h : Fin 4) (w : Fin 128) :
    (lanesOf h).emb (ix2 0 w) = (ix2 0 (lane h w) : S1x512.Idx) := by
  funext a
  fin_cases a <;> apply Fin.ext <;> refine (ValueKit.rect_emb_unit_val _ _ _ _ _).trans ?_ <;> simp [ix2, lane]

theorem sRect_emb (d : Fin 2) (h : Fin 4) (k w : Fin 128) :
    (sRect d h).emb (ix6 0 0 0 0 k w) = (ix6 0 0 d h k w : S1x1x2x4x128x128.Idx) := by
  funext a
  fin_cases a <;> apply Fin.ext <;> refine (ValueKit.rect_emb_unit_val _ _ _ _ _).trans ?_ <;> simp [ix6]

/-- Chunk `c` of the block a direction takes first or later. -/
def at4 (p : Bool) (c : Fin 2) : Fin 4 := ⟨(bif p then 2 else 0) + c.val, by cases p <;> simp <;> omega⟩

theorem seqRow_block (d b : Bool) (c : Fin 2) (i : Fin 64) :
    (⟨(bif b then 128 else 0) + (row d c i).val, by cases b <;> simp <;> omega⟩ : Fin 256) = seqRow d (at4 (b ^^ d) c) i := by
  apply Fin.ext
  cases d <;> cases b <;> simp [seqRow, at4, row] <;> omega

section

variable (z : Fin 10240 → Fin 3328 → EReal) (lbs : Fin 2 → Fin 2 → Fin 512 → EReal) (gain : Fin 512 → EReal) (n : Fin 32)
variable (x0 x1 x2 x3 x4 : Vec Ideal S256x512 .bf16) (x5 : Vec Ideal S2x2x512 .f32) (x6 : Vec Ideal S1x512 .f32)

/-- The stores of the two output blocks, the last first. -/
def outPieces : List (View.Piece (Elt Ideal) S256x512 .bf16) :=
  [⟨colsOf 3, outCols x0 x1 x2 x3 x4 x5 x6 3⟩, ⟨colsOf 2, outCols x0 x1 x2 x3 x4 x5 x6 2⟩,
    ⟨colsOf 1, outCols x0 x1 x2 x3 x4 x5 x6 1⟩, ⟨colsOf 0, outCols x0 x1 x2 x3 x4 x5 x6 0⟩]

def statePieces : List (View.Piece (Elt Ideal) S1x1x2x4x128x128 .f32) :=
  [⟨sRect 1 3, stored (state2 x1 x2 x3 x5 true 3)⟩, ⟨sRect 0 3, stored (state2 x1 x2 x3 x5 false 3)⟩,
    ⟨sRect 1 2, stored (state2 x1 x2 x3 x5 true 2)⟩, ⟨sRect 0 2, stored (state2 x1 x2 x3 x5 false 2)⟩,
    ⟨sRect 1 1, stored (state2 x1 x2 x3 x5 true 1)⟩, ⟨sRect 0 1, stored (state2 x1 x2 x3 x5 false 1)⟩,
    ⟨sRect 1 0, stored (state2 x1 x2 x3 x5 true 0)⟩, ⟨sRect 0 0, stored (state2 x1 x2 x3 x5 false 0)⟩]

/-- The blocks of a grid point are those of its sequence. -/
structure Blocks : Prop where
  h0 : ∀ r l, x0 (ix2 r l) = field z 0 n r l
  h1 : ∀ r l, x1 (ix2 r l) = field z 1 n r l
  h2 : ∀ r l, x2 (ix2 r l) = field z 2 n r l
  h3 : ∀ r l, x3 (ix2 r l) = field z 3 n r l
  h4 : ∀ r l, x4 (ix2 r l) = field z 4 n r l
  h5 : ∀ a b l, x5 (ix3 a b l) = lbs a b l
  h6 : ∀ l, x6 (ix2 0 l) = gain l

theorem chunk_part (p : Fin 5) (x : Vec Ideal S256x512 .bf16) (hx : ∀ r l, x (ix2 r l) = field z p n r l) (d b : Bool) (h : Fin 4) (c : Fin 2) :
    chunkOf d (part b h x) c = fieldC z p d n h (at4 (b ^^ d) c) := by
  funext i k
  unfold fieldC
  rw [← seqRow_block, ← hx, ← tile_emb]
  rfl

variable {z lbs gain n x0 x1 x2 x3 x4 x5 x6} (hB : Blocks z lbs gain n x0 x1 x2 x3 x4 x5 x6)
include hB

theorem soft_block (d : Bool) (l : Fin 512) : k0_pay2 x5 (ix2 (bif d then 1 else 0) l) = bnd lbs d l := by
  pointwise [k0_pay2]
  simp only [hB.h5]
  rfl

theorem bound_block (d : Bool) (h : Fin 4) (k : Fin 128) : bound x5 d h (ix2 0 k) = bnd lbs d (lane h k) := by
  rw [← soft_block hB]
  cases d <;> fin_cases h <;> pointwise [bound] <;> (congr 2; try (apply Fin.ext; simp [lane]))

theorem bound_ok (d : Bool) (h : Fin 4) (k : Fin 128) : Bound (bound x5 d h (ix2 0 k)) := by
  rw [bound_block hB]; exact bound_bnd lbs d _

theorem logs_part (d b : Bool) (h : Fin 4) (c : Fin 2) :
    logs d (bound x5 d h) (part b h (bif d then x2 else x1)) c = logC z lbs d n h (at4 (b ^^ d) c) := by
  have e : chunkOf d (part b h (bif d then x2 else x1)) c = fieldC z (bif d then 2 else 1) d n h (at4 (b ^^ d) c) := by
    cases d
    · exact chunk_part z n 1 x1 hB.h1 _ _ _ _
    · exact chunk_part z n 2 x2 hB.h2 _ _ _ _
  funext i k
  unfold logs gates logC
  rw [bound_block hB, e]

omit hB in
theorem stateOf_zero : stateOf (zeroS (F := Ideal)) = zero := by
  funext k w
  unfold stateOf zero
  pointwise [zeroS]

theorem mids_part (d b : Bool) (h : Fin 4) (s : FVec Ideal S128x128 .f32) :
    mids d (bound x5 d h) (part b h (bif d then x2 else x1)) (part b h x3) s
      = next (logC z lbs d n h (at4 (b ^^ d) 0)) (fieldC z 3 d n h (at4 (b ^^ d) 0)) (stateOf s) := by
  unfold mids
  rw [logs_part hB, chunk_part z n 3 x3 hB.h3]

theorem ends_part (d b : Bool) (h : Fin 4) (s : FVec Ideal S128x128 .f32) :
    stateOf (after d (bound x5 d h) (part b h (bif d then x2 else x1)) (part b h x3) s)
      = next (logC z lbs d n h (at4 (b ^^ d) 1)) (fieldC z 3 d n h (at4 (b ^^ d) 1))
          (next (logC z lbs d n h (at4 (b ^^ d) 0)) (fieldC z 3 d n h (at4 (b ^^ d) 0)) (stateOf s)) := by
  funext k w
  show after d _ _ _ s (ix2 w k) = _
  rw [after_apply _ _ _ _ _ (bound_ok hB d h)]
  unfold ends
  rw [mids_part hB, logs_part hB, chunk_part z n 3 x3 hB.h3]

theorem state1_block (d : Bool) (h : Fin 4) :
    stateOf (state1 x1 x2 x3 x5 d h) = prior (logC z lbs d n h) (fieldC z 3 d n h) zero 2 := by
  unfold state1
  rw [ends_part hB, stateOf_zero, Bool.xor_self]
  rfl

theorem state2_block (d : Bool) (h : Fin 4) : stateOf (state2 x1 x2 x3 x5 d h) = lastState z lbs d n h := by
  unfold state2
  rw [ends_part hB, state1_block hB, show (!d ^^ d) = true by cases d <;> rfl]
  rfl

theorem unit_block (d b : Bool) (h : Fin 4) (r w : Fin 128) :
    unitRows x0 x1 x2 x3 x5 d b h (ix2 r w)
      = scannedRow z lbs d n h ⟨(bif b then 128 else 0) + r.val, by cases b <;> simp <;> omega⟩ w := by
  obtain ⟨⟨c, i⟩, rfl⟩ := (rowEquiv d).surjective r
  show unitRows x0 x1 x2 x3 x5 d b h (ix2 (row d c i) w) = scannedRow z lbs d n h ⟨(bif b then 128 else 0) + (row d c i).val, _⟩ w
  rw [seqRow_block]
  unfold unitRows scannedRow scanned
  rw [rows_apply _ _ _ _ _ _ (bound_ok hB d h), chunkAt_seqRow, posAt_seqRow, logs_part hB, chunk_part z n 0 x0 hB.h0,
    chunk_part z n 3 x3 hB.h3]
  refine congrFun (congrFun (congrArg _ ?_) i) w
  unfold before
  rw [mids_part hB]
  have e : stateOf (bif b ^^ d then state1 x1 x2 x3 x5 d h else zeroS)
      = prior (logC z lbs d n h) (fieldC z 3 d n h) zero (at4 (b ^^ d) 0) := by
    cases b ^^ d
    · exact stateOf_zero
    · exact state1_block hB d h
  rw [e]
  cases b ^^ d <;> fin_cases c <;> rfl

theorem mem_pieces (d : Bool) (p : View.Piece (Elt Ideal) S256x512 .f32) :
    p ∈ pieces x0 x1 x2 x3 x5 d ↔ ∃ b h, p = ⟨tile b h, unitRows x0 x1 x2 x3 x5 d b h⟩ := by
  constructor
  · intro hp
    simp only [pieces, List.mem_cons, List.mem_nil_iff, or_false] at hp
    rcases hp with h | h | h | h | h | h | h | h <;> exact ⟨_, _, h⟩
  · rintro ⟨b, h, rfl⟩
    simp only [pieces, List.mem_cons]
    cases d <;> cases b <;> fin_cases h <;> repeat first | exact Or.inl rfl | apply Or.inr

theorem head_block (d : Bool) (h : Fin 4) (r : Fin 256) (w : Fin 128) :
    headRows x0 x1 x2 x3 x5 d h (ix2 r w) = scannedRow z lbs d n h r w := by
  unfold headRows
  have key := View.canon_apply_of_pieces (Val := Elt Ideal) (S := S256x512) (e := .f32)
    (fun y => scannedRow z lbs d n ⟨(y 1).val / 128, by have := (y 1).isLt; simp at this; omega⟩ (y 0)
      ⟨(y 1).val % 128, by omega⟩)
    (pieces x0 x1 x2 x3 x5 d) ?_ ((colsOf h).emb (ix2 r w)) ?_
  · rw [key, colsOf_emb]
    show scannedRow z lbs d n ⟨(lane h w).val / 128, _⟩ r ⟨(lane h w).val % 128, _⟩ = _
    congr 1 <;> apply Fin.ext <;> simp [lane] <;> omega
  · intro p hp j
    obtain ⟨b, g, rfl⟩ := (mem_pieces hB d p).mp hp
    obtain ⟨r, w, rfl⟩ : ∃ r w : Fin 128, j = ix2 r w := ⟨j 0, j 1, by funext a; fin_cases a <;> rfl⟩
    simp only
    rw [tile_emb, unit_block hB]
    show _ = scannedRow z lbs d n ⟨(lane g w).val / 128, _⟩ _ ⟨(lane g w).val % 128, _⟩
    congr 1 <;> apply Fin.ext <;> simp [lane] <;> omega
  · have hr : ∃ b : Bool, (bif b then 128 else 0) ≤ r.val ∧ r.val < (bif b then 128 else 0) + 128 := by
      rcases Nat.lt_or_ge r.val 128 with hr | hr
      · exact ⟨false, by simp; omega⟩
      · exact ⟨true, by simp; omega⟩
    obtain ⟨b, hb⟩ := hr
    refine ⟨_, (mem_pieces hB d _).mpr ⟨b, h, rfl⟩, ?_⟩
    rw [colsOf_emb]
    simp only [tile, Rect.mem_set_unit]
    intro a
    fin_cases a
    · simpa [ix2] using hb
    · simp [ix2, lane]

/-- The output block of the point. -/
theorem cols_block (h : Fin 4) (r : Fin 256) (w : Fin 128) :
    outCols x0 x1 x2 x3 x4 x5 x6 h (ix2 r w) = result z lbs gain n h r w := by
  have e4 : View.ld x4 (colsOf h) (ix2 r w) = field z 4 n r (lane h w) := by
    rw [← hB.h4, ← colsOf_emb]; rfl
  have e6 : View.ld x6 (lanesOf h) (ix2 0 w) = gain (lane h w) := by
    rw [← hB.h6, ← lanesOf_emb]; rfl
  unfold outCols
  generalize View.ld x4 (colsOf h) = ga at e4 ⊢
  generalize View.ld x6 (lanesOf h) = og at e6 ⊢
  pointwise [finish, k0_pay365, k0_pay364]
  simp only [head_block hB]
  rw [e4, e6]
  rfl

theorem out_block (r : Fin 256) (l : Fin 512) :
    View.canon (outPieces x0 x1 x2 x3 x4 x5 x6) (ix2 r l) = result z lbs gain n ⟨l.val / 128, by omega⟩ r ⟨l.val % 128, by omega⟩ := by
  have key := View.canon_apply_of_pieces (Val := Elt Ideal) (S := S256x512) (e := .bf16)
    (fun y => result z lbs gain n ⟨(y 1).val / 128, by have := (y 1).isLt; simp at this; omega⟩ (y 0) ⟨(y 1).val % 128, by omega⟩)
    (outPieces x0 x1 x2 x3 x4 x5 x6) ?_ (ix2 r l) ?_
  · exact key
  · intro p hp j
    obtain ⟨g, rfl⟩ : ∃ g, p = ⟨colsOf g, outCols x0 x1 x2 x3 x4 x5 x6 g⟩ := by
      simp only [outPieces, List.mem_cons, List.mem_nil_iff, or_false] at hp
      rcases hp with h | h | h | h <;> exact ⟨_, h⟩
    obtain ⟨r, w, rfl⟩ : ∃ (r : Fin 256) (w : Fin 128), j = ix2 r w := ⟨j 0, j 1, by funext a; fin_cases a <;> rfl⟩
    simp only
    rw [colsOf_emb, cols_block hB]
    show _ = result z lbs gain n ⟨(lane g w).val / 128, _⟩ _ ⟨(lane g w).val % 128, _⟩
    congr 1 <;> apply Fin.ext <;> simp [lane] <;> omega
  · have hm : ∀ g : Fin 4, (⟨colsOf g, outCols x0 x1 x2 x3 x4 x5 x6 g⟩ : View.Piece (Elt Ideal) S256x512 .bf16) ∈
        outPieces x0 x1 x2 x3 x4 x5 x6 := by
      intro g; fin_cases g <;> simp [outPieces]
    refine ⟨_, hm ⟨l.val / 128, by omega⟩, ?_⟩
    simp only [colsOf, Rect.mem_set_unit]
    intro a
    fin_cases a <;> simp [ix2] <;> omega

theorem stored_block (d : Fin 2) (h : Fin 4) (k w : Fin 128) :
    stored (state2 x1 x2 x3 x5 (d == 1) h) (ix6 0 0 0 0 k w) = lastState z lbs (d == 1) n h k w := by
  pointwise [stored]
  exact congrFun (congrFun (state2_block hB (d == 1) h) k) w

theorem states_block (d : Fin 2) (h : Fin 4) (k w : Fin 128) :
    View.canon (statePieces x1 x2 x3 x5) (ix6 0 0 d h k w) = lastState z lbs (d == 1) n h k w := by
  have key := View.canon_apply_of_pieces (Val := Elt Ideal) (S := S1x1x2x4x128x128) (e := .f32)
    (fun y => lastState z lbs ((show Fin 2 from y 2) == 1) n (y 3) (y 4) (y 5)) (statePieces x1 x2 x3 x5) ?_ (ix6 0 0 d h k w) ?_
  · exact key
  · intro p hp j
    obtain ⟨d, g, rfl⟩ : ∃ (d : Fin 2) (g : Fin 4), p = ⟨sRect d g, stored (state2 x1 x2 x3 x5 (d == 1) g)⟩ := by
      simp only [statePieces, List.mem_cons, List.mem_nil_iff, or_false] at hp
      rcases hp with h | h | h | h | h | h | h | h <;> exact ⟨_, _, h⟩
    obtain ⟨k, w, rfl⟩ : ∃ k w : Fin 128, j = ix6 0 0 0 0 k w :=
      ⟨j 4, j 5, by funext a; fin_cases a <;> first | rfl | exact Subsingleton.elim (α := Fin 1) _ _⟩
    simp only
    rw [sRect_emb]
    exact stored_block hB d g k w
  · have hm : ∀ (d : Fin 2) (g : Fin 4), (⟨sRect d g, stored (state2 x1 x2 x3 x5 (d == 1) g)⟩ : View.Piece (Elt Ideal) S1x1x2x4x128x128 .f32) ∈
        statePieces x1 x2 x3 x5 := by
      intro d g; fin_cases d <;> fin_cases g <;> simp [statePieces]
    refine ⟨_, hm d h, ?_⟩
    simp only [sRect, Rect.mem_set_unit]
    intro a
    fin_cases a <;> simp [ix6]

end

end Cert.KernelIdeal.Hgrn

end
-- ==== Proof.Hgrn.Arrays.lean ====
/- The blocks of the grid's points, and the arrays the launch leaves. -/
module

public import proofs.«01_k».proof.Proof.Gen.KernelIdeal.Value
public import Idealize.ShloMosaic.Lib.Pipeline.ValueKit
public import proofs.«01_k».proof.Proof.Hgrn.BlockValue

@[expose] public section

set_option maxRecDepth 16384

noncomputable section

namespace Cert.KernelIdeal.Hgrn

open Cert.Hgrn Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

def zM : Fin 10240 → Fin 3328 → EReal := fun i j => m ((c : Thread nD τ).loc main_arg0) (ix2 i j)
def lbsM : Fin 2 → Fin 2 → Fin 512 → EReal := fun a b l => m ((c : Thread nD τ).loc main_arg1) (ix3 a b l)
def gainM : Fin 512 → EReal := fun l => m ((c : Thread nD τ).loc main_arg2) (ix2 0 l)

/-- The sequence of a grid point. -/
def seqOf (t : Fin cfg0.N) : Fin 32 := ⟨t.val, t.isLt⟩

theorem index0 : ∀ t : Fin cfg0.N, win0_0.index t = ![t.val, 0] := (by decide +kernel : ∀ t : Fin grid0.N, win0_0.index t = ![t.val, 0])
theorem in0 (t : Fin cfg0.N) (r : Fin 256) (l : Fin 512) : X0_0 m c t (ix2 r l) = field (zM m c) 0 (seqOf t) r l := by
  unfold X0_0 Pipeline.Window.fill
  rw [dif_pos (moved0_0 t _)]
  blk_simp [iblk]
  rw [V_main_arg0]
  refine congrArg _ ?_
  funext a
  fin_cases a <;> apply Fin.ext <;> blk_simp [index0] <;> simp [ix2, seqOf] <;> omega

theorem index1 : ∀ t : Fin cfg0.N, win0_1.index t = ![t.val, 1] := (by decide +kernel : ∀ t : Fin grid0.N, win0_1.index t = ![t.val, 1])
theorem in1 (t : Fin cfg0.N) (r : Fin 256) (l : Fin 512) : X0_1 m c t (ix2 r l) = field (zM m c) 1 (seqOf t) r l := by
  unfold X0_1 Pipeline.Window.fill
  rw [dif_pos (moved0_1 t _)]
  blk_simp [iblk]
  rw [V_main_arg0]
  refine congrArg _ ?_
  funext a
  fin_cases a <;> apply Fin.ext <;> blk_simp [index1] <;> simp [ix2, seqOf] <;> omega

theorem index2 : ∀ t : Fin cfg0.N, win0_2.index t = ![t.val, 2] := (by decide +kernel : ∀ t : Fin grid0.N, win0_2.index t = ![t.val, 2])
theorem in2 (t : Fin cfg0.N) (r : Fin 256) (l : Fin 512) : X0_2 m c t (ix2 r l) = field (zM m c) 2 (seqOf t) r l := by
  unfold X0_2 Pipeline.Window.fill
  rw [dif_pos (moved0_2 t _)]
  blk_simp [iblk]
  rw [V_main_arg0]
  refine congrArg _ ?_
  funext a
  fin_cases a <;> apply Fin.ext <;> blk_simp [index2] <;> simp [ix2, seqOf] <;> omega

theorem index3 : ∀ t : Fin cfg0.N, win0_3.index t = ![t.val, 3] := (by decide +kernel : ∀ t : Fin grid0.N, win0_3.index t = ![t.val, 3])
theorem in3 (t : Fin cfg0.N) (r : Fin 256) (l : Fin 512) : X0_3 m c t (ix2 r l) = field (zM m c) 3 (seqOf t) r l := by
  unfold X0_3 Pipeline.Window.fill
  rw [dif_pos (moved0_3 t _)]
  blk_simp [iblk]
  rw [V_main_arg0]
  refine congrArg _ ?_
  funext a
  fin_cases a <;> apply Fin.ext <;> blk_simp [index3] <;> simp [ix2, seqOf] <;> omega

theorem index4 : ∀ t : Fin cfg0.N, win0_4.index t = ![t.val, 4] := (by decide +kernel : ∀ t : Fin grid0.N, win0_4.index t = ![t.val, 4])
theorem in4 (t : Fin cfg0.N) (r : Fin 256) (l : Fin 512) : X0_4 m c t (ix2 r l) = field (zM m c) 4 (seqOf t) r l := by
  unfold X0_4 Pipeline.Window.fill
  rw [dif_pos (moved0_4 t _)]
  blk_simp [iblk]
  rw [V_main_arg0]
  refine congrArg _ ?_
  funext a
  fin_cases a <;> apply Fin.ext <;> blk_simp [index4] <;> simp [ix2, seqOf] <;> omega

theorem index5 : ∀ t : Fin cfg0.N, win0_5.index t = ![0, 0, 0] := (by decide +kernel : ∀ t : Fin grid0.N, win0_5.index t = ![0, 0, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0, 0, 0, 0, 0] :=
  (by decide +kernel : ∀ t : Fin grid0.N, win0_8.index t = ![t.val, 0, 0, 0, 0, 0])

theorem in5 (t : Fin cfg0.N) (a b : Fin 2) (l : Fin 512) : iblk m c 5 t (ix3 a b l) = lbsM m c a b l := by
  blk_simp [iblk]
  rw [V_main_arg1]
  refine congrArg _ ?_
  funext a
  fin_cases a <;> apply Fin.ext <;> blk_simp [index5] <;> simp [ix3]

theorem gain_V (l : Fin 512) : V m c main_v1 (ix2 0 l) = gainM m c l := by
  have e : V m c main_v1 = shapeCast S1x512 (shapeCast S512 (m ((c : Thread nD τ).loc main_arg2)) shapeCasts_S1x512_S512) shapeCasts_S512_S1x512 := by
    unfold_abbrev_sides
    after_results
    rfl
  rw [e]
  pointwise
  rfl

theorem in6 (t : Fin cfg0.N) (l : Fin 512) : iblk m c 6 t (ix2 0 l) = gainM m c l := by
  rw [← gain_V]
  blk_simp [iblk]
  refine congrArg _ ?_
  funext a
  fin_cases a <;> apply Fin.ext <;> blk_simp [index6] <;> simp [ix2]

theorem blocks (t : Fin cfg0.N) : Blocks (zM m c) (lbsM m c) (gainM m c) (seqOf t) (X0_0 m c t) (X0_1 m c t) (X0_2 m c t) (X0_3 m c t)
    (X0_4 m c t) (iblk m c 5 t) (iblk m c 6 t) :=
  ⟨in0 m c t, in1 m c t, in2 m c t, in3 m c t, in4 m c t, in5 m c t, in6 m c t⟩

/-- The two arrays. -/
def outArr (z : Fin 10240 → Fin 3328 → EReal) (lbs : Fin 2 → Fin 2 → Fin 512 → EReal) (gain : Fin 512 → EReal) : S8192x512.Idx → EReal := fun y =>
  result z lbs gain ⟨(y 0).val / 256, by have : (y 0).val < 8192 := (y 0).isLt; omega⟩
    ⟨(y 1).val / 128, by have : (y 1).val < 512 := (y 1).isLt; omega⟩ ⟨(y 0).val % 256, by omega⟩ ⟨(y 1).val % 128, by omega⟩

def stateArr (z : Fin 10240 → Fin 3328 → EReal) (lbs : Fin 2 → Fin 2 → Fin 512 → EReal) : S32x1x2x4x128x128.Idx → EReal := fun y =>
  lastState z lbs ((show Fin 2 from y 2) == 1) (y 0) (y 3) (y 4) (y 5)

theorem emb7 (t : Fin cfg0.N) (r : Fin 256) (l : Fin 512) :
    (win0_7.blk t).view.emb (ix2 r l) = (ix2 ⟨256 * t.val + r.val, by have : t.val < 32 := t.isLt; omega⟩ l : S8192x512.Idx) := by
  funext a
  fin_cases a <;> apply Fin.ext <;> blk_simp [index7] <;> simp [ix2] <;> omega

theorem emb8 (t : Fin cfg0.N) (d : Fin 2) (h : Fin 4) (k w : Fin 128) :
    (win0_8.blk t).view.emb (ix6 0 0 d h k w) = (ix6 (seqOf t) 0 d h k w : S32x1x2x4x128x128.Idx) := by
  funext a
  fin_cases a <;> apply Fin.ext <;> blk_simp [index8] <;> simp [ix6, seqOf]

theorem final7 : (dats m 0 c).arrAt 7 cfg0.N = outArr (zM m c) (lbsM m c) (gainM m c) := by
  refine (dats m 0 c).arrAt_eq_of_covers 7 _ (by decide +kernel) fun t hf y => ?_
  obtain ⟨r, l, rfl⟩ : ∃ (r : Fin 256) (l : Fin 512), y = ix2 r l := ⟨y 0, y 1, by funext a; fin_cases a <;> rfl⟩
  blk_simp
  rw [after0_7]
  unfold outsAt0
  dsimp only
  rw [out_eq]
  refine (out_block (blocks m c t) r l).trans (Eq.trans ?_ (congrArg (outArr (zM m c) (lbsM m c) (gainM m c)) (emb7 t r l)).symm)
  have hr := r.isLt
  show _ = result _ _ _ ⟨(256 * t.val + r.val) / 256, _⟩ ⟨l.val / 128, _⟩ ⟨(256 * t.val + r.val) % 256, _⟩ ⟨l.val % 128, _⟩
  congr 1 <;> apply Fin.ext <;> simp [seqOf] <;> omega

theorem final8 : (dats m 0 c).arrAt 8 cfg0.N = stateArr (zM m c) (lbsM m c) := by
  refine (dats m 0 c).arrAt_eq_of_covers 8 _ (by decide +kernel) fun t hf y => ?_
  obtain ⟨d, h, k, w, rfl⟩ : ∃ (d : Fin 2) (h : Fin 4) (k w : Fin 128), y = ix6 0 0 d h k w :=
    ⟨y 2, y 3, y 4, y 5, by funext a; fin_cases a <;> first | rfl | exact Subsingleton.elim (α := Fin 1) _ _⟩
  blk_simp
  rw [after0_8]
  unfold outsAt0
  dsimp only
  rw [states_eq]
  exact (states_block (blocks m c t) d h k w).trans (congrArg (stateArr (zM m c) (lbsM m c)) (emb8 t d h k w)).symm

end Cert.KernelIdeal.Hgrn

end
-- ==== Proof.Hgrn.Scan.lean ====
/- The reference's chunkwise recurrence as functions of whole vectors, for either direction. -/
module

public import proofs.«01_k».proof.Proof.Gen.ReferenceIdeal.Read

@[expose] public section

set_option maxRecDepth 16384

noncomputable section

namespace Cert.ReferenceIdeal.Hgrn

open Cert.ReferenceIdeal Cert.ReferenceIdeal.Gen Cert.ReferenceIdeal.Read Idealize.ShloMosaic Idealize.SL.Sem

variable {F : FTy → Type} [FloatOps F]

def split (x : FVec F S32x4x256x128 .f32) : FVec F S32x4x4x64x128 .f32 :=
  shapeCast _ x shapeCasts_S32x4x256x128_S32x4x4x64x128

def keysV (l : FVec F S32x4x256x128 .f32) : FVec F S32x4x4x64x128 .f32 := split (Host.negf (Host.expm1 l))

def cumV (l : FVec F S32x4x256x128 .f32) : FVec F S32x4x4x64x128 .f32 :=
  Host.reduceWindowAdd ![1, 1, 1, 64, 1] ![1, 1, 1, 1, 1] ![0, 0, 0, 63, 0] ![0, 0, 0, 0, 0] (split l)
    (broadcastInDim S_ ![] bcast_S_S_ (constant S_ .f32 0x00000000#32))
    reduceWindows_S32x4x4x64x128_S32x4x4x64x128_w1s1p0_0_w1s1p0_0_w1s1p0_0_w64s1p63_0_w1s1p0_0 h_S_

def lastRow (b : FVec F S32x4x4x64x128 .f32) : FVec F S32x4x4x1x128 .f32 :=
  extractStridedSlice S32x4x4x1x128 ![0, 0, 0, 63, 0] b slices_S32x4x4x64x128_S32x4x4x1x128_0_0_0_63_0

def midV (b : FVec F S32x4x4x64x128 .f32) : FVec F S32x4x4x64x128 .f32 :=
  broadcastInDim S32x4x4x64x128 ![0, 1, 2, 3, 4] bcast_S32x4x4x1x128_S32x4x4x64x128_0_1_2_3_4
    (extractStridedSlice S32x4x4x1x128 ![0, 0, 0, 32, 0] b slices_S32x4x4x64x128_S32x4x4x1x128_0_0_0_32_0)

def lastV (b : FVec F S32x4x4x64x128 .f32) : FVec F S32x4x4x64x128 .f32 :=
  broadcastInDim S32x4x4x64x128 ![0, 1, 2, 3, 4] bcast_S32x4x4x1x128_S32x4x4x64x128_0_1_2_3_4 (lastRow b)

def causalV : IVec S64x64 1 :=
  select (cmpi .sge (addi (iotaInDim S64x64 32 0) (broadcastInDim S64x64 ![] bcast_S_S64x64 (constantI S_ 32 0#32)))
      (iotaInDim S64x64 32 1))
    (broadcastInDim S64x64 ![] bcast_S_S64x64 (constantI S_ 1 1#1))
    (broadcastInDim S64x64 ![] bcast_S_S64x64 (constantI S_ 1 0#1))

def weightV (q l : FVec F S32x4x256x128 .f32) : FVec F S32x4x4x64x64 .f32 :=
  Host.dotGeneral dot_S32x4x4x64x128_S32x4x4x64x128_S32x4x4x64x64_4_4_3_3_012_012 none
    (mulf (split q) (Host.exp (subf (cumV l) (midV (cumV l)))))
    (mulf (keysV l) (Host.exp (subf (midV (cumV l)) (cumV l))))

def withinV (q l v : FVec F S32x4x256x128 .f32) : FVec F S32x4x4x64x128 .f32 :=
  Host.dotGeneral dot_S32x4x4x64x64_S32x4x4x64x128_S32x4x4x64x128_4_3_3_4_012_012 none
    (select (broadcastInDim S32x4x4x64x64 ![3, 4] bcast_S64x64_S32x4x4x64x64_3_4 causalV) (weightV q l)
      (broadcastInDim S32x4x4x64x64 ![] bcast_S_S32x4x4x64x64 (id (constant S_ .f32 0x00000000#32))))
    (split v)

def addV (l v : FVec F S32x4x256x128 .f32) : FVec F S32x4x4x128x128 .f32 :=
  Host.dotGeneral dot_S32x4x4x64x128_S32x4x4x64x128_S32x4x4x128x128_3_3_4_4_012_012 none
    (mulf (keysV l) (Host.exp (subf (lastV (cumV l)) (cumV l)))) (split v)

def decayV (l : FVec F S32x4x256x128 .f32) : FVec F S32x4x4x128 .f32 :=
  Host.exp (shapeCast _ (lastRow (cumV l)) shapeCasts_S32x4x4x1x128_S32x4x4x128)

/-- One chunk's decay, and what it adds to the state. -/
def decayAt (c : Fin 4) (D : FVec F S32x4x4x128 .f32) : FVec F S32x4x1x128 .f32 :=
  match c with
  | 0 => extractStridedSlice S32x4x1x128 ![0, 0, 0, 0] D slices_S32x4x4x128_S32x4x1x128_0_0_0_0
  | 1 => extractStridedSlice S32x4x1x128 ![0, 0, 1, 0] D slices_S32x4x4x128_S32x4x1x128_0_0_1_0
  | 2 => extractStridedSlice S32x4x1x128 ![0, 0, 2, 0] D slices_S32x4x4x128_S32x4x1x128_0_0_2_0
  | 3 => extractStridedSlice S32x4x1x128 ![0, 0, 3, 0] D slices_S32x4x4x128_S32x4x1x128_0_0_3_0

def addAt (c : Fin 4) (A : FVec F S32x4x4x128x128 .f32) : FVec F S32x4x1x128x128 .f32 :=
  match c with
  | 0 => extractStridedSlice S32x4x1x128x128 ![0, 0, 0, 0, 0] A slices_S32x4x4x128x128_S32x4x1x128x128_0_0_0_0_0
  | 1 => extractStridedSlice S32x4x1x128x128 ![0, 0, 1, 0, 0] A slices_S32x4x4x128x128_S32x4x1x128x128_0_0_1_0_0
  | 2 => extractStridedSlice S32x4x1x128x128 ![0, 0, 2, 0, 0] A slices_S32x4x4x128x128_S32x4x1x128x128_0_0_2_0_0
  | 3 => extractStridedSlice S32x4x1x128x128 ![0, 0, 3, 0, 0] A slices_S32x4x4x128x128_S32x4x1x128x128_0_0_3_0_0

def stepV (c : Fin 4) (l v : FVec F S32x4x256x128 .f32) (S : FVec F S32x4x128x128 .f32) : FVec F S32x4x128x128 .f32 :=
  addf (mulf (broadcastInDim S32x4x128x128 ![0, 1, 2, 3] bcast_S32x4x128x1_S32x4x128x128_0_1_2_3
        (broadcastInDim S32x4x128x1 ![0, 1, 2] bcast_S32x4x128_S32x4x128x1_0_1_2
          (shapeCast _ (decayAt c (decayV l)) shapeCasts_S32x4x1x128_S32x4x128))) S)
    (shapeCast _ (addAt c (addV l v)) shapeCasts_S32x4x1x128x128_S32x4x128x128)

def one (S : FVec F S32x4x128x128 .f32) : FVec F S32x4x1x128x128 .f32 :=
  broadcastInDim S32x4x1x128x128 ![0, 1, 3, 4] bcast_S32x4x128x128_S32x4x1x128x128_0_1_3_4 S

def state1 (l v : FVec F S32x4x256x128 .f32) (S : FVec F S32x4x128x128 .f32) := stepV 0 l v S
def state2 (l v : FVec F S32x4x256x128 .f32) (S : FVec F S32x4x128x128 .f32) := stepV 1 l v (state1 l v S)
def state3 (l v : FVec F S32x4x256x128 .f32) (S : FVec F S32x4x128x128 .f32) := stepV 2 l v (state2 l v S)
def state4 (l v : FVec F S32x4x256x128 .f32) (S : FVec F S32x4x128x128 .f32) := stepV 3 l v (state3 l v S)

def scanV (q l v : FVec F S32x4x256x128 .f32) (S : FVec F S32x4x128x128 .f32) : FVec F S32x4x256x128 .f32 :=
  shapeCast _
    (addf (withinV q l v)
      (Host.dotGeneral dot_S32x4x4x64x128_S32x4x4x128x128_S32x4x4x64x128_4_3_3_4_012_012 none
        (mulf (split q) (Host.exp (cumV l)))
        (concatenate S32x4x4x128x128 2
          [⟨S32x4x1x128x128, one S⟩, ⟨S32x4x1x128x128, one (state1 l v S)⟩, ⟨S32x4x1x128x128, one (state2 l v S)⟩,
           ⟨S32x4x1x128x128, one (state3 l v S)⟩]
          concatenates_S32x4x1x128x128_S32x4x1x128x128_S32x4x1x128x128_S32x4x1x128x128_S32x4x4x128x128_d2)))
    shapeCasts_S32x4x4x64x128_S32x4x256x128

section Values

variable (x0 : (⟨S10240x3328, .bf16⟩ : BufTy).Contents (Elt F)) (x1 : (⟨S2x2x512, .f32⟩ : BufTy).Contents (Elt F))

theorem scan_forward : val_main_v141 (F := F) x0 x1
    = scanV (val_main_v23 (F := F) x0) (val_main_v46 (F := F) x0 x1) (val_main_v25 (F := F) x0) (val_main_v70 (F := F)) := rfl

theorem scan_backward : val_main_v217 (F := F) x0 x1
    = scanV (Host.reverse [2] (val_main_v23 (F := F) x0)) (Host.reverse [2] (val_main_v67 (F := F) x0 x1))
        (Host.reverse [2] (val_main_v25 (F := F) x0)) (val_main_v146 (F := F)) := rfl

theorem end_forward : val_main_v131 (F := F) x0 x1
    = state4 (val_main_v46 (F := F) x0 x1) (val_main_v25 (F := F) x0) (val_main_v70 (F := F)) := rfl

theorem end_backward : val_main_v207 (F := F) x0 x1
    = state4 (Host.reverse [2] (val_main_v67 (F := F) x0 x1)) (Host.reverse [2] (val_main_v25 (F := F) x0))
        (val_main_v146 (F := F)) := rfl

end Values

end Cert.ReferenceIdeal.Hgrn

end
-- ==== Proof.Hgrn.Window.lean ====
/- A sum over windows, element by element, over extended reals. -/
module

public import Idealize.ShloMosaic.Lib.Pointwise

@[expose] public section

noncomputable section

namespace Cert.Hgrn

open Idealize.ShloMosaic

theorem foldl_add_eq_sum {n : Nat} (g : Fin n → EReal) (z : EReal) :
    (List.finRange n).foldl (fun r i => r + g i) z = z + ∑ i, g i := by
  rw [← List.sum_ofFn, List.ofFn_eq_map]
  generalize List.finRange n = L
  induction L generalizing z with
  | nil => simp
  | cons a L ih => rw [List.foldl_cons, ih, List.map_cons, List.sum_cons, add_assoc]

/-- An element of a window sum that starts at zero: the operand's elements under the window. -/
theorem window_sum {s t u : Shape} (window strides lo hi : Fin s.rank → Nat) (x : FVec Ideal s .f32) (init : FVec Ideal u .f32)
    (h : s.ReduceWindows window strides lo hi t) (hu : 0 < u.numel) (h0 : init (Shape.Idx.first hu) = (0 : EReal)) (j : t.Idx) :
    Host.reduceWindowAdd window strides lo hi x init h hu j
      = ∑ w : (⟨s.rank, window⟩ : Shape).Idx,
          (if hin : ∀ a, lo a ≤ (j (a.cast h.1.symm)).val * strides a + (w a).val
              ∧ (j (a.cast h.1.symm)).val * strides a + (w a).val - lo a < s.size a
            then (x (fun a => ⟨(j (a.cast h.1.symm)).val * strides a + (w a).val - lo a, (hin a).2⟩) : EReal) else 0) := by
  show Ideal.hostReduceWindowAdd window strides lo hi h x (init (Shape.Idx.first hu)) j = _
  rw [h0]
  unfold Ideal.hostReduceWindowAdd
  refine (foldl_add_eq_sum _ _).trans ?_
  rw [zero_add]
  refine Eq.trans ?_ (Equiv.sum_comp (Shape.rowMajor ⟨s.rank, window⟩).symm (fun w : (⟨s.rank, window⟩ : Shape).Idx =>
    (if hin : ∀ a, lo a ≤ (j (a.cast h.1.symm)).val * strides a + (w a).val
              ∧ (j (a.cast h.1.symm)).val * strides a + (w a).val - lo a < s.size a
            then (x (fun a => ⟨(j (a.cast h.1.symm)).val * strides a + (w a).val - lo a, (hin a).2⟩) : EReal) else 0)))
  refine Finset.sum_congr rfl fun n _ => ?_
  dsimp only
  split <;> rfl

/-- A window of 64 that ends at position `i`, cut to the positions there are. -/
theorem sum_window (i : Fin 64) (F : Fin 64 → EReal) :
    (∑ n : Fin 64, if h : 63 ≤ i.val + n.val then F ⟨i.val + n.val - 63, by omega⟩ else 0) = ∑ j : Fin 64, if j ≤ i then F j else 0 := by
  have e : ∀ n : Fin 64, (if h : 63 ≤ i.val + n.val then F ⟨i.val + n.val - 63, by omega⟩ else 0)
      = if 63 ≤ i.val + n.val then F ⟨i.val + n.val - 63, by omega⟩ else 0 := fun n => by split <;> rfl
  simp only [e]
  rw [← Finset.sum_filter, ← Finset.sum_filter]
  refine Finset.sum_bij' (fun n _ => ⟨i.val + n.val - 63, by omega⟩)
    (fun j hj => ⟨j.val + 63 - i.val, by have := Fin.le_def.mp (Finset.mem_filter.mp hj).2; omega⟩) ?_ ?_ ?_ ?_ ?_
  · intro n hn
    simp only [Finset.mem_filter, Finset.mem_univ, true_and, Fin.le_def] at hn ⊢
    omega
  · intro n hn
    simp only [Finset.mem_filter, Finset.mem_univ, true_and, Fin.le_def] at hn ⊢
    omega
  · intro n hn
    simp only [Finset.mem_filter, Finset.mem_univ, true_and, Fin.ext_iff] at hn ⊢
    omega
  · intro n hn
    simp only [Finset.mem_filter, Finset.mem_univ, true_and, Fin.le_def, Fin.ext_iff] at hn ⊢
    omega
  · intro n hn; rfl

end Cert.Hgrn

end
-- ==== Proof.Hgrn.ScanRead.lean ====
/- The reference's recurrence, read as the recurrence over four chunks. -/
module

public import proofs.«01_k».proof.Proof.Hgrn.Scan
public import proofs.«01_k».proof.Proof.Hgrn.Window
public import proofs.«01_k».proof.Proof.Hgrn.Math

@[expose] public section

set_option maxRecDepth 16384

noncomputable section

namespace Cert.ReferenceIdeal.Hgrn

open Cert.Hgrn Cert.ReferenceIdeal Cert.ReferenceIdeal.Gen Idealize.ShloMosaic Idealize.SL.Sem

/-- Chunk `c` of head `h` of sequence `n`. -/
def chunkV (x : FVec Ideal S32x4x256x128 .f32) (n : Fin 32) (h c : Fin 4) : Chunk := fun i k =>
  x (ix4 n h ⟨64 * c.val + i.val, by omega⟩ k)

theorem split_apply (x : FVec Ideal S32x4x256x128 .f32) (n : Fin 32) (h c : Fin 4) (i : Fin 64) (k : Fin 128) :
    split x (ix5 n h c i k) = chunkV x n h c i k := by
  pointwise [split]
  unfold chunkV
  simp only [mul_comm]

theorem cumV_apply (l : FVec Ideal S32x4x256x128 .f32) (n : Fin 32) (h c : Fin 4) (i : Fin 64) (k : Fin 128) :
    cumV l (ix5 n h c i k) = cum (chunkV l n h c) i k := by
  unfold cumV
  rw [window_sum]
  · refine (sum_idx5 (n0 := 1) (n1 := 1) (n2 := 1) (n3 := 64) (n4 := 1) _).trans ?_
    rw [Fin.sum_univ_one, Fin.sum_univ_one, Fin.sum_univ_one]
    unfold cum
    rw [← sum_window i fun j => chunkV l n h c j k]
    refine Finset.sum_congr rfl fun w _ => ?_
    rw [Fin.sum_univ_one]
    by_cases hw : 63 ≤ i.val + w.val
    · rw [dif_pos hw, dif_pos, ← split_apply]
      · congr 1
        funext a
        fin_cases a <;> apply Fin.ext <;> simp [ix5]
      · intro a
        fin_cases a <;> simp [ix5] <;> omega
    · rw [dif_neg hw, dif_neg]
      intro hin
      have := (hin 3).1
      simp [ix5] at this
      omega
  · pointwise

theorem keysV_chunk (l : FVec Ideal S32x4x256x128 .f32) (n : Fin 32) (h c : Fin 4) :
    chunkV (Host.negf (Host.expm1 l)) n h c = key (chunkV l n h c) := rfl

theorem weightV_apply (q l : FVec Ideal S32x4x256x128 .f32) (n : Fin 32) (h c : Fin 4) (i j : Fin 64) :
    weightV q l (ix5 n h c i j) = weight (key (chunkV l n h c)) (chunkV q n h c) (chunkV l n h c) i j := by
  pointwise [weightV, keysV, midV, split_apply, cumV_apply, keysV_chunk]
  rfl

theorem causalV_apply (i j : Fin 64) : causalV (ix2 i j) = if j ≤ i then 1#1 else 0#1 := by
  revert i j; decide +kernel

theorem withinV_apply (q l v : FVec Ideal S32x4x256x128 .f32) (n : Fin 32) (h c : Fin 4) (i : Fin 64) (w : Fin 128) :
    withinV q l v (ix5 n h c i w)
      = ∑ j : Fin 64, (if j ≤ i then weight (key (chunkV l n h c)) (chunkV q n h c) (chunkV l n h c) i j else 0)
          * chunkV v n h c j w := by
  pointwise [withinV, split_apply, causalV_apply, weightV_apply, id]
  refine Finset.sum_congr rfl fun j _ => ?_
  split
  · rfl
  · rw [zero_mul]; rfl

/-- The state of one sequence and head. -/
def stateV (S : FVec Ideal S32x4x128x128 .f32) (n : Fin 32) (h : Fin 4) : State := fun k w => S (ix4 n h k w)

theorem stepV_apply (c : Fin 4) (l v : FVec Ideal S32x4x256x128 .f32) (S : FVec Ideal S32x4x128x128 .f32) (n : Fin 32) (h : Fin 4) :
    stateV (stepV c l v S) n h = next (chunkV l n h c) (chunkV v n h c) (stateV S n h) := by
  funext k w
  unfold stateV next nextWith
  fin_cases c <;>
    pointwise [stepV, decayAt, addAt, decayV, addV, lastRow, lastV, keysV, split_apply, cumV_apply, keysV_chunk] <;>
    (rw [mul_comm]; refine congrArg _ (Finset.sum_congr rfl fun j _ => mul_comm _ _))

variable (q l v : FVec Ideal S32x4x256x128 .f32) (S : FVec Ideal S32x4x128x128 .f32) (n : Fin 32) (h : Fin 4)

theorem state4_apply : stateV (state4 l v S) n h
    = final (fun c => chunkV l n h c) (fun c => chunkV v n h c) (stateV S n h) := by
  unfold state4 state3 state2 state1
  simp only [stepV_apply]
  rfl

theorem scanV_apply (c : Fin 4) (i : Fin 64) (w : Fin 128) :
    scanV q l v S (ix4 n h ⟨64 * c.val + i.val, by omega⟩ w)
      = out (chunkV q n h c) (chunkV l n h c) (chunkV v n h c)
          (prior (fun c => chunkV l n h c) (fun c => chunkV v n h c) (stateV S n h) c) i w := by
  pointwise [scanV, one, split_apply, cumV_apply]
  rw [withinV_apply]
  unfold out outWith
  refine congrArg _ (Finset.sum_congr rfl fun k _ => congrArg _ ?_)
  have e : ∀ (c : Fin 4) (l v S), stateV (stepV c l v S) n h k w = stepV c l v S (ix4 n h k w) := fun _ _ _ _ => rfl
  unfold state3 state2 state1
  simp only [← e, stepV_apply]
  fin_cases c <;> rfl

end Cert.ReferenceIdeal.Hgrn

end
-- ==== Proof.Hgrn.RefValue.lean ====
/- The reference's two results are the recurrence's. -/
module

public import proofs.«01_k».proof.Proof.Hgrn.ScanRead
public import proofs.«01_k».proof.Proof.Hgrn.Spec

@[expose] public section

set_option maxRecDepth 16384

noncomputable section

namespace Cert.ReferenceIdeal.Hgrn

open Cert.Hgrn Cert.ReferenceIdeal Cert.ReferenceIdeal.Gen Cert.ReferenceIdeal.Read Idealize.ShloMosaic Idealize.SL.Sem

variable (x0 : FVec Ideal S10240x3328 .bf16) (x1 : FVec Ideal S2x2x512 .f32) (x2 : FVec Ideal S1x512 .f32)

def zOf : Fin 10240 → Fin 3328 → EReal := fun i j => x0 (ix2 i j)
def lbsOf : Fin 2 → Fin 2 → Fin 512 → EReal := fun a b l => x1 (ix3 a b l)
def gainOf : Fin 512 → EReal := fun l => x2 (ix2 0 l)

theorem negInf : Ideal.ofBits .f32 4286578688#32 = ⊥ := by simp [Ideal.ofBits, Ideal.ieee]

theorem soft_apply (b : Fin 2) (l : Fin 512) :
    val_main_v10 (F := Ideal) x1 (ix3 0 b l) = lower (x1 (ix3 0 b l)) (x1 (ix3 1 b l)) := by
  pointwise [val_main_v10, val_main_v9, val_main_v8, val_main_v7, val_main_v6, val_main_v5, val_main_v4, val_main_v3, val_main_v2,
    val_main_v1, val_main_v0, val_main_cst, val_main_cst_0, val_main_cst_1]
  have e : Finset.fold max (⊥ : EReal) (fun x => (x1 (ix3 x b l) : EReal)) (Finset.univ : Finset (Fin 2))
      = max (x1 (ix3 0 b l)) (x1 (ix3 1 b l)) := by
    rw [show (Finset.univ : Finset (Fin 2)) = insert 0 {1} from rfl, Finset.fold_insert (by decide), Finset.fold_singleton]
    simp
  rw [negInf, e, max_eq_right bot_le, Fin.sum_univ_two]
  rfl

theorem lb_apply (b : Fin 2) (l : Fin 512) :
    val_main_v13 (F := Ideal) x1 (ix2 b l) = val_main_v10 (F := Ideal) x1 (ix3 0 b l) := by
  have e : val_main_v11 (F := Ideal) x1 (ix3 0 b l) = val_main_v10 (F := Ideal) x1 (ix3 0 b l) := by
    unfold val_main_v11
    rw [window_sum]
    · refine (sum_idx3 (n0 := 2) (n1 := 1) (n2 := 1) _).trans ?_
      rw [Fin.sum_univ_two, Fin.sum_univ_one, Fin.sum_univ_one, Fin.sum_univ_one, Fin.sum_univ_one, dif_neg, dif_pos, zero_add]
      · congr 1
        funext a
        fin_cases a <;> apply Fin.ext <;> simp [ix3]
      · intro a
        fin_cases a <;> simp [ix3] <;> omega
      · intro hin
        have := (hin 0).1
        simp [ix3] at this
    · pointwise [val_main_call0_call0_v0, val_main_call0_call0_cst]
  pointwise [val_main_v13, val_main_v12]
  exact e

theorem z_at (p : Fin 5) (n : Fin 32) (r : Fin 256) (l : Fin 512) (a : Fin 10240) (b : Fin 3328)
    (ha : a.val = 256 * n.val + r.val) (hb : b.val = 512 * p.val + l.val) : x0 (ix2 a b) = field (zOf x0) p n r l := by
  unfold field zOf
  congr 2
  exacts [Fin.ext ha, Fin.ext hb]

theorem q_apply (n : Fin 32) (h : Fin 4) (r : Fin 256) (k : Fin 128) :
    val_main_v23 (F := Ideal) x0 (ix4 n h r k) = field (zOf x0) 0 n r (lane h k) := by
  pointwise [val_main_v23, val_main_v22, val_main_v17, val_main_v16, val_main_v15, val_main_v14]
  apply z_at <;> simp [lane] <;> omega

theorem v_apply (n : Fin 32) (h : Fin 4) (r : Fin 256) (k : Fin 128) :
    val_main_v25 (F := Ideal) x0 (ix4 n h r k) = field (zOf x0) 3 n r (lane h k) := by
  pointwise [val_main_v25, val_main_v24, val_main_v20, val_main_v16, val_main_v15, val_main_v14]
  apply z_at <;> simp [lane] <;> omega

theorem logistic_div (x : EReal) : Ideal.div 1 (1 + Ideal.exp (-x)) = Ideal.logistic x := rfl

/-- The logarithm of the gate of either direction. -/
theorem forget_apply (n : Fin 32) (h : Fin 4) (r : Fin 256) (k : Fin 128) :
    val_main_v46 (F := Ideal) x0 x1 (ix4 n h r k)
      = Ideal.log (gateOf (bnd (lbsOf x1) false (lane h k)) (field (zOf x0) 1 n r (lane h k))) := by
  pointwise [val_main_v46, val_main_v45, val_main_v44, val_main_v43, val_main_v42, val_main_v41, val_main_v40, val_main_v39, val_main_v38,
    val_main_v37, val_main_v36, val_main_v35, val_main_v34, val_main_v33, val_main_v32, val_main_v31, val_main_v30, val_main_v29, val_main_v28, val_main_v27,
    val_main_v26, val_main_v18, val_main_v16, val_main_v15, val_main_v14, val_main_cst_2, val_main_cst_3, val_main_cst_4]
  rw [lb_apply, soft_apply, logistic_div, z_at x0 1 n r (lane h k) _ _ (by simp; omega) (by simp [lane]; omega)]
  unfold lane gateOf bnd lbsOf
  simp only [Nat.mul_comm h.val 128]
  rfl

theorem forget_apply_back (n : Fin 32) (h : Fin 4) (r : Fin 256) (k : Fin 128) :
    val_main_v67 (F := Ideal) x0 x1 (ix4 n h r k)
      = Ideal.log (gateOf (bnd (lbsOf x1) true (lane h k)) (field (zOf x0) 2 n r (lane h k))) := by
  pointwise [val_main_v67, val_main_v66, val_main_v65, val_main_v64, val_main_v63, val_main_v62, val_main_v61, val_main_v60, val_main_v59,
    val_main_v58, val_main_v57, val_main_v56, val_main_v55, val_main_v54, val_main_v53, val_main_v52, val_main_v51, val_main_v50, val_main_v49, val_main_v48,
    val_main_v47, val_main_v19, val_main_v16, val_main_v15, val_main_v14, val_main_cst_5, val_main_cst_6, val_main_cst_7]
  rw [lb_apply, soft_apply, logistic_div, z_at x0 2 n r (lane h k) _ _ (by simp; omega) (by simp [lane]; omega)]
  unfold lane gateOf bnd lbsOf
  simp only [Nat.mul_comm h.val 128]
  rfl

/-- A vector of rows read in the direction `d`. -/
def facing (d : Bool) (x : FVec Ideal S32x4x256x128 .f32) : FVec Ideal S32x4x256x128 .f32 :=
  bif d then Host.reverse [2] x else x

theorem chunkV_facing (d : Bool) (x : FVec Ideal S32x4x256x128 .f32) (n : Fin 32) (h c : Fin 4) (i : Fin 64) (k : Fin 128) :
    chunkV (facing d x) n h c i k = x (ix4 n h (seqRow d c i) k) := by
  cases d
  · rfl
  · unfold chunkV facing
    simp only [cond_true]
    pointwise
    congr 2
    apply Fin.ext
    simp [seqRow, Fin.val_rev]

def forget (d : Bool) : FVec Ideal S32x4x256x128 .f32 := facing d (bif d then val_main_v67 (F := Ideal) x0 x1 else val_main_v46 (F := Ideal) x0 x1)

theorem chunk_q (d : Bool) (n : Fin 32) (h c : Fin 4) :
    chunkV (facing d (val_main_v23 (F := Ideal) x0)) n h c = fieldC (zOf x0) 0 d n h c := by
  funext i k; rw [chunkV_facing, q_apply]; rfl

theorem chunk_v (d : Bool) (n : Fin 32) (h c : Fin 4) :
    chunkV (facing d (val_main_v25 (F := Ideal) x0)) n h c = fieldC (zOf x0) 3 d n h c := by
  funext i k; rw [chunkV_facing, v_apply]; rfl

theorem chunk_forget (d : Bool) (n : Fin 32) (h c : Fin 4) :
    chunkV (forget x0 x1 d) n h c = logC (zOf x0) (lbsOf x1) d n h c := by
  funext i k
  unfold forget
  rw [chunkV_facing]
  cases d
  · exact forget_apply x0 x1 n h _ k
  · exact forget_apply_back x0 x1 n h _ k

theorem start_zero (S : FVec Ideal S32x4x128x128 .f32) (hS : S = val_main_v70 (F := Ideal) ∨ S = val_main_v146 (F := Ideal)) (n : Fin 32) (h : Fin 4) :
    stateV S n h = zero := by
  funext k w
  unfold stateV zero
  rcases hS with rfl | rfl
  · pointwise [val_main_v70, val_main_v69, val_main_v68, val_main_cst_8]
  · pointwise [val_main_v146, val_main_v145, val_main_v68, val_main_cst_8]

theorem scan_apply (d : Bool) (S : FVec Ideal S32x4x128x128 .f32) (n : Fin 32) (h : Fin 4) (hS : stateV S n h = zero)
    (r : Fin 256) (w : Fin 128) :
    scanV (facing d (val_main_v23 (F := Ideal) x0)) (forget x0 x1 d) (facing d (val_main_v25 (F := Ideal) x0)) S
        (ix4 n h ⟨64 * (chunkAt d r).val + (posAt d r).val, by omega⟩ w)
      = scannedRow (zOf x0) (lbsOf x1) d n h r w := by
  rw [scanV_apply]
  simp only [chunk_q, chunk_v, chunk_forget, hS]
  rfl

theorem fwd_apply (n : Fin 32) (h : Fin 4) (r : Fin 256) (w : Fin 128) :
    val_main_v141 (F := Ideal) x0 x1 (ix4 n h r w) = scannedRow (zOf x0) (lbsOf x1) false n h r w := by
  rw [scan_forward, ← scan_apply x0 x1 false _ n h (start_zero _ (Or.inl rfl) n h) r w]
  congr 2
  apply Fin.ext
  simp [chunkAt, posAt]
  omega

theorem bwd_apply (n : Fin 32) (h : Fin 4) (r : Fin 256) (w : Fin 128) :
    val_main_v217 (F := Ideal) x0 x1 (ix4 n h r.rev w) = scannedRow (zOf x0) (lbsOf x1) true n h r w := by
  rw [scan_backward, ← scan_apply x0 x1 true _ n h (start_zero _ (Or.inr rfl) n h) r w]
  refine congrArg _ ?_
  congr 2
  apply Fin.ext
  simp [chunkAt, posAt, Fin.val_rev]
  omega

/-- The first result: the normed and gated outputs. -/
theorem out_apply (n : Fin 32) (h : Fin 4) (r : Fin 256) (w : Fin 128) :
    val_main_v240 (F := Ideal) x0 x1 x2 (ix2 ⟨256 * n.val + r.val, by omega⟩ (lane h w))
      = result (zOf x0) (lbsOf x1) (gainOf x2) n h r w := by
  have e : ∀ x, val_main_v219 (F := Ideal) x0 x1 (ix4 n h r x)
      = scannedRow (zOf x0) (lbsOf x1) false n h r x + scannedRow (zOf x0) (lbsOf x1) true n h r x := by
    intro x
    rw [← fwd_apply, ← bwd_apply]
    pointwise [val_main_v219, val_main_v218]
    rfl
  have g : val_main_v21 (F := Ideal) x0 (ix3 n r (lane h w)) = field (zOf x0) 4 n r (lane h w) := by
    pointwise [val_main_v21, val_main_v16, val_main_v15, val_main_v14]
    apply z_at <;> simp [lane] <;> omega
  have o : x2 (ix2 0 ⟨h.val * 128 + w.val, by omega⟩) = gainOf x2 (lane h w) := by
    unfold gainOf lane
    simp only [Nat.mul_comm h.val 128]
  unfold lane at g ⊢
  pointwise [val_main_v240, val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_call7_v0, val_main_call7_v1, val_main_call7_v2, val_main_call7_v3, val_main_call7_v4, val_main_call7_v5, val_main_call7_cst, val_main_call7_cst_0, val_main_cst_12, val_main_cst_13, val_main_cst_14]
  simp only [e, g, o, logistic_div]
  rfl

/-- The second result: the last states. -/
theorem states_apply (n : Fin 32) (d : Fin 2) (h : Fin 4) (k w : Fin 128) :
    val_main_v244 (F := Ideal) x0 x1 (ix6 n 0 d h k w) = lastState (zOf x0) (lbsOf x1) (d == 1) n h k w := by
  have e : ∀ b S, stateV S n h = zero →
      state4 (forget x0 x1 b) (facing b (val_main_v25 (F := Ideal) x0)) S (ix4 n h k w) = lastState (zOf x0) (lbsOf x1) b n h k w := by
    intro b S hS
    refine (congrFun (congrFun (state4_apply (forget x0 x1 b) (facing b (val_main_v25 (F := Ideal) x0)) S n h) k) w).trans ?_
    simp only [chunk_v, chunk_forget, hS]
    rfl
  pointwise [val_main_v244, val_main_v243, val_main_v242, val_main_v241]
  rw [end_forward, end_backward]
  fin_cases d
  · exact e false _ (start_zero _ (Or.inl rfl) n h)
  · exact e true _ (start_zero _ (Or.inr rfl) n h)

end Cert.ReferenceIdeal.Hgrn

end
-- ==== Proof.Hgrn.Claims.lean ====
/- The frames of the three programs, and the equality of their results. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Hgrn.Arrays
public import proofs.«01_k».proof.Proof.Hgrn.RefValue
public import Idealize.ShloMosaic.Adequacy
public import Idealize.ShloMosaic.Init

@[expose] public section

set_option maxRecDepth 16384

noncomputable section

namespace Cert.Proof.Hgrn

open Cert.Hgrn Idealize.ShloMosaic Idealize.ShloMosaic.StableHlo Idealize.SL.Sem

/-- The first result of the reference is the recurrence's array. -/
theorem ref_out (x0 : FVec Ideal Cert.ReferenceIdeal.S10240x3328 .bf16) (x1 : FVec Ideal Cert.ReferenceIdeal.S2x2x512 .f32)
    (x2 : FVec Ideal Cert.ReferenceIdeal.S1x512 .f32) :
    Cert.ReferenceIdeal.Read.val_main_v240 (F := Ideal) x0 x1 x2
      = Cert.KernelIdeal.Hgrn.outArr (fun i j => x0 (ix2 i j)) (fun a b l => x1 (ix3 a b l)) (fun l => x2 (ix2 0 l)) := by
  funext y
  have h0 : (y 0).val < 8192 := (y 0).isLt
  have h1 : (y 1).val < 512 := (y 1).isLt
  have e := Cert.ReferenceIdeal.Hgrn.out_apply x0 x1 x2 ⟨(y 0).val / 256, by omega⟩ ⟨(y 1).val / 128, by omega⟩
    ⟨(y 0).val % 256, by omega⟩ ⟨(y 1).val % 128, by omega⟩
  refine Eq.trans (congrArg _ ?_) e
  funext a
  match a with
  | 0 => exact Fin.ext (Nat.div_add_mod _ _).symm
  | 1 => exact Fin.ext (Nat.div_add_mod _ _).symm

/-- The second result of the reference is the array of last states. -/
theorem ref_states (x0 : FVec Ideal Cert.ReferenceIdeal.S10240x3328 .bf16) (x1 : FVec Ideal Cert.ReferenceIdeal.S2x2x512 .f32) :
    Cert.ReferenceIdeal.Read.val_main_v244 (F := Ideal) x0 x1
      = Cert.KernelIdeal.Hgrn.stateArr (fun i j => x0 (ix2 i j)) (fun a b l => x1 (ix3 a b l)) := by
  funext y
  refine Eq.trans (congrArg _ ?_) (Cert.ReferenceIdeal.Hgrn.states_apply x0 x1 (y 0) (y 2) (y 3) (y 4) (y 5))
  funext a
  match a with
  | 0 => rfl
  | 1 => exact Subsingleton.elim (α := Fin 1) _ _
  | 2 => rfl
  | 3 => rfl
  | 4 => rfl
  | 5 => rfl

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The values of the run of the kernel and of the run of the reference agree. -/
theorem values : Cert.algebraic_KernelIdeal_ReferenceIdeal := fun m ρ m' ρ' _ hag =>
  ⟨fun c => Cert.KernelIdeal.Hgrn.outArr (Cert.KernelIdeal.Hgrn.zM m c) (Cert.KernelIdeal.Hgrn.lbsM m c) (Cert.KernelIdeal.Hgrn.gainM m c),
    fun c => Cert.KernelIdeal.Hgrn.stateArr (Cert.KernelIdeal.Hgrn.zM m c) (Cert.KernelIdeal.Hgrn.lbsM m c),
    (θ_run Cert.KernelIdeal.defs _ _).mono
      (fun _ h c => ⟨(h c).1.trans (Cert.KernelIdeal.Hgrn.final7 m c), (h c).2.1.trans (Cert.KernelIdeal.Hgrn.final8 m c), (h c).2.2⟩)
      (Cert.KernelIdeal.Value.run_blocks m ρ),
    (θ_run Cert.ReferenceIdeal.defs _ _).mono
      (fun _ h c => by
        obtain ⟨a0, a1, a2⟩ := hag c
        refine ⟨(h c).1.trans ((Cert.ReferenceIdeal.Read.val_main_v240_eq (launchContents m' c)).trans ((ref_out _ _ _).trans ?_)),
          (h c).2.1.trans ((Cert.ReferenceIdeal.Read.val_main_v244_eq (launchContents m' c)).trans ((ref_states _ _).trans ?_)), (h c).2.2⟩
        · exact congr (congr (congrArg _ (funext₂ fun i j => congrFun a0 (ix2 i j)))
            (funext₂ fun a b => funext fun l => congrFun a1 (ix3 a b l))) (funext fun l => congrFun a2 (ix2 0 l))
        · exact congr (congrArg _ (funext₂ fun i j => congrFun a0 (ix2 i j)))
            (funext₂ fun a b => funext fun l => congrFun a1 (ix3 a b l)))
      (Cert.ReferenceIdeal.Value.run (F := Ideal) m' ρ')⟩

end Cert.Proof.Hgrn

end
-- ==== Proof.Moe.Body.lean ====
/- What one point of the mixture-of-experts launch leaves in its running sum and in its output block. -/
module

public import proofs.«01_k».proof.Proof.Gen.Kernel2Ideal.Frame
public import Idealize.ShloMosaic.Lib.Pipeline.Value

@[expose] public section

set_option maxRecDepth 16384

noncomputable section

namespace Cert.Kernel2Ideal.Moe

open Cert.Kernel2Ideal Cert.Kernel2Ideal.Gen Idealize.ShloMosaic Idealize.SL.Sem

variable {F : FTy → Type} [FloatOps F]

theorem zero2 : (![0, 0] : Fin 2 → Nat) = fun _ => 0 := funext fun a => by fin_cases a <;> rfl
theorem zero4 : (![0, 0, 0, 0] : Fin 4 → Nat) = fun _ => 0 := funext fun a => by fin_cases a <;> rfl

/-- Row 5 of the modulation block: the gate of the residual. -/
def gateRow : Rect S1x6x1024 := Rect.unit (s := S1x6x1024) ![0, 5, 0] S1x1x1024.size inb_S1x6x1024_S1x1x1024_0_5_0

theorem sout_A_0_eq (c : Dev nD) (i : grid0.Coords) (arg2 : Memref sig .tc .vmem S512x1024 .bf16) (harg2 : arg2.IsWhole) (arg3 : Memref sig .tc .vmem S512x16 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole) (arg8 : Memref sig .tc .vmem S1x6x1024 .f32) (harg8 : arg8.IsWhole) (arg9 : Memref sig .tc .vmem S512x1024 .f32) (harg9 : arg9.IsWhole) (arg10 : Memref sig .tc .vmem S512x1024 .f32) (harg10 : arg10.IsWhole) (hc0 : cond0_0 i) (hc1 : ¬cond0_1 i)
       (x0 : Vec F S512x1024 .bf16) (x1 : Vec F S512x16 .f32) (x2 : Vec F S1x1x1024x512 .f32) (x3 : Vec F S1x1x1024x512 .f32) (x4 : Vec F S1x1x512x1024 .f32) (x5 : Vec F S512x1024 .f32) (x6 : Vec F S1x6x1024 .f32) :
    sout0_A_0 c i arg2 harg2 arg3 harg3 arg4 harg4 arg5 harg5 arg6 harg6 arg7 harg7 arg8 harg8 arg9 harg9 arg10 harg10 hc0 hc1 x0 x1 x2 x3 x4 x5 x6 = k0_pay4 i x0 x2 x3 x1 (k0_pay3 (F := F)) x4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5 x6)]
  unfold kernelRun0_A
  dsimp only
  sl_unfold_words
  rw [View.canon_cons_unit_zero (S := S512x1024) zero2, View.readCov_unit_zero (S := S512x1024) _ zero2]
  simp only [k0_pay1, View.readAt_eq_ld, harg2.read_unread, harg3.read_unread, harg4.read_unread, harg5.read_unread, harg6.read_unread, harg7.read_unread, harg8.read_unread, View.ld_unit_zero (S := S512x1024) zero2, View.ld_unit_zero (S := S512x16) zero2, View.ld_unit_zero (S := S1x1x1024x512) zero4, View.ld_unit_zero (S := S1x1x512x1024) zero4, shapeCast_self]

theorem sout_B_0_eq (c : Dev nD) (i : grid0.Coords) (arg2 : Memref sig .tc .vmem S512x1024 .bf16) (harg2 : arg2.IsWhole) (arg3 : Memref sig .tc .vmem S512x16 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole) (arg8 : Memref sig .tc .vmem S1x6x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : ¬cond0_1 i)
       (x0 : Vec F S512x1024 .bf16) (x1 : Vec F S512x16 .f32) (x2 : Vec F S1x1x1024x512 .f32) (x3 : Vec F S1x1x1024x512 .f32) (x4 : Vec F S1x1x512x1024 .f32) (x5 : Vec F S512x1024 .f32) (x6 : Vec F S1x6x1024 .f32) (xs0 : Vec F S512x1024 .f32) :
    sout0_B_0 c i arg2 harg2 arg3 harg3 arg4 harg4 arg5 harg5 arg6 harg6 arg7 harg7 arg8 harg8 arg9 harg9 arg10 harg10 hc0 hc1 x0 x1 x2 x3 x4 x5 x6 xs0 = k0_pay4 i x0 x2 x3 x1 xs0 x4 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 x6 xs0)]
  unfold kernelRun0_B
  dsimp only
  sl_unfold_words
  rw [View.canon_unit_zero (S := S512x1024) zero2]
  simp only [k0_pay1, View.readAt_eq_ld, harg2.read_unread, harg3.read_unread, harg4.read_unread, harg5.read_unread, harg6.read_unread, harg7.read_unread, harg8.read_unread, harg10.read_unread, View.ld_unit_zero (S := S512x1024) zero2, View.ld_unit_zero (S := S512x16) zero2, View.ld_unit_zero (S := S1x1x1024x512) zero4, View.ld_unit_zero (S := S1x1x512x1024) zero4, shapeCast_self]

theorem sout_C_0_eq (c : Dev nD) (i : grid0.Coords) (arg2 : Memref sig .tc .vmem S512x1024 .bf16) (harg2 : arg2.IsWhole) (arg3 : Memref sig .tc .vmem S512x16 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole) (arg8 : Memref sig .tc .vmem S1x6x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
       (x0 : Vec F S512x1024 .bf16) (x1 : Vec F S512x16 .f32) (x2 : Vec F S1x1x1024x512 .f32) (x3 : Vec F S1x1x1024x512 .f32) (x4 : Vec F S1x1x512x1024 .f32) (x5 : Vec F S512x1024 .f32) (x6 : Vec F S1x6x1024 .f32) (xs0 : Vec F S512x1024 .f32) :
    sout0_C_0 c i arg2 harg2 arg3 harg3 arg4 harg4 arg5 harg5 arg6 harg6 arg7 harg7 arg8 harg8 arg9 harg9 arg10 harg10 hc0 hc1 x0 x1 x2 x3 x4 x5 x6 xs0 = k0_pay4 i x0 x2 x3 x1 xs0 x4 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S512x1024) zero2]
  simp only [k0_pay1, View.readAt_eq_ld, harg2.read_unread, harg3.read_unread, harg4.read_unread, harg5.read_unread, harg6.read_unread, harg7.read_unread, harg8.read_unread, harg10.read_unread, View.ld_unit_zero (S := S512x1024) zero2, View.ld_unit_zero (S := S512x16) zero2, View.ld_unit_zero (S := S1x1x1024x512) zero4, View.ld_unit_zero (S := S1x1x512x1024) zero4, shapeCast_self]

theorem out_C_7_eq (c : Dev nD) (i : grid0.Coords) (arg2 : Memref sig .tc .vmem S512x1024 .bf16) (harg2 : arg2.IsWhole) (arg3 : Memref sig .tc .vmem S512x16 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole) (arg8 : Memref sig .tc .vmem S1x6x1024 .f32) (harg8 : arg8.IsWhole) (arg9 : Memref sig .tc .vmem S512x1024 .f32) (harg9 : arg9.IsWhole) (arg10 : Memref sig .tc .vmem S512x1024 .f32) (harg10 : arg10.IsWhole) (hc0 : ¬cond0_0 i) (hc1 : cond0_1 i)
       (x0 : Vec F S512x1024 .bf16) (x1 : Vec F S512x16 .f32) (x2 : Vec F S1x1x1024x512 .f32) (x3 : Vec F S1x1x1024x512 .f32) (x4 : Vec F S1x1x512x1024 .f32) (x5 : Vec F S512x1024 .f32) (x6 : Vec F S1x6x1024 .f32) (xs0 : Vec F S512x1024 .f32) :
    out0_C_7 c i arg2 harg2 arg3 harg3 arg4 harg4 arg5 harg5 arg6 harg6 arg7 harg7 arg8 harg8 arg9 harg9 arg10 harg10 hc0 hc1 x0 x1 x2 x3 x4 x5 x6 xs0 = k0_pay2 x5 (View.ld x6 gateRow) (k0_pay4 i x0 x2 x3 x1 xs0 x4) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 x5 x6 xs0)]
  unfold kernelRun0_C
  dsimp only
  sl_unfold_words
  rw [View.canon_unit_zero (S := S512x1024) zero2]
  rw [View.readCov_unit_zero (S := S512x1024) _ zero2]
  simp only [k0_pay1, View.readAt_eq_ld, harg2.read_unread, harg3.read_unread, harg4.read_unread, harg5.read_unread, harg6.read_unread, harg7.read_unread, harg8.read_unread, harg10.read_unread, View.ld_unit_zero (S := S512x1024) zero2, View.ld_unit_zero (S := S512x16) zero2, View.ld_unit_zero (S := S1x1x1024x512) zero4, View.ld_unit_zero (S := S1x1x512x1024) zero4, shapeCast_self]
  rfl

end Cert.Kernel2Ideal.Moe

end
-- ==== Proof.Moe.Spec.lean ====
/- The mixture of experts of the layer, with its gates given: every token's sum over the experts of the gated feed-forward
   network of each, and the residual's gate. -/
module

public import Idealize.ShloMosaic.Lib.Pointwise
public import Idealize.ShloMosaic.PureOps.Ideal

@[expose] public section

noncomputable section

namespace Cert.Moe

open Idealize.ShloMosaic

/-- The seven arguments, the weights of the second layer and row 5 of the modulation only. -/
structure Args where
  h : Fin 10240 → Fin 1024 → EReal
  gates : Fin 10240 → Fin 16 → EReal
  wGate : Fin 16 → Fin 1024 → Fin 512 → EReal
  wUp : Fin 16 → Fin 1024 → Fin 512 → EReal
  wDown : Fin 16 → Fin 512 → Fin 1024 → EReal
  x : Fin 10240 → Fin 1024 → EReal
  mods : Fin 8 → Fin 1024 → EReal

variable (A : Args)

/-- A token's vector times a matrix of an expert. -/
def proj (w : Fin 16 → Fin 1024 → Fin 512 → EReal) (t : Fin 10240) (e : Fin 16) (f : Fin 512) : EReal :=
  ∑ k : Fin 1024, A.h t k * w e k f

/-- The gated hidden vector of an expert. -/
def hid (t : Fin 10240) (e : Fin 16) (f : Fin 512) : EReal :=
  proj A A.wGate t e f * Ideal.logistic (proj A A.wGate t e f) * proj A A.wUp t e f * A.gates t e

/-- What an expert adds to a token. -/
def expert (t : Fin 10240) (d : Fin 1024) (e : Fin 16) : EReal := ∑ f : Fin 512, hid A t e f * A.wDown e f d

/-- The modulation row of a token: the prompt's tokens share row 0, each latent sequence has its own. -/
def cond (t : Fin 10240) : Fin 8 := if t.val < 8192 then 0 else ⟨1 + (t.val - 8192) / 1024, by omega⟩

theorem cond_val (t : Fin 10240) : (cond t).val = if t.val < 8192 then 0 else 1 + (t.val - 8192) / 1024 := by
  unfold cond
  split <;> rfl

def out (t : Fin 10240) (d : Fin 1024) : EReal := A.x t d + A.mods (cond t) d * ∑ e : Fin 16, expert A t d e

end Cert.Moe

end
-- ==== Proof.Moe.Point.lean ====
/- One point's terms read at an index. -/
module

public import proofs.«01_k».proof.Proof.Moe.Body
public import proofs.«01_k».proof.Proof.Moe.Spec
public import Idealize.ShloMosaic.Lib.Pipeline.ValueKit

@[expose] public section

set_option maxRecDepth 16384

noncomputable section

namespace Cert.Kernel2Ideal.Moe

open Cert.Moe Cert.Kernel2Ideal Cert.Kernel2Ideal.Gen Idealize.ShloMosaic Idealize.SL.Sem

theorem zero_apply (r : Fin 512) (d : Fin 1024) : k0_pay3 (F := Ideal) (ix2 r d) = (0 : EReal) := by
  pointwise [k0_pay3]

theorem last_apply (x : Vec Ideal S512x1024 .f32) (m : Vec Ideal S1x1x1024 .f32) (a : Vec Ideal S512x1024 .f32) (r : Fin 512) (d : Fin 1024) :
    k0_pay2 x m a (ix2 r d) = (x (ix2 r d) + m (ix3 0 0 d) * a (ix2 r d) : EReal) := by
  pointwise [k0_pay2]

theorem gateRow_emb (d : Fin 1024) : gateRow.emb (ix3 0 0 d) = (ix3 0 5 d : S1x6x1024.Idx) := by
  funext a
  fin_cases a <;> apply Fin.ext <;> refine (ValueKit.rect_emb_unit_val _ _ _ _ _).trans ?_ <;> simp [ix3]

/-- Of the gates of a token, the sum over the experts keeps that of the point's expert. -/
theorem pick (e : Fin 16) (g : Fin 16 → EReal) :
    (∑ x : Fin 16, Scalar.select (IntOp.cmpi .eq (BitVec.ofNat 32 x.val) (BitVec.ofNat 32 e.val)) (g x) (0 : EReal)) = g e := by
  have hc : ∀ x e : Fin 16, IntOp.cmpi .eq (BitVec.ofNat 32 x.val) (BitVec.ofNat 32 e.val) = if x = e then 1#1 else 0#1 := by decide
  refine (Finset.sum_congr rfl fun x _ => ?_ : _ = ∑ x : Fin 16, if x = e then g x else 0).trans ?_
  · rw [hc]
    split <;> rfl
  · rw [Finset.sum_ite_eq' Finset.univ e g, if_pos (Finset.mem_univ _)]

theorem step_apply (i : grid0.Coords) (h : Vec Ideal S512x1024 .bf16) (wg wu : Vec Ideal S1x1x1024x512 .f32) (g : Vec Ideal S512x16 .f32)
    (acc : Vec Ideal S512x1024 .f32) (wd : Vec Ideal S1x1x512x1024 .f32) (r : Fin 512) (d : Fin 1024) :
    k0_pay4 i h wg wu g acc wd (ix2 r d) = (acc (ix2 r d) + ∑ f : Fin 512,
      (∑ k : Fin 1024, h (ix2 r k) * wg (ix4 0 0 k f)) * Ideal.logistic (∑ k : Fin 1024, h (ix2 r k) * wg (ix4 0 0 k f))
        * (∑ k : Fin 1024, h (ix2 r k) * wu (ix4 0 0 k f)) * g (ix2 r (i 1)) * wd (ix4 0 0 f d) : EReal) := by
  pointwise [k0_pay4]
  refine congrArg (acc (ix2 r d) + ·) (Finset.sum_congr rfl fun f _ => ?_)
  rw [pick (i 1) fun x => g (ix2 r x)]

end Cert.Kernel2Ideal.Moe

end
-- ==== Proof.Moe.Arrays.lean ====
/- The blocks of the grid's points, the running sum after each point, and the array the launch leaves. -/
module

public import proofs.«01_k».proof.Proof.Moe.Point

@[expose] public section

set_option maxRecDepth 16384

noncomputable section

namespace Cert.Kernel2Ideal.Moe

open Cert.Moe Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The arguments as launched. -/
def args : Args where
  h i j := m ((c : Thread nD τ).loc main_arg0) (ix2 i j)
  gates i j := m ((c : Thread nD τ).loc main_arg1) (ix2 i j)
  wGate e k f := m ((c : Thread nD τ).loc main_arg2) (ix4 1 e k f)
  wUp e k f := m ((c : Thread nD τ).loc main_arg3) (ix4 1 e k f)
  wDown e f d := m ((c : Thread nD τ).loc main_arg4) (ix4 1 e f d)
  x i j := m ((c : Thread nD τ).loc main_arg5) (ix2 i j)
  mods a d := m ((c : Thread nD τ).loc main_arg6) (ix3 a 5 d)

/-- Row `r` of the block of tokens of point `n`, and the point's expert. -/
def tok (n : ℕ) (hn : n < cfg0.N) (r : Fin 512) : Fin 10240 :=
  ⟨512 * (n / 16) + r.val, by have : n < 320 := hn; omega⟩
def exp (n : ℕ) : Fin 16 := ⟨n % 16, by omega⟩

theorem coord1 (t : Fin cfg0.N) : grid0.coords t 1 = exp t.val :=
  Fin.ext ((by decide +kernel : ∀ t : Fin grid0.N, (grid0.coords t 1).val = t.val % 16) t)

theorem index0 : ∀ t : Fin cfg0.N, win0_0.index t = ![t.val / 16, 0] := (by decide +kernel : ∀ t : Fin grid0.N, win0_0.index t = ![t.val / 16, 0])
theorem index1 : ∀ t : Fin cfg0.N, win0_1.index t = ![t.val / 16, 0] := (by decide +kernel : ∀ t : Fin grid0.N, win0_1.index t = ![t.val / 16, 0])
theorem index2 : ∀ t : Fin cfg0.N, win0_2.index t = ![1, t.val % 16, 0, 0] := (by decide +kernel : ∀ t : Fin grid0.N, win0_2.index t = ![1, t.val % 16, 0, 0])
theorem index3 : ∀ t : Fin cfg0.N, win0_3.index t = ![1, t.val % 16, 0, 0] := (by decide +kernel : ∀ t : Fin grid0.N, win0_3.index t = ![1, t.val % 16, 0, 0])
theorem index4 : ∀ t : Fin cfg0.N, win0_4.index t = ![1, t.val % 16, 0, 0] := (by decide +kernel : ∀ t : Fin grid0.N, win0_4.index t = ![1, t.val % 16, 0, 0])
theorem index5 : ∀ t : Fin cfg0.N, win0_5.index t = ![t.val / 16, 0] := (by decide +kernel : ∀ t : Fin grid0.N, win0_5.index t = ![t.val / 16, 0])
theorem index6 : ∀ t : Fin cfg0.N, win0_6.index t = ![if t.val / 16 < 16 then 0 else 1 + (t.val / 16 - 16) / 2, 0, 0] :=
  (by decide +kernel : ∀ t : Fin grid0.N, win0_6.index t = ![if t.val / 16 < 16 then 0 else 1 + (t.val / 16 - 16) / 2, 0, 0])
theorem index7 : ∀ t : Fin cfg0.N, win0_7.index t = ![t.val / 16, 0] := (by decide +kernel : ∀ t : Fin grid0.N, win0_7.index t = ![t.val / 16, 0])

variable (t : Fin cfg0.N)

theorem in0 (r : Fin 512) (k : Fin 1024) : iblk m c 0 t (ix2 r k) = (args m c).h (tok t.val t.isLt r) k := by
  blk_simp [iblk]
  rw [V_main_arg0]
  refine congrArg _ ?_
  funext a
  fin_cases a <;> apply Fin.ext <;> blk_simp [index0] <;> simp [ix2, tok] <;> omega

theorem in1 (r : Fin 512) (k : Fin 16) : iblk m c 1 t (ix2 r k) = (args m c).gates (tok t.val t.isLt r) k := by
  blk_simp [iblk]
  rw [V_main_arg1]
  refine congrArg _ ?_
  funext a
  fin_cases a <;> apply Fin.ext <;> blk_simp [index1] <;> simp [ix2, tok] <;> omega

theorem in2 (k : Fin 1024) (f : Fin 512) : iblk m c 2 t (ix4 0 0 k f) = (args m c).wGate (exp t.val) k f := by
  blk_simp [iblk]
  rw [V_main_arg2]
  refine congrArg _ ?_
  funext a
  fin_cases a <;> apply Fin.ext <;> blk_simp [index2] <;> simp [ix4, exp]

theorem in3 (k : Fin 1024) (f : Fin 512) : iblk m c 3 t (ix4 0 0 k f) = (args m c).wUp (exp t.val) k f := by
  blk_simp [iblk]
  rw [V_main_arg3]
  refine congrArg _ ?_
  funext a
  fin_cases a <;> apply Fin.ext <;> blk_simp [index3] <;> simp [ix4, exp]

theorem in4 (f : Fin 512) (d : Fin 1024) : iblk m c 4 t (ix4 0 0 f d) = (args m c).wDown (exp t.val) f d := by
  blk_simp [iblk]
  rw [V_main_arg4]
  refine congrArg _ ?_
  funext a
  fin_cases a <;> apply Fin.ext <;> blk_simp [index4] <;> simp [ix4, exp]

theorem in5 (r : Fin 512) (d : Fin 1024) : iblk m c 5 t (ix2 r d) = (args m c).x (tok t.val t.isLt r) d := by
  blk_simp [iblk]
  rw [V_main_arg5]
  refine congrArg _ ?_
  funext a
  fin_cases a <;> apply Fin.ext <;> blk_simp [index5] <;> simp [ix2, tok] <;> omega

theorem cond_tok (r : Fin 512) :
    (cond (tok t.val t.isLt r)).val = if t.val / 16 < 16 then 0 else 1 + (t.val / 16 - 16) / 2 := by
  have ht : t.val < 320 := t.isLt
  have hr := r.isLt
  rw [cond_val]
  show (if 512 * (t.val / 16) + r.val < 8192 then 0 else 1 + (512 * (t.val / 16) + r.val - 8192) / 1024) = _
  split <;> split <;> omega

theorem in6 (r : Fin 512) (d : Fin 1024) : iblk m c 6 t (ix3 0 5 d) = (args m c).mods (cond (tok t.val t.isLt r)) d := by
  blk_simp [iblk]
  rw [V_main_arg6]
  refine congrArg _ ?_
  have ht : t.val < 320 := t.isLt
  have hr := r.isLt
  funext a
  fin_cases a <;> apply Fin.ext <;> blk_simp [index6] <;> simp [ix3]
  exact (cond_tok t r).symm

/-- What a point adds to its running sum is its expert's part. -/
theorem step_block (acc : Vec Ideal S512x1024 .f32) (r : Fin 512) (d : Fin 1024) :
    k0_pay4 (grid0.coords t) (iblk m c 0 t) (iblk m c 2 t) (iblk m c 3 t) (iblk m c 1 t) acc (iblk m c 4 t) (ix2 r d)
      = (acc (ix2 r d) + expert (args m c) (tok t.val t.isLt r) d (exp t.val) : EReal) := by
  refine (step_apply _ _ _ _ _ _ _ r d).trans ?_
  refine congrArg (acc (ix2 r d) + ·) ?_
  unfold expert hid proj
  refine Finset.sum_congr rfl fun f _ => ?_
  rw [coord1]
  simp only [in0 m c t, in1 m c t, in2 m c t, in3 m c t, in4 m c t]

/-- The experts up to the point's. -/
def upTo (n : ℕ) (t : Fin 10240) (d : Fin 1024) : EReal := ∑ j ∈ Finset.range (n % 16 + 1), expert (args m c) t d (exp j)

/-- After a point the running sum holds the experts up to the point's. -/
theorem sum_at : ∀ (n : ℕ) (hn : n < cfg0.N) (r : Fin 512) (d : Fin 1024),
    (outsAt0 m c n hn).2 (ix2 r d) = upTo m c n (tok n hn r) d := by
  intro n
  induction n with
  | zero =>
    intro hn r d
    rw [outsAt0_A m c ⟨0, hn⟩ rfl (show ¬0 % 16 = 15 by decide)]
    dsimp only
    rw [sout_A_0_eq]
    refine (step_block m c ⟨0, hn⟩ _ r d).trans ?_
    rw [zero_apply, zero_add]
    exact (Finset.sum_range_one fun j => expert (args m c) (tok 0 hn r) d (exp j)).symm
  | succ n ih =>
    intro hn r d
    have hN : n + 1 < 320 := hn
    by_cases h0 : (n + 1) % 16 = 0
    · rw [outsAt0_A m c ⟨n + 1, hn⟩ h0 (by dsimp only; omega)]
      dsimp only
      rw [sout_A_0_eq]
      refine (step_block m c ⟨n + 1, hn⟩ _ r d).trans ?_
      rw [zero_apply, zero_add]
      unfold upTo
      rw [h0, Finset.sum_range_one]
      refine congrArg _ (Fin.ext ?_)
      exact h0
    · have e : upTo m c (n + 1) (tok (n + 1) hn r) d
          = upTo m c n (tok n (by omega) r) d + expert (args m c) (tok (n + 1) hn r) d (exp (n + 1)) := by
        unfold upTo
        rw [show (n + 1) % 16 + 1 = (n % 16 + 1) + 1 by omega, Finset.sum_range_succ]
        rw [show tok (n + 1) hn r = tok n (by omega) r from Fin.ext (by simp [tok]; omega)]
        refine congrArg _ (congrArg _ (Fin.ext ?_))
        show (n % 16 + 1) % 16 = (n + 1) % 16
        omega
      rw [e, ← ih]
      by_cases h1 : (n + 1) % 16 = 15
      · rw [outsAt0_C m c ⟨n + 1, hn⟩ h0 h1]
        dsimp only
        rw [sout_C_0_eq]
        exact step_block m c ⟨n + 1, hn⟩ _ r d
      · rw [outsAt0_B m c ⟨n + 1, hn⟩ h0 h1]
        dsimp only
        rw [sout_B_0_eq]
        exact step_block m c ⟨n + 1, hn⟩ _ r d

/-- The array of the layer's outputs. -/
def outArr (A : Args) : S10240x1024.Idx → EReal := fun y => out A (y 0) (y 1)

theorem emb7 (r : Fin 512) (d : Fin 1024) :
    (win0_7.blk t).view.emb (ix2 r d) = (ix2 (tok t.val t.isLt r) d : S10240x1024.Idx) := by
  funext a
  fin_cases a <;> apply Fin.ext <;> blk_simp [index7] <;> simp [ix2, tok] <;> omega

/-- At the last expert the output block holds the block of that array. -/
theorem out_at (h1 : t.val % 16 = 15) (r : Fin 512) (d : Fin 1024) :
    (outsAt0 m c t.val t.isLt).1 (ix2 r d) = out (args m c) (tok t.val t.isLt r) d := by
  have h0 : ¬t.val % 16 = 0 := by omega
  have hs := sum_at m c t.val t.isLt r d
  rw [outsAt0_C m c t h0 h1] at hs ⊢
  dsimp only at hs ⊢
  rw [sout_C_0_eq] at hs
  rw [out_C_7_eq]
  refine (last_apply _ _ _ r d).trans ?_
  rw [hs, in5]
  unfold out
  have e : View.ld (iblk m c 6 t) gateRow (ix3 0 0 d) = (args m c).mods (cond (tok t.val t.isLt r)) d :=
    (congrArg (iblk m c 6 t) (gateRow_emb d)).trans (in6 m c t r d)
  rw [e]
  refine congrArg _ (congrArg _ ?_)
  unfold upTo
  rw [h1, Finset.sum_range]
  exact Finset.sum_congr rfl fun j _ => congrArg _ (Fin.ext (Nat.mod_eq_of_lt j.isLt))

theorem final7 : (dats m 0 c).arrAt 7 cfg0.N = outArr (args m c) := by
  refine (dats m 0 c).arrAt_eq_of_covers 7 _ (by decide +kernel) fun t hf y => ?_
  obtain ⟨r, l, rfl⟩ : ∃ (r : Fin 512) (l : Fin 1024), y = ix2 r l := ⟨y 0, y 1, by funext a; fin_cases a <;> rfl⟩
  blk_simp
  rw [after0_7]
  exact (out_at m c t ((flush0_7 t).mp hf) r l).trans (congrArg (outArr (args m c)) (emb7 t r l)).symm

variable (ρ : Dev nD → PrngReg)

/-- The run, with the array it leaves. -/
theorem run_out : θ_run defs (onTc (τ := τ) (main (F := Ideal))) ⟨m, fun _ => 0, ρ⟩ fun r => ∀ c : Dev nD,
    r.2.mem ((c : Thread nD τ).loc main_v0) = outArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.Kernel2Ideal.Moe

end
-- ==== Proof.Moe.RefValue.lean ====
/- The reference's result is the mixture of experts of the layer. -/
module

public import proofs.«01_k».proof.Proof.Gen.Reference2Ideal.Read
public import proofs.«01_k».proof.Proof.Moe.Spec
public import Idealize.ShloMosaic.Lib.Pipeline.ValueKit

@[expose] public section

set_option maxRecDepth 16384

noncomputable section

namespace Cert.Reference2Ideal.Moe

open Cert.Moe Cert.Reference2Ideal Cert.Reference2Ideal.Gen Cert.Reference2Ideal.Read Idealize.ShloMosaic Idealize.SL.Sem

variable (x0 : FVec Ideal S10240x1024 .bf16) (x1 : FVec Ideal S10240x16 .f32) (x2 x3 : FVec Ideal S2x16x1024x512 .f32)
  (x4 : FVec Ideal S2x16x512x1024 .f32) (x5 : FVec Ideal S10240x1024 .f32) (x6 : FVec Ideal S8x6x1024 .f32)

def argsOf : Args where
  h i j := x0 (ix2 i j)
  gates i j := x1 (ix2 i j)
  wGate e k f := x2 (ix4 1 e k f)
  wUp e k f := x3 (ix4 1 e k f)
  wDown e f d := x4 (ix4 1 e f d)
  x i j := x5 (ix2 i j)
  mods a d := x6 (ix3 a 5 d)

theorem gate_apply (e : Fin 16) (t : Fin 10240) (f : Fin 512) :
    val_main_v4 (F := Ideal) x0 x2 (ix3 e t f) = proj (argsOf x0 x1 x2 x3 x4 x5 x6) (argsOf x0 x1 x2 x3 x4 x5 x6).wGate t e f := by
  pointwise [val_main_v4, val_main_v3, val_main_v2, val_main_v1, val_main_v0]
  exact Finset.sum_congr rfl fun k _ => mul_comm _ _

theorem up_apply (e : Fin 16) (t : Fin 10240) (f : Fin 512) :
    val_main_v8 (F := Ideal) x0 x3 (ix3 e t f) = proj (argsOf x0 x1 x2 x3 x4 x5 x6) (argsOf x0 x1 x2 x3 x4 x5 x6).wUp t e f := by
  pointwise [val_main_v8, val_main_v7, val_main_v6, val_main_v5, val_main_v0]
  exact Finset.sum_congr rfl fun k _ => mul_comm _ _

theorem logistic_div (x : EReal) : Ideal.div 1 (1 + Ideal.exp (-x)) = Ideal.logistic x := rfl

theorem hid_apply (e : Fin 16) (t : Fin 10240) (f : Fin 512) :
    val_main_v14 (F := Ideal) x0 x1 x2 x3 (ix3 e t f) = hid (argsOf x0 x1 x2 x3 x4 x5 x6) t e f := by
  pointwise [val_main_v14, val_main_v13, val_main_v12, val_main_v11, val_main_v10, val_main_v9, val_main_call0_v5, val_main_call0_v4,
    val_main_call0_v3, val_main_call0_v2, val_main_call0_v1, val_main_call0_v0, val_main_call0_cst, val_main_call0_cst_0]
  rw [logistic_div, gate_apply x0 x1 x2 x3 x4 x5 x6, up_apply x0 x1 x2 x3 x4 x5 x6]
  rfl

theorem sum_apply (t : Fin 10240) (d : Fin 1024) :
    val_main_v17 (F := Ideal) x0 x1 x2 x3 x4 (ix2 t d) = ∑ e : Fin 16, expert (argsOf x0 x1 x2 x3 x4 x5 x6) t d e := by
  pointwise [val_main_v17, val_main_v16, val_main_v15]
  refine Finset.sum_congr rfl fun e _ => Finset.sum_congr rfl fun f _ => ?_
  rw [hid_apply x0 x1 x2 x3 x4 x5 x6]
  rfl

theorem prompt_apply (t : Fin 8192) (d : Fin 1024) :
    val_main_v27 (F := Ideal) x0 x1 x2 x3 x4 x5 x6 (ix2 t d)
      = x5 (ix2 ⟨t.val, by omega⟩ d) + x6 (ix3 0 5 d) * val_main_v17 (F := Ideal) x0 x1 x2 x3 x4 (ix2 ⟨t.val, by omega⟩ d) := by
  pointwise [val_main_v27, val_main_v26, val_main_v25, val_main_v24, val_main_v23, val_main_v22, val_main_v21, val_main_v20, val_main_v19,
    val_main_v18]

theorem latent_apply (t : Fin 2048) (d : Fin 1024) :
    val_main_v37 (F := Ideal) x0 x1 x2 x3 x4 x5 x6 (ix2 t d)
      = x5 (ix2 ⟨8192 + t.val, by omega⟩ d)
        + x6 (ix3 ⟨1 + t.val / 1024, by omega⟩ 5 d) * val_main_v17 (F := Ideal) x0 x1 x2 x3 x4 (ix2 ⟨8192 + t.val, by omega⟩ d) := by
  pointwise [val_main_v37, val_main_v36, val_main_v35, val_main_v34, val_main_v33, val_main_v32, val_main_v31, val_main_v30, val_main_v29,
    val_main_v28, val_main_v19, val_main_v18]

theorem out_apply (t : Fin 10240) (d : Fin 1024) :
    val_main_v38 (F := Ideal) x0 x1 x2 x3 x4 x5 x6 (ix2 t d) = out (argsOf x0 x1 x2 x3 x4 x5 x6) t d := by
  pointwise [val_main_v38]
  unfold out Cert.Moe.cond
  rw [← sum_apply x0 x1 x2 x3 x4 x5 x6]
  by_cases h : t.val < 8192
  · rw [dif_pos h, if_pos h, prompt_apply]
    rfl
  · rw [dif_neg h, if_neg h, latent_apply]
    have e : (⟨8192 + (t.val - 8192), by omega⟩ : Fin 10240) = t := Fin.ext (by simp; omega)
    rw [e]
    rfl

/-- The reference's result is the array of the layer's outputs. -/
theorem out_eq : val_main_v38 (F := Ideal) x0 x1 x2 x3 x4 x5 x6 = fun y => out (argsOf x0 x1 x2 x3 x4 x5 x6) (y 0) (y 1) := by
  funext y
  refine Eq.trans (congrArg _ ?_) (out_apply x0 x1 x2 x3 x4 x5 x6 (y 0) (y 1))
  funext a
  match a with
  | 0 => rfl
  | 1 => rfl

end Cert.Reference2Ideal.Moe

end
-- ==== Proof.Moe.Claims.lean ====
/- The frame of the mixture of experts' reference, and the equality of the two results. -/
module

public import proofs.«01_k».proof.Defs
public import proofs.«01_k».proof.Proof.Gen.Reference2Ideal.Run
public import proofs.«01_k».proof.Proof.Moe.Arrays
public import proofs.«01_k».proof.Proof.Moe.RefValue
public import Idealize.ShloMosaic.Adequacy
public import Idealize.ShloMosaic.Init

@[expose] public section

set_option maxRecDepth 16384

noncomputable section

namespace Cert.Proof.Moe

open Cert.Moe Idealize.ShloMosaic Idealize.ShloMosaic.StableHlo Idealize.SL.Sem

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The values of the run of the kernel and of the run of the reference agree. -/
theorem values : Cert.algebraic_Kernel2Ideal_Reference2Ideal := fun m ρ m' ρ' _ hag =>
  ⟨fun c => Cert.Kernel2Ideal.Moe.outArr (Cert.Kernel2Ideal.Moe.args m c), Cert.Kernel2Ideal.Moe.run_out m ρ,
    (θ_run Cert.Reference2Ideal.defs _ _).mono (fun _ h c => by
        obtain ⟨a0, a1, a2, a3, a4, a5, a6⟩ := hag c
        refine ⟨(h c).1.trans ((Cert.Reference2Ideal.Read.val_main_v38_eq m' c).trans
          ((Cert.Reference2Ideal.Moe.out_eq _ _ _ _ _ _ _).trans ?_)), (h c).2⟩
        rw [a0, a1, a2, a3, a4, a5, a6]
        rfl)
      (Cert.Reference2Ideal.Value.run (F := Ideal) m' ρ')⟩

end Cert.Proof.Moe

end
-- ==== Proof.InProj.Body.lean ====
/- What one point of the first layer's input projection leaves in its output block and in the scratch of cast weights. -/
module

public import proofs.«01_k».proof.Proof.Gen.Kernel3Ideal.Frame
public import Idealize.ShloMosaic.Lib.Pipeline.Value

@[expose] public section

set_option maxRecDepth 16384

noncomputable section

namespace Cert.Kernel3Ideal.InProj

open Cert.Kernel3Ideal Cert.Kernel3Ideal.Gen Idealize.ShloMosaic Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The two halves of a block of tokens, and of a block of outputs. -/
def xLo : Rect S512x1024 := Rect.unit (s := S512x1024) ![0, 0] S256x1024.size inb_S512x1024_S256x1024_0_0
def xHi : Rect S512x1024 := Rect.unit (s := S512x1024) ![256, 0] S256x1024.size inb_S512x1024_S256x1024_256_0
def oLo : Rect S512x3328 := Rect.unit (s := S512x3328) ![0, 0] S256x3328.size inb_S512x3328_S256x3328_0_0
def oHi : Rect S512x3328 := Rect.unit (s := S512x3328) ![256, 0] S256x3328.size inb_S512x3328_S256x3328_256_0

/-- The normed and modulated rows of each half. -/
def hLo (i : grid0.Coords) (x0 x1 : Vec F S512x1024 .f32) (x2 : Vec F S1x1024 .f32) (x3 : Vec F S1x6x1024 .f32) : FVec F S1x256x1024 .bf16 :=
  k0_pay3 i (View.ld x0 xLo) (View.ld x1 xLo) x2 x3
def hHi (i : grid0.Coords) (x0 x1 : Vec F S512x1024 .f32) (x2 : Vec F S1x1024 .f32) (x3 : Vec F S1x6x1024 .f32) : FVec F S1x256x1024 .bf16 :=
  k0_pay4 (Scalar.cmpi .slt (BitVec.ofNat 32 (i 0).val) 16#32) (View.ld x0 xHi) (View.ld x1 xHi) x2 x3

/-- The two stores of a point, the last first, from the cast weights. -/
def outPieces (i : grid0.Coords) (x0 x1 : Vec F S512x1024 .f32) (x2 : Vec F S1x1024 .f32) (x3 : Vec F S1x6x1024 .f32)
    (w : Vec F S1024x3328 .bf16) : List (View.Piece (Elt F) S512x3328 .bf16) :=
  [⟨oHi, k0_pay1 (hHi i x0 x1 x2 x3) w⟩, ⟨oLo, k0_pay5 (hLo i x0 x1 x2 x3) w⟩]

/-- The two rows of the scratch of normed tokens. -/
def rowHi : Rect S2x256x1024 := Rect.unit (s := S2x256x1024) ![1, 0, 0] S1x256x1024.size inb_S2x256x1024_S1x256x1024_1_0_0
def rowLo : Rect S2x256x1024 := Rect.unit (s := S2x256x1024) ![0, 0, 0] S1x256x1024.size inb_S2x256x1024_S1x256x1024_0_0_0

theorem rowLo_not_mem (j : rowLo.shape.Idx) : rowLo.emb j ∉ rowHi.set := by
  intro h
  have a : 1 ≤ (rowLo.emb j 0).val := (Rect.mem_set_unit.mp h 0).1
  have b : (rowLo.emb j 0).val < 0 + 1 := (Rect.mem_set_unit.mp (rowLo.idx_mem j) 0).2
  omega

theorem read_hi {κ : Kind} {sp : Space} (v : View sig κ sp S2x256x1024 .bf16) (p q : Vec F S1x256x1024 .bf16) :
    v.readCov (Val := Elt F) [⟨Rect.unit (s := S2x256x1024) ![1, 0, 0] S1x256x1024.size inb_S2x256x1024_S1x256x1024_1_0_0, p⟩,
      ⟨Rect.unit (s := S2x256x1024) ![0, 0, 0] S1x256x1024.size inb_S2x256x1024_S1x256x1024_0_0_0, q⟩]
      (Rect.unit (s := S2x256x1024) ![1, 0, 0] ![1, 256, 1024] inb_S2x256x1024_S1x256x1024_1_0_0).toLoadRect = p :=
  View.readCov_cons_toLoadRect (Val := Elt F) v (Rect.unit (s := S2x256x1024) ![1, 0, 0] S1x256x1024.size inb_S2x256x1024_S1x256x1024_1_0_0) p _

theorem read_lo {κ : Kind} {sp : Space} (v : View sig κ sp S2x256x1024 .bf16) (p q : Vec F S1x256x1024 .bf16) :
    v.readCov (Val := Elt F) [⟨Rect.unit (s := S2x256x1024) ![1, 0, 0] S1x256x1024.size inb_S2x256x1024_S1x256x1024_1_0_0, p⟩,
      ⟨Rect.unit (s := S2x256x1024) ![0, 0, 0] S1x256x1024.size inb_S2x256x1024_S1x256x1024_0_0_0, q⟩]
      (Rect.unit (s := S2x256x1024) ![0, 0, 0] S1x256x1024.size inb_S2x256x1024_S1x256x1024_0_0_0).toLoadRect = q :=
  (View.readCov_eq_canon' (Val := Elt F) v [⟨rowHi, p⟩, ⟨rowLo, q⟩] rowLo.toLoadRect).trans (funext fun j =>
    (View.canon_cons_of_not_mem (Val := Elt F) ⟨rowHi, p⟩ [⟨rowLo, q⟩] (rowLo_not_mem j)).trans (View.canon_cons_emb rowLo q [] j))

theorem read_w {κ : Kind} {sp : Space} (v : View sig κ sp S1024x3328 .bf16) (w : Vec F S1024x3328 .bf16) :
    v.readCov (Val := Elt F) [⟨Rect.unit (s := S1024x3328) ![0, 0] S1024x3328.size inb_S1024x3328_S1024x3328_0_0, w⟩]
      (Rect.unit (s := S1024x3328) ![0, 0] S1024x3328.size inb_S1024x3328_S1024x3328_0_0).toLoadRect = w :=
  View.readCov_unit_zero (S := S1024x3328) v zero2 _ _

theorem sout_A_0_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x6x1024 .f32) (harg4 : arg4.IsWhole) (arg5 : Memref sig .tc .vmem S1024x3328 .f32) (harg5 : arg5.IsWhole) (arg6 : Memref sig .tc .vmem S512x3328 .bf16) (harg6 : arg6.IsWhole) (arg7 : Memref sig .tc .vmem S1024x3328 .bf16) (harg7 : arg7.IsWhole) (arg8 : Memref sig .tc .vmem S2x256x1024 .bf16) (harg8 : arg8.IsWhole) (hc0 : cond0_0 i)
    (x0 : Vec F S512x1024 .f32) (x1 : Vec F S512x1024 .f32) (x2 : Vec F S1x1024 .f32) (x3 : Vec F S1x6x1024 .f32) (x4 : Vec F S1024x3328 .f32) :
    sout0_A_0 c i arg1 harg1 arg2 harg2 arg3 harg3 arg4 harg4 arg5 harg5 arg6 harg6 arg7 harg7 arg8 harg8 hc0 x0 x1 x2 x3 x4 = k0_pay2 x4 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero (S := S1024x3328) zero2]
  simp only [View.readAt_eq_ld, harg1.read_unread, harg2.read_unread, harg3.read_unread, harg4.read_unread, harg5.read_unread, View.ld_unit_zero (S := S1x1024) zero2, View.ld_unit_zero (S := S1x6x1024) zero3, View.ld_unit_zero (S := S1024x3328) zero2]

theorem out_A_5_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x6x1024 .f32) (harg4 : arg4.IsWhole) (arg5 : Memref sig .tc .vmem S1024x3328 .f32) (harg5 : arg5.IsWhole) (arg6 : Memref sig .tc .vmem S512x3328 .bf16) (harg6 : arg6.IsWhole) (arg7 : Memref sig .tc .vmem S1024x3328 .bf16) (harg7 : arg7.IsWhole) (arg8 : Memref sig .tc .vmem S2x256x1024 .bf16) (harg8 : arg8.IsWhole) (hc0 : cond0_0 i)
    (x0 : Vec F S512x1024 .f32) (x1 : Vec F S512x1024 .f32) (x2 : Vec F S1x1024 .f32) (x3 : Vec F S1x6x1024 .f32) (x4 : Vec F S1024x3328 .f32) :
    out0_A_5 c i arg1 harg1 arg2 harg2 arg3 harg3 arg4 harg4 arg5 harg5 arg6 harg6 arg7 harg7 arg8 harg8 hc0 x0 x1 x2 x3 x4 = View.canon (Val := Elt F) (outPieces i x0 x1 x2 x3 (k0_pay2 x4)) := by
  unfold out0_A_5 outPieces hLo hHi
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [read_hi, read_lo]
  rw [read_w]
  simp only [View.readAt_eq_ld, harg1.read_unread, harg2.read_unread, harg3.read_unread, harg4.read_unread, harg5.read_unread, View.ld_unit_zero (S := S1x1024) zero2, View.ld_unit_zero (S := S1x6x1024) zero3, View.ld_unit_zero (S := S1024x3328) zero2]
  rfl

theorem out_B_5_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x6x1024 .f32) (harg4 : arg4.IsWhole) (arg5 : Memref sig .tc .vmem S1024x3328 .f32) (harg5 : arg5.IsWhole) (arg6 : Memref sig .tc .vmem S512x3328 .bf16) (harg6 : arg6.IsWhole) (arg7 : Memref sig .tc .vmem S1024x3328 .bf16) (harg7 : arg7.IsWhole) (arg8 : Memref sig .tc .vmem S2x256x1024 .bf16) (harg8 : arg8.IsWhole) (hc0 : ¬cond0_0 i)
    (x0 : Vec F S512x1024 .f32) (x1 : Vec F S512x1024 .f32) (x2 : Vec F S1x1024 .f32) (x3 : Vec F S1x6x1024 .f32) (x4 : Vec F S1024x3328 .f32) (xs0 : Vec F S1024x3328 .bf16) :
    out0_B_5 c i arg1 harg1 arg2 harg2 arg3 harg3 arg4 harg4 arg5 harg5 arg6 harg6 arg7 harg7 arg8 harg8 hc0 x0 x1 x2 x3 x4 xs0 = View.canon (Val := Elt F) (outPieces i x0 x1 x2 x3 (xs0)) := by
  unfold out0_B_5 outPieces hLo hHi
  rw [View.read_writes_eq_canon _ _ _ (cover0_B_5 c i arg1 harg1 arg2 harg2 arg3 harg3 arg4 harg4 arg5 harg5 arg6 harg6 arg7 harg7 arg8 harg8 hc0 x0 x1 x2 x3 x4 xs0)]
  unfold kernelRun0_B
  dsimp only
  sl_unfold_words
  rw [read_hi, read_lo]
  simp only [harg7.read_unread, View.readAt_eq_ld, harg1.read_unread, harg2.read_unread, harg3.read_unread, harg4.read_unread, harg5.read_unread, View.ld_unit_zero (S := S1x1024) zero2, View.ld_unit_zero (S := S1x6x1024) zero3, View.ld_unit_zero (S := S1024x3328) zero2]
  rfl

end Cert.Kernel3Ideal.InProj

end
-- ==== Proof.InProj.Spec.lean ====
/- The first layer's input projection: every token normed over its channels, modulated, and multiplied by the weights. -/
module

public import proofs.«01_k».proof.Proof.Moe.Spec

@[expose] public section

noncomputable section

namespace Cert.InProj

open Idealize.ShloMosaic

/-- The tokens (the prompt's, then the latents'), and the first layer's gain, scale, shift and weights. -/
structure Args where
  x : Fin 10240 → Fin 1024 → EReal
  gain : Fin 1024 → EReal
  scale : Fin 8 → Fin 1024 → EReal
  shift : Fin 8 → Fin 1024 → EReal
  w : Fin 1024 → Fin 3328 → EReal

/-- A row over its root mean square, times the gain, the scale and the shift added. -/
def normRow (x gain scale shift : Fin 1024 → EReal) (k : Fin 1024) : EReal :=
  x k * Ideal.rsqrt (Ideal.div (∑ j : Fin 1024, x j * x j) (Ideal.ofBits FTy.f32 1149239296#32) + Ideal.ofBits FTy.f32 897988541#32) * gain k
    * (Ideal.ofBits FTy.f32 1065353216#32 + scale k) + shift k

variable (A : Args)

def row (t : Fin 10240) : Fin 1024 → EReal := normRow (A.x t) A.gain (A.scale (Moe.cond t)) (A.shift (Moe.cond t))

def out (t : Fin 10240) (j : Fin 3328) : EReal := ∑ k : Fin 1024, row A t k * A.w k j

end Cert.InProj

end
-- ==== Proof.InProj.Point.lean ====
/- One point's terms read at an index. -/
module

public import proofs.«01_k».proof.Proof.InProj.Body
public import proofs.«01_k».proof.Proof.InProj.Spec
public import Idealize.ShloMosaic.Lib.Pipeline.ValueKit

@[expose] public section

set_option maxRecDepth 16384

noncomputable section

namespace Cert.Kernel3Ideal.InProj

open Cert.InProj Cert.Kernel3Ideal Cert.Kernel3Ideal.Gen Idealize.ShloMosaic Idealize.SL.Sem

theorem cast_apply (w : Vec Ideal S1024x3328 .f32) (k : Fin 1024) (j : Fin 3328) : k0_pay2 w (ix2 k j) = (w (ix2 k j) : EReal) := by
  pointwise [k0_pay2]

theorem lo_dot (h : Vec Ideal S1x256x1024 .bf16) (w : Vec Ideal S1024x3328 .bf16) (r : Fin 256) (j : Fin 3328) :
    k0_pay5 h w (ix2 r j) = (∑ k : Fin 1024, h (ix3 0 r k) * w (ix2 k j) : EReal) := by
  pointwise [k0_pay5]

theorem hi_dot (h : Vec Ideal S1x256x1024 .bf16) (w : Vec Ideal S1024x3328 .bf16) (r : Fin 256) (j : Fin 3328) :
    k0_pay1 h w (ix2 r j) = (∑ k : Fin 1024, h (ix3 0 r k) * w (ix2 k j) : EReal) := by
  pointwise [k0_pay1]

theorem lo_norm (i : grid0.Coords) (xp xl : Vec Ideal S256x1024 .f32) (g : Vec Ideal S1x1024 .f32) (m : Vec Ideal S1x6x1024 .f32)
    (r : Fin 256) (k : Fin 1024) :
    k0_pay3 i xp xl g m (ix3 0 r k) = normRow (fun k => Scalar.select (Scalar.cmpi .slt (BitVec.ofNat 32 (i 0).val) 16#32) xp xl (ix2 r k))
      (fun k => g (ix2 0 k)) (fun k => m (ix3 0 1 k)) (fun k => m (ix3 0 0 k)) k := by
  unfold normRow
  generalize hx : (Scalar.select (Scalar.cmpi .slt (BitVec.ofNat 32 (i 0).val) 16#32) xp xl) = x
  pointwise [k0_pay3, hx]

theorem hi_norm (i : BitVec 1) (xp xl : Vec Ideal S256x1024 .f32) (g : Vec Ideal S1x1024 .f32) (m : Vec Ideal S1x6x1024 .f32)
    (r : Fin 256) (k : Fin 1024) :
    k0_pay4 i xp xl g m (ix3 0 r k) = normRow (fun k => Scalar.select i xp xl (ix2 r k))
      (fun k => g (ix2 0 k)) (fun k => m (ix3 0 1 k)) (fun k => m (ix3 0 0 k)) k := by
  unfold normRow
  generalize hx : Scalar.select i xp xl = x
  pointwise [k0_pay4, hx]

theorem xLo_emb (r : Fin 256) (k : Fin 1024) : xLo.emb (ix2 r k) = (ix2 ⟨r.val, by omega⟩ k : S512x1024.Idx) := by
  funext a
  fin_cases a <;> apply Fin.ext <;> refine (ValueKit.rect_emb_unit_val _ _ _ _ _).trans ?_ <;> simp [ix2]
theorem xHi_emb (r : Fin 256) (k : Fin 1024) : xHi.emb (ix2 r k) = (ix2 ⟨256 + r.val, by omega⟩ k : S512x1024.Idx) := by
  funext a
  fin_cases a <;> apply Fin.ext <;> refine (ValueKit.rect_emb_unit_val _ _ _ _ _).trans ?_ <;> simp [ix2]
theorem oLo_emb (r : Fin 256) (j : Fin 3328) : oLo.emb (ix2 r j) = (ix2 ⟨r.val, by omega⟩ j : S512x3328.Idx) := by
  funext a
  fin_cases a <;> apply Fin.ext <;> refine (ValueKit.rect_emb_unit_val _ _ _ _ _).trans ?_ <;> simp [ix2]
theorem oHi_emb (r : Fin 256) (j : Fin 3328) : oHi.emb (ix2 r j) = (ix2 ⟨256 + r.val, by omega⟩ j : S512x3328.Idx) := by
  funext a
  fin_cases a <;> apply Fin.ext <;> refine (ValueKit.rect_emb_unit_val _ _ _ _ _).trans ?_ <;> simp [ix2]

/-- The block's token is the prompt's at the first sixteen points, the latents' after. -/
def pick (n : ℕ) (x0 x1 : Vec Ideal S512x1024 .f32) (r : Fin 512) (k : Fin 1024) : EReal :=
  if n < 16 then x0 (ix2 r k) else x1 (ix2 r k)

theorem select_slt (n : ℕ) (hn : n < 20) (a b : EReal) :
    Scalar.select (Scalar.cmpi .slt (BitVec.ofNat 32 n) 16#32) a b = if n < 16 then a else b := by
  have h : ∀ n : Fin 20, Scalar.cmpi .slt (BitVec.ofNat 32 n.val) 16#32 = if n.val < 16 then 1#1 else 0#1 := by decide
  rw [h ⟨n, hn⟩]
  dsimp only
  split <;> rfl

theorem select_apply (b : BitVec 1) (x y : Vec Ideal S256x1024 .f32) (j : S256x1024.Idx) :
    (Scalar.select b x y) j = (Scalar.select b (x j : EReal) (y j) : EReal) := by
  unfold Scalar.select
  split <;> rfl

/-- The output block of a point: every row of its block normed, times the cast weights. -/
theorem out_apply (i : grid0.Coords) (x0 x1 : Vec Ideal S512x1024 .f32) (x2 : Vec Ideal S1x1024 .f32) (x3 : Vec Ideal S1x6x1024 .f32)
    (w : Vec Ideal S1024x3328 .bf16) (r : Fin 512) (j : Fin 3328) :
    View.canon (Val := Elt Ideal) (outPieces i x0 x1 x2 x3 w) (ix2 r j)
      = (∑ k : Fin 1024, normRow (pick (i 0).val x0 x1 r) (fun k => x2 (ix2 0 k)) (fun k => x3 (ix3 0 1 k)) (fun k => x3 (ix3 0 0 k)) k
          * w (ix2 k j) : EReal) := by
  have hi : (i 0).val < 20 := (i 0).isLt
  have key := View.canon_apply_of_pieces (Val := Elt Ideal) (S := S512x3328) (e := .bf16)
    (fun y => (∑ k : Fin 1024, normRow (pick (i 0).val x0 x1 (y 0)) (fun k => x2 (ix2 0 k)) (fun k => x3 (ix3 0 1 k)) (fun k => x3 (ix3 0 0 k)) k
          * w (ix2 k (y 1)) : EReal)) (outPieces i x0 x1 x2 x3 w) ?_ (ix2 r j) ?_
  · exact key
  · intro p hp y
    simp only [outPieces, List.mem_cons, List.mem_nil_iff, or_false] at hp
    rcases hp with rfl | rfl
    · obtain ⟨r, l, rfl⟩ : ∃ (r : Fin 256) (l : Fin 3328), y = ix2 r l := ⟨y 0, y 1, by funext a; fin_cases a <;> rfl⟩
      dsimp only
      rw [oHi_emb, hi_dot]
      refine Finset.sum_congr rfl fun k _ => congrArg (· * _) ?_
      unfold hHi
      refine (hi_norm _ _ _ _ _ r k).trans ?_
      refine congrArg (fun z => normRow z _ _ _ k) (funext fun k => ?_)
      refine (select_apply _ _ _ _).trans ((select_slt _ hi _ _).trans ?_)
      unfold pick
      rw [show View.ld x0 xHi (ix2 r k) = x0 (ix2 ⟨256 + r.val, by omega⟩ k) from congrArg x0 (xHi_emb r k),
        show View.ld x1 xHi (ix2 r k) = x1 (ix2 ⟨256 + r.val, by omega⟩ k) from congrArg x1 (xHi_emb r k)]
      rfl
    · obtain ⟨r, l, rfl⟩ : ∃ (r : Fin 256) (l : Fin 3328), y = ix2 r l := ⟨y 0, y 1, by funext a; fin_cases a <;> rfl⟩
      dsimp only
      rw [oLo_emb, lo_dot]
      refine Finset.sum_congr rfl fun k _ => congrArg (· * _) ?_
      unfold hLo
      refine (lo_norm _ _ _ _ _ r k).trans ?_
      refine congrArg (fun z => normRow z _ _ _ k) (funext fun k => ?_)
      refine (select_apply _ _ _ _).trans ((select_slt _ hi _ _).trans ?_)
      unfold pick
      rw [show View.ld x0 xLo (ix2 r k) = x0 (ix2 ⟨r.val, by omega⟩ k) from congrArg x0 (xLo_emb r k),
        show View.ld x1 xLo (ix2 r k) = x1 (ix2 ⟨r.val, by omega⟩ k) from congrArg x1 (xLo_emb r k)]
      rfl
  · rcases Nat.lt_or_ge r.val 256 with hr | hr
    · refine ⟨⟨oLo, k0_pay5 (hLo i x0 x1 x2 x3) w⟩, List.mem_cons_of_mem _ (List.mem_singleton.mpr rfl), ?_⟩
      simp only [oLo, Rect.mem_set_unit]
      intro a
      fin_cases a <;> simp [ix2] <;> omega
    · refine ⟨⟨oHi, k0_pay1 (hHi i x0 x1 x2 x3) w⟩, List.mem_cons_self, ?_⟩
      simp only [oHi, Rect.mem_set_unit]
      intro a
      fin_cases a <;> simp [ix2] <;> omega

end Cert.Kernel3Ideal.InProj

end
-- ==== Proof.InProj.Arrays.lean ====
/- The blocks of the grid's points, the scratch of cast weights, and the array the launch leaves. -/
module

public import proofs.«01_k».proof.Proof.InProj.Point

@[expose] public section

set_option maxRecDepth 16384

noncomputable section

namespace Cert.Kernel3Ideal.InProj

open Cert.Moe (cond cond_val)
open Cert.InProj Cert.Kernel3Ideal Cert.Kernel3Ideal.Gen Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  x t k := if h : t.val < 8192 then m ((c : Thread nD τ).loc main_arg0) (ix2 ⟨t.val, h⟩ k)
    else m ((c : Thread nD τ).loc main_arg1) (ix2 ⟨t.val - 8192, by omega⟩ k)
  gain k := m ((c : Thread nD τ).loc main_arg2) (ix3 0 0 k)
  scale a k := m ((c : Thread nD τ).loc main_arg3) (ix4 0 a 1 k)
  shift a k := m ((c : Thread nD τ).loc main_arg3) (ix4 0 a 0 k)
  w k j := m ((c : Thread nD τ).loc main_arg4) (ix3 0 k j)

/-- Row `r` of the block of tokens of point `n`. -/
def tok (n : ℕ) (hn : n < cfg0.N) (r : Fin 512) : Fin 10240 :=
  ⟨512 * n + r.val, by have : n < 20 := hn; omega⟩

theorem coord0 (t : Fin cfg0.N) : (grid0.coords t 0).val = t.val :=
  (by decide +kernel : ∀ t : Fin grid0.N, (grid0.coords t 0).val = t.val) t

theorem index0 : ∀ t : Fin cfg0.N, win0_0.index t = ![if t.val < 16 then t.val else 15, 0] :=
  (by decide +kernel : ∀ t : Fin grid0.N, win0_0.index t = ![if t.val < 16 then t.val else 15, 0])
theorem index1 : ∀ t : Fin cfg0.N, win0_1.index t = ![t.val - 16, 0] := (by decide +kernel : ∀ t : Fin grid0.N, win0_1.index t = ![t.val - 16, 0])
theorem index2 : ∀ t : Fin cfg0.N, win0_2.index t = ![0, 0] := (by decide +kernel : ∀ t : Fin grid0.N, win0_2.index t = ![0, 0])
theorem index3 : ∀ t : Fin cfg0.N, win0_3.index t = ![if t.val < 16 then 0 else 1 + (t.val - 16) / 2, 0, 0] :=
  (by decide +kernel : ∀ t : Fin grid0.N, win0_3.index t = ![if t.val < 16 then 0 else 1 + (t.val - 16) / 2, 0, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])

/-- What the host operations leave for the launch: the first layer's gain, modulation and weights. -/
theorem gain_V (k : Fin 1024) : V m c main_v5 (ix2 0 k) = (args m c).gain k := by
  have e : V m c main_v5 = shapeCast S1x1024 (shapeCast S1024 (extractStridedSlice S1x1x1024 ![0, 0, 0] (m ((c : Thread nD τ).loc main_arg2))
      slices_S2x2x1024_S1x1x1024_0_0_0) shapeCasts_S1x1x1024_S1024) shapeCasts_S1024_S1x1024 := by
    unfold_abbrev_sides
    after_results
    rfl
  rw [e]
  pointwise
  rfl

theorem mods_V (a : Fin 8) (b : Fin 6) (k : Fin 1024) : V m c main_v3 (ix3 a b k) = m ((c : Thread nD τ).loc main_arg3) (ix4 0 a b k) := by
  have e : V m c main_v3 = shapeCast S8x6x1024 (extractStridedSlice S1x8x6x1024 ![0, 0, 0, 0] (m ((c : Thread nD τ).loc main_arg3))
      slices_S2x8x6x1024_S1x8x6x1024_0_0_0_0) shapeCasts_S1x8x6x1024_S8x6x1024 := by
    unfold_abbrev_sides
    after_results
    rfl
  rw [e]
  pointwise

theorem drop_apply (w : Vec Ideal S1x1024x3328 .f32) (k : Fin 1024) (j : Fin 3328) :
    shapeCast S1024x3328 w shapeCasts_S1x1024x3328_S1024x3328 (ix2 k j) = (w (ix3 0 k j) : EReal) := by
  pointwise

theorem w_V (k : Fin 1024) (j : Fin 3328) : V m c main_v4 (ix2 k j) = (args m c).w k j := by
  have e : V m c main_v4 = shapeCast S1024x3328 (m ((c : Thread nD τ).loc main_arg4)) shapeCasts_S1x1024x3328_S1024x3328 := by
    unfold_abbrev_sides
    after_results
    rfl
  rw [e]
  exact drop_apply _ k j

variable (t : Fin cfg0.N)

theorem x_prompt (t : Fin 10240) (h : t.val < 8192) (k : Fin 1024) :
    (args m c).x t k = m ((c : Thread nD τ).loc main_arg0) (ix2 ⟨t.val, h⟩ k) := dif_pos h
theorem x_latent (t : Fin 10240) (h : ¬t.val < 8192) (k : Fin 1024) :
    (args m c).x t k = m ((c : Thread nD τ).loc main_arg1) (ix2 ⟨t.val - 8192, by omega⟩ k) := dif_neg h

theorem in0 (h : t.val < 16) (r : Fin 512) (k : Fin 1024) : iblk m c 0 t (ix2 r k) = (args m c).x (tok t.val t.isLt r) k := by
  have hr := r.isLt
  blk_simp [iblk]
  rw [V_main_arg0]
  rw [x_prompt m c (tok t.val t.isLt r) (show 512 * t.val + r.val < 8192 by omega)]
  refine congrArg _ ?_
  funext a
  fin_cases a <;> apply Fin.ext <;> blk_simp [index0] <;> simp [ix2, tok, h] <;> omega

theorem in1 (h : ¬t.val < 16) (r : Fin 512) (k : Fin 1024) : iblk m c 1 t (ix2 r k) = (args m c).x (tok t.val t.isLt r) k := by
  have hr := r.isLt
  blk_simp [iblk]
  rw [V_main_arg1]
  rw [x_latent m c (tok t.val t.isLt r) (show ¬512 * t.val + r.val < 8192 by omega)]
  refine congrArg _ ?_
  funext a
  fin_cases a <;> apply Fin.ext <;> blk_simp [index1] <;> simp [ix2, tok] <;> omega

theorem in2 (k : Fin 1024) : iblk m c 2 t (ix2 0 k) = (args m c).gain k := by
  rw [← gain_V m c]
  blk_simp [iblk]
  refine congrArg _ ?_
  funext a
  fin_cases a <;> apply Fin.ext <;> blk_simp [index2] <;> simp [ix2]

theorem cond_tok (r : Fin 512) : (cond (tok t.val t.isLt r)).val = if t.val < 16 then 0 else 1 + (t.val - 16) / 2 := by
  have ht : t.val < 20 := t.isLt
  have hr := r.isLt
  rw [cond_val]
  show (if 512 * t.val + r.val < 8192 then 0 else 1 + (512 * t.val + r.val - 8192) / 1024) = _
  split <;> split <;> omega

theorem in3 (r : Fin 512) (b : Fin 6) (k : Fin 1024) :
    iblk m c 3 t (ix3 0 b k) = m ((c : Thread nD τ).loc main_arg3) (ix4 0 (cond (tok t.val t.isLt r)) b k) := by
  rw [← mods_V m c]
  blk_simp [iblk]
  refine congrArg _ ?_
  funext a
  fin_cases a <;> apply Fin.ext <;> blk_simp [index3] <;> simp [ix3]
  exact (cond_tok t r).symm

theorem in4 (k : Fin 1024) (j : Fin 3328) : iblk m c 4 t (ix2 k j) = (args m c).w k j := by
  rw [← w_V m c]
  blk_simp [iblk]
  refine congrArg _ ?_
  funext a
  fin_cases a <;> apply Fin.ext <;> blk_simp [index4] <;> simp [ix2]

/-- After every point the scratch holds the cast weights. -/
theorem cast_at : ∀ (n : ℕ) (hn : n < cfg0.N) (k : Fin 1024) (j : Fin 3328), (outsAt0 m c n hn).2 (ix2 k j) = (args m c).w k j := by
  intro n
  induction n with
  | zero =>
    intro hn k j
    rw [outsAt0_A m c ⟨0, hn⟩ rfl]
    dsimp only
    rw [sout_A_0_eq]
    exact (cast_apply _ k j).trans (in4 m c ⟨0, hn⟩ k j)
  | succ n ih =>
    intro hn k j
    have hN : n + 1 < 20 := hn
    have h0 : ¬(n + 1) % 20 = 0 := by omega
    rw [outsAt0_B m c ⟨n + 1, hn⟩ h0]
    dsimp only
    unfold sout0_B_0
    exact ih (by omega) k j

/-- The array of the projections. -/
def outArr (A : Args) : S10240x3328.Idx → EReal := fun y => out A (y 0) (y 1)

theorem emb5 (r : Fin 512) (j : Fin 3328) :
    (win0_5.blk t).view.emb (ix2 r j) = (ix2 (tok t.val t.isLt r) j : S10240x3328.Idx) := by
  funext a
  fin_cases a <;> apply Fin.ext <;> blk_simp [index5] <;> simp [ix2, tok] <;> omega

theorem block_row (r : Fin 512) (k : Fin 1024) :
    normRow (pick (grid0.coords t 0).val (iblk m c 0 t) (iblk m c 1 t) r) (fun k => iblk m c 2 t (ix2 0 k))
      (fun k => iblk m c 3 t (ix3 0 1 k)) (fun k => iblk m c 3 t (ix3 0 0 k)) k = row (args m c) (tok t.val t.isLt r) k := by
  unfold row
  have e : pick (grid0.coords t 0).val (iblk m c 0 t) (iblk m c 1 t) r = (args m c).x (tok t.val t.isLt r) := by
    funext k
    unfold pick
    rw [coord0]
    by_cases h : t.val < 16
    · rw [if_pos h, in0 m c t h]
    · rw [if_neg h, in1 m c t h]
  rw [e]
  simp only [in2, in3 m c t r]
  rfl

/-- The output block of every point is the block of that array. -/
theorem out_at (r : Fin 512) (j : Fin 3328) : (outsAt0 m c t.val t.isLt).1 (ix2 r j) = out (args m c) (tok t.val t.isLt r) j := by
  have hs := cast_at m c t.val t.isLt
  by_cases h0 : t.val % 20 = 0
  · rw [outsAt0_A m c t h0]
    dsimp only
    rw [out_A_5_eq]
    refine (out_apply _ _ _ _ _ _ r j).trans ?_
    unfold out
    refine Finset.sum_congr rfl fun k _ => ?_
    rw [block_row, cast_apply, in4]
  · have hs := cast_at m c (t.val - 1) (Nat.lt_of_le_of_lt (Nat.sub_le _ _) t.isLt)
    rw [outsAt0_B m c t h0]
    dsimp only
    rw [out_B_5_eq]
    refine (out_apply _ _ _ _ _ _ r j).trans ?_
    unfold out
    refine Finset.sum_congr rfl fun k _ => ?_
    rw [block_row, hs]

theorem final5 : (dats m 0 c).arrAt 5 cfg0.N = outArr (args m c) := by
  refine (dats m 0 c).arrAt_eq_of_covers 5 _ (by decide +kernel) fun t hf y => ?_
  obtain ⟨r, l, rfl⟩ : ∃ (r : Fin 512) (l : Fin 3328), y = ix2 r l := ⟨y 0, y 1, by funext a; fin_cases a <;> rfl⟩
  blk_simp
  rw [after0_5]
  exact (out_at m c t r l).trans (congrArg (outArr (args m c)) (emb5 t r l)).symm

variable (ρ : Dev nD → PrngReg)

/-- The run, with the array it leaves. -/
theorem run_out : θ_run defs (onTc (τ := τ) (main (F := Ideal))) ⟨m, fun _ => 0, ρ⟩ fun r => ∀ c : Dev nD,
    r.2.mem ((c : Thread nD τ).loc main_v6) = outArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Kernel3Ideal.InProj

end
-- ==== Proof.InProj.RefValue.lean ====
/- The reference's result is the first layer's input projection. -/
module

public import proofs.«01_k».proof.Proof.Gen.Reference3Ideal.Read
public import proofs.«01_k».proof.Proof.InProj.Spec
public import Idealize.ShloMosaic.Lib.Pipeline.ValueKit

@[expose] public section

set_option maxRecDepth 16384

noncomputable section

namespace Cert.Reference3Ideal.InProj

open Cert.InProj Cert.Reference3Ideal Cert.Reference3Ideal.Gen Cert.Reference3Ideal.Read Idealize.ShloMosaic Idealize.SL.Sem

variable (x0 : FVec Ideal S8192x1024 .f32) (x1 : FVec Ideal S2048x1024 .f32) (x2 : FVec Ideal S2x2x1024 .f32)
  (x3 : FVec Ideal S2x8x6x1024 .f32) (x4 : FVec Ideal S1x1024x3328 .f32)

def argsOf : Args where
  x t k := if h : t.val < 8192 then x0 (ix2 ⟨t.val, h⟩ k) else x1 (ix2 ⟨t.val - 8192, by omega⟩ k)
  gain k := x2 (ix3 0 0 k)
  scale a k := x3 (ix4 0 a 1 k)
  shift a k := x3 (ix4 0 a 0 k)
  w k j := x4 (ix3 0 k j)

theorem prompt_apply (t : Fin 8192) (k : Fin 1024) :
    val_main_v30 (F := Ideal) x0 x2 x3 (ix2 t k) = normRow (fun k => x0 (ix2 t k)) (fun k => x2 (ix3 0 0 k))
      (fun k => x3 (ix4 0 0 1 k)) (fun k => x3 (ix4 0 0 0 k)) k := by
  unfold normRow
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2]

theorem latent_apply (t : Fin 2048) (k : Fin 1024) :
    val_main_v57 (F := Ideal) x1 x2 x3 (ix2 t k) = normRow (fun k => x1 (ix2 t k)) (fun k => x2 (ix3 0 0 k))
      (fun k => x3 (ix4 0 ⟨1 + t.val / 1024, by omega⟩ 1 k)) (fun k => x3 (ix4 0 ⟨1 + t.val / 1024, by omega⟩ 0 k)) k := by
  unfold normRow
  pointwise [val_main_v57, val_main_v56, val_main_v55, val_main_v54, val_main_v53, val_main_v52, val_main_v51, val_main_v50, val_main_v49,
    val_main_v48, val_main_v47, val_main_v46, val_main_v45, val_main_v44, val_main_v43, val_main_v42, val_main_v41, val_main_v40, val_main_v39,
    val_main_v38, val_main_v37, val_main_v36, val_main_v35, val_main_v34, val_main_v33, val_main_v32, val_main_v31, val_main_v3, val_main_v2,
    val_main_v1, val_main_v0, val_main_cst_3, val_main_cst_4, val_main_cst_5, val_main_cst_6]

theorem row_apply (t : Fin 10240) (k : Fin 1024) :
    val_main_v58 (F := Ideal) x0 x1 x2 x3 (ix2 t k) = row (argsOf x0 x1 x2 x3 x4) t k := by
  pointwise [val_main_v58]
  unfold row argsOf Cert.Moe.cond
  by_cases h : t.val < 8192
  · rw [dif_pos h, if_pos h, prompt_apply]
    simp only [dif_pos h]
  · rw [dif_neg h, if_neg h, latent_apply]
    simp only [dif_neg h]

theorem out_apply (t : Fin 10240) (j : Fin 3328) :
    val_main_v61 (F := Ideal) x0 x1 x2 x3 x4 (ix2 t j) = out (argsOf x0 x1 x2 x3 x4) t j := by
  pointwise [val_main_v61, val_main_v60, val_main_v59]
  unfold out
  refine Finset.sum_congr rfl fun k _ => ?_
  rw [row_apply x0 x1 x2 x3 x4]
  rfl

/-- The reference's result is the array of the projections. -/
theorem out_eq : val_main_v61 (F := Ideal) x0 x1 x2 x3 x4 = fun y => out (argsOf x0 x1 x2 x3 x4) (y 0) (y 1) := by
  funext y
  refine Eq.trans (congrArg _ ?_) (out_apply x0 x1 x2 x3 x4 (y 0) (y 1))
  funext a
  match a with
  | 0 => rfl
  | 1 => rfl

end Cert.Reference3Ideal.InProj

end
-- ==== Proof.InProj.Claims.lean ====
/- The frame of the input projection's reference, and the equality of the two results. -/
module

public import proofs.«01_k».proof.Defs
public import proofs.«01_k».proof.Proof.Gen.Reference3Ideal.Run
public import proofs.«01_k».proof.Proof.InProj.Arrays
public import proofs.«01_k».proof.Proof.InProj.RefValue
public import Idealize.ShloMosaic.Adequacy
public import Idealize.ShloMosaic.Init

@[expose] public section

set_option maxRecDepth 16384

noncomputable section

namespace Cert.Proof.InProj

open Cert.InProj Idealize.ShloMosaic Idealize.ShloMosaic.StableHlo Idealize.SL.Sem

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The values of the run of the kernel and of the run of the reference agree. -/
theorem values : Cert.algebraic_Kernel3Ideal_Reference3Ideal := fun m ρ m' ρ' _ hag =>
  ⟨fun c => Cert.Kernel3Ideal.InProj.outArr (Cert.Kernel3Ideal.InProj.args m c), Cert.Kernel3Ideal.InProj.run_out m ρ,
    (θ_run Cert.Reference3Ideal.defs _ _).mono (fun _ h c => by
        obtain ⟨a0, a1, a2, a3, a4⟩ := hag c
        refine ⟨(h c).1.trans ((Cert.Reference3Ideal.Read.val_main_v61_eq _ _ _ _ _).trans
          ((Cert.Reference3Ideal.InProj.out_eq _ _ _ _ _).trans ?_)), (h c).2⟩
        rw [a0, a1, a2, a3, a4]
        rfl)
      (Cert.Reference3Ideal.Value.run (F := Ideal) m' ρ')⟩

end Cert.Proof.InProj

end
-- ==== Proof.InProj1.Body.lean ====
/- What one point of the second layer's input projection leaves in its output blocks and in the scratch of cast weights. -/
module

public import proofs.«01_k».proof.Proof.Gen.Kernel4Ideal.Frame
public import Idealize.ShloMosaic.Lib.Pipeline.Value

@[expose] public section

set_option maxRecDepth 16384

noncomputable section

namespace Cert.Kernel4Ideal.InProj1

open Cert.Kernel4Ideal Cert.Kernel4Ideal.Gen Idealize.ShloMosaic Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The two halves of a block of tokens, of words, of the experts' weights and of outputs, and the experts' modulation. -/
def xLo : Rect S512x1024 := Rect.unit (s := S512x1024) ![0, 0] S256x1024.size inb_S512x1024_S256x1024_0_0
def xHi : Rect S512x1024 := Rect.unit (s := S512x1024) ![256, 0] S256x1024.size inb_S512x1024_S256x1024_256_0
def pLo : Rect S512x512 := Rect.unit (s := S512x512) ![0, 0] S256x512.size inb_S512x512_S256x512_0_0
def pHi : Rect S512x512 := Rect.unit (s := S512x512) ![256, 0] S256x512.size inb_S512x512_S256x512_256_0
def wLo : Rect S512x2 := Rect.unit (s := S512x2) ![0, 0] S256x2.size inb_S512x2_S256x2_0_0
def wHi : Rect S512x2 := Rect.unit (s := S512x2) ![256, 0] S256x2.size inb_S512x2_S256x2_256_0
def gRow : Rect S1x6x1024 := Rect.unit (s := S1x6x1024) ![0, 5, 0] S1x1x1024.size inb_S1x6x1024_S1x1x1024_0_5_0
def oLo : Rect S512x3072 := Rect.unit (s := S512x3072) ![0, 0] S256x3072.size inb_S512x3072_S256x3072_0_0
def oHi : Rect S512x3072 := Rect.unit (s := S512x3072) ![256, 0] S256x3072.size inb_S512x3072_S256x3072_256_0

/-- The tokens of each half with their experts' rows, and those normed and modulated. -/
def tLo (x0 : Vec F S512x1024 .f32) (x1 x2 : Vec F S512x512 .i32) (x3 : Vec F S512x2 .f32) (x4 : Vec F S1x6x1024 .f32) : FVec F S256x1024 .f32 :=
  k0_pay5 (View.ld x3 wLo) (View.ld x1 pLo) (View.ld x2 pLo) (View.ld x0 xLo) (View.ld x4 gRow)
def tHi (x0 : Vec F S512x1024 .f32) (x1 x2 : Vec F S512x512 .i32) (x3 : Vec F S512x2 .f32) (x4 : Vec F S1x6x1024 .f32) : FVec F S256x1024 .f32 :=
  k0_pay10 (k0_pay8 (View.ld x3 wHi) (View.ld x1 pHi)) (k0_pay9 (View.ld x3 wHi)) (View.ld x2 pHi) 4294901760#32 (View.ld x0 xHi) (View.ld x4 gRow)
def hLo (x0 : Vec F S512x1024 .f32) (x1 x2 : Vec F S512x512 .i32) (x3 : Vec F S512x2 .f32) (x4 : Vec F S1x6x1024 .f32) (x5 : Vec F S1x1024 .f32)
    (x6 : Vec F S1x6x1024 .f32) : FVec F S1x256x1024 .bf16 :=
  k0_pay7 (k0_pay5 (View.ld x3 wLo) (View.ld x1 pLo) (View.ld x2 pLo) (View.ld x0 xLo) (View.ld x4 gRow)) (k0_pay6 x5) x6
def hHi (x0 : Vec F S512x1024 .f32) (x1 x2 : Vec F S512x512 .i32) (x3 : Vec F S512x2 .f32) (x4 : Vec F S1x6x1024 .f32) (x5 : Vec F S1x1024 .f32)
    (x6 : Vec F S1x6x1024 .f32) : FVec F S1x256x1024 .bf16 :=
  k0_pay1 (k0_pay11 (k0_pay8 (View.ld x3 wHi) (View.ld x1 pHi)) (k0_pay9 (View.ld x3 wHi)) (View.ld x2 pHi) 4294901760#32 (View.ld x0 xHi)
    (View.ld x4 gRow) x5 x6)

/-- The two stores of a point into each of its output blocks, the last first, the second from the cast weights. -/
def tokPieces (x0 : Vec F S512x1024 .f32) (x1 x2 : Vec F S512x512 .i32) (x3 : Vec F S512x2 .f32) (x4 : Vec F S1x6x1024 .f32) :
    List (View.Piece (Elt F) S512x1024 .f32) := [⟨xHi, tHi x0 x1 x2 x3 x4⟩, ⟨xLo, tLo x0 x1 x2 x3 x4⟩]
def outPieces (x0 : Vec F S512x1024 .f32) (x1 x2 : Vec F S512x512 .i32) (x3 : Vec F S512x2 .f32) (x4 : Vec F S1x6x1024 .f32) (x5 : Vec F S1x1024 .f32)
    (x6 : Vec F S1x6x1024 .f32) (x8 : Vec F S1x3072 .f32) (w : Vec F S1024x3072 .bf16) : List (View.Piece (Elt F) S512x3072 .bf16) :=
  [⟨oHi, k0_pay3 (hHi x0 x1 x2 x3 x4 x5 x6) w x8⟩, ⟨oLo, k0_pay2 (hLo x0 x1 x2 x3 x4 x5 x6) w x8⟩]

/-- The two rows of the scratch of normed tokens. -/
def rowHi : Rect S2x256x1024 := Rect.unit (s := S2x256x1024) ![1, 0, 0] S1x256x1024.size inb_S2x256x1024_S1x256x1024_1_0_0
def rowLo : Rect S2x256x1024 := Rect.unit (s := S2x256x1024) ![0, 0, 0] S1x256x1024.size inb_S2x256x1024_S1x256x1024_0_0_0

theorem rowLo_not_mem (j : rowLo.shape.Idx) : rowLo.emb j ∉ rowHi.set := by
  intro h
  have a : 1 ≤ (rowLo.emb j 0).val := (Rect.mem_set_unit.mp h 0).1
  have b : (rowLo.emb j 0).val < 0 + 1 := (Rect.mem_set_unit.mp (rowLo.idx_mem j) 0).2
  omega

theorem read_hi {κ : Kind} {sp : Space} (v : View sig κ sp S2x256x1024 .bf16) (p q : Vec F S1x256x1024 .bf16) :
    v.readCov (Val := Elt F) [⟨Rect.unit (s := S2x256x1024) ![1, 0, 0] S1x256x1024.size inb_S2x256x1024_S1x256x1024_1_0_0, p⟩,
      ⟨Rect.unit (s := S2x256x1024) ![0, 0, 0] S1x256x1024.size inb_S2x256x1024_S1x256x1024_0_0_0, q⟩]
      (Rect.unit (s := S2x256x1024) ![1, 0, 0] ![1, 256, 1024] inb_S2x256x1024_S1x256x1024_1_0_0).toLoadRect = p :=
  View.readCov_cons_toLoadRect (Val := Elt F) v (Rect.unit (s := S2x256x1024) ![1, 0, 0] S1x256x1024.size inb_S2x256x1024_S1x256x1024_1_0_0) p _

theorem read_lo {κ : Kind} {sp : Space} (v : View sig κ sp S2x256x1024 .bf16) (p q : Vec F S1x256x1024 .bf16) :
    v.readCov (Val := Elt F) [⟨Rect.unit (s := S2x256x1024) ![1, 0, 0] S1x256x1024.size inb_S2x256x1024_S1x256x1024_1_0_0, p⟩,
      ⟨Rect.unit (s := S2x256x1024) ![0, 0, 0] S1x256x1024.size inb_S2x256x1024_S1x256x1024_0_0_0, q⟩]
      (Rect.unit (s := S2x256x1024) ![0, 0, 0] S1x256x1024.size inb_S2x256x1024_S1x256x1024_0_0_0).toLoadRect = q :=
  (View.readCov_eq_canon' (Val := Elt F) v [⟨rowHi, p⟩, ⟨rowLo, q⟩] rowLo.toLoadRect).trans (funext fun j =>
    (View.canon_cons_of_not_mem (Val := Elt F) ⟨rowHi, p⟩ [⟨rowLo, q⟩] (rowLo_not_mem j)).trans (View.canon_cons_emb rowLo q [] j))

theorem read_w {κ : Kind} {sp : Space} (v : View sig κ sp S1024x3072 .bf16) (w : Vec F S1024x3072 .bf16) :
    v.readCov (Val := Elt F) [⟨Rect.unit (s := S1024x3072) ![0, 0] S1024x3072.size inb_S1024x3072_S1024x3072_0_0, w⟩]
      (Rect.unit (s := S1024x3072) ![0, 0] S1024x3072.size inb_S1024x3072_S1024x3072_0_0).toLoadRect = w :=
  View.readCov_unit_zero (S := S1024x3072) v zero2 _ _

theorem sout_A_0_eq (c : Dev nD) (i : grid0.Coords) (arg1 : Memref sig .tc .vmem S512x1024 .f32) (harg1 : arg1.IsWhole) (arg2 : Memref sig .tc .vmem S512x512 .i32) (harg2 : arg2.IsWhole) (arg3 : Memref sig .tc .vmem S512x512 .i32) (harg3 : arg3.IsWhole) (arg4 : Memref sig .tc .vmem S512x2 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x6x1024 .f32) (harg7 : arg7.IsWhole) (arg8 : Memref sig .tc .vmem S1024x3072 .f32) (harg8 : arg8.IsWhole) (arg9 : Memref sig .tc .vmem S1x3072 .f32) (harg9 : arg9.IsWhole) (arg10 : Memref sig .tc .vmem S512x1024 .f32) (harg10 : arg10.IsWhole) (arg11 : Memref sig .tc .vmem S512x3072 .bf16) (harg11 : arg11.IsWhole) (arg12 : Memref sig .tc .vmem S1024x3072 .bf16) (harg12 : arg12.IsWhole) (arg13 : Memref sig .tc .vmem S2x256x1024 .bf16) (harg13 : arg13.IsWhole) (hc0 : cond0_0 i)
    (x0 : Vec F S512x1024 .f32) (x1 : Vec F S512x512 .i32) (x2 : Vec F S512x512 .i32) (x3 : Vec F S512x2 .f32) (x4 : Vec F S1x6x1024 .f32) (x5 : Vec F S1x1024 .f32) (x6 : Vec F S1x6x1024 .f32) (x7 : Vec F S1024x3072 .f32) (x8 : Vec F S1x3072 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay4 x7 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero (S := S1024x3072) zero2]
  simp only [View.readAt_eq_ld, harg1.read_unread, harg2.read_unread, harg3.read_unread, harg4.read_unread, harg5.read_unread, harg6.read_unread, harg7.read_unread, harg8.read_unread, harg9.read_unread, View.ld_unit_zero (S := S1x1024) zero2, View.ld_unit_zero (S := S1x6x1024) zero3, View.ld_unit_zero (S := S1024x3072) zero2, View.ld_unit_zero (S := S1x3072) zero2]

theorem out_A_9_eq (c : Dev nD) (i : grid0.Coords) (arg1 : Memref sig .tc .vmem S512x1024 .f32) (harg1 : arg1.IsWhole) (arg2 : Memref sig .tc .vmem S512x512 .i32) (harg2 : arg2.IsWhole) (arg3 : Memref sig .tc .vmem S512x512 .i32) (harg3 : arg3.IsWhole) (arg4 : Memref sig .tc .vmem S512x2 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x6x1024 .f32) (harg7 : arg7.IsWhole) (arg8 : Memref sig .tc .vmem S1024x3072 .f32) (harg8 : arg8.IsWhole) (arg9 : Memref sig .tc .vmem S1x3072 .f32) (harg9 : arg9.IsWhole) (arg10 : Memref sig .tc .vmem S512x1024 .f32) (harg10 : arg10.IsWhole) (arg11 : Memref sig .tc .vmem S512x3072 .bf16) (harg11 : arg11.IsWhole) (arg12 : Memref sig .tc .vmem S1024x3072 .bf16) (harg12 : arg12.IsWhole) (arg13 : Memref sig .tc .vmem S2x256x1024 .bf16) (harg13 : arg13.IsWhole) (hc0 : cond0_0 i)
    (x0 : Vec F S512x1024 .f32) (x1 : Vec F S512x512 .i32) (x2 : Vec F S512x512 .i32) (x3 : Vec F S512x2 .f32) (x4 : Vec F S1x6x1024 .f32) (x5 : Vec F S1x1024 .f32) (x6 : Vec F S1x6x1024 .f32) (x7 : Vec F S1024x3072 .f32) (x8 : Vec F S1x3072 .f32) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = View.canon (Val := Elt F) (tokPieces x0 x1 x2 x3 x4) := by
  unfold out0_A_9 tokPieces tLo tHi
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S1x1024) zero2, View.ld_unit_zero (S := S1x6x1024) zero3, View.ld_unit_zero (S := S1024x3072) zero2, View.ld_unit_zero (S := S1x3072) zero2]
  rfl

theorem out_A_10_eq (c : Dev nD) (i : grid0.Coords) (arg1 : Memref sig .tc .vmem S512x1024 .f32) (harg1 : arg1.IsWhole) (arg2 : Memref sig .tc .vmem S512x512 .i32) (harg2 : arg2.IsWhole) (arg3 : Memref sig .tc .vmem S512x512 .i32) (harg3 : arg3.IsWhole) (arg4 : Memref sig .tc .vmem S512x2 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x6x1024 .f32) (harg7 : arg7.IsWhole) (arg8 : Memref sig .tc .vmem S1024x3072 .f32) (harg8 : arg8.IsWhole) (arg9 : Memref sig .tc .vmem S1x3072 .f32) (harg9 : arg9.IsWhole) (arg10 : Memref sig .tc .vmem S512x1024 .f32) (harg10 : arg10.IsWhole) (arg11 : Memref sig .tc .vmem S512x3072 .bf16) (harg11 : arg11.IsWhole) (arg12 : Memref sig .tc .vmem S1024x3072 .bf16) (harg12 : arg12.IsWhole) (arg13 : Memref sig .tc .vmem S2x256x1024 .bf16) (harg13 : arg13.IsWhole) (hc0 : cond0_0 i)
    (x0 : Vec F S512x1024 .f32) (x1 : Vec F S512x512 .i32) (x2 : Vec F S512x512 .i32) (x3 : Vec F S512x2 .f32) (x4 : Vec F S1x6x1024 .f32) (x5 : Vec F S1x1024 .f32) (x6 : Vec F S1x6x1024 .f32) (x7 : Vec F S1024x3072 .f32) (x8 : Vec F S1x3072 .f32) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = View.canon (Val := Elt F) (outPieces x0 x1 x2 x3 x4 x5 x6 x8 (k0_pay4 x7)) := by
  unfold out0_A_10 outPieces hLo hHi
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [read_hi, read_lo]
  rw [read_w]
  simp only [View.readAt_eq_ld, harg1.read_unread, harg2.read_unread, harg3.read_unread, harg4.read_unread, harg5.read_unread, harg6.read_unread, harg7.read_unread, harg8.read_unread, harg9.read_unread, View.ld_unit_zero (S := S1x1024) zero2, View.ld_unit_zero (S := S1x6x1024) zero3, View.ld_unit_zero (S := S1024x3072) zero2, View.ld_unit_zero (S := S1x3072) zero2]
  rfl

theorem out_B_9_eq (c : Dev nD) (i : grid0.Coords) (arg1 : Memref sig .tc .vmem S512x1024 .f32) (harg1 : arg1.IsWhole) (arg2 : Memref sig .tc .vmem S512x512 .i32) (harg2 : arg2.IsWhole) (arg3 : Memref sig .tc .vmem S512x512 .i32) (harg3 : arg3.IsWhole) (arg4 : Memref sig .tc .vmem S512x2 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x6x1024 .f32) (harg7 : arg7.IsWhole) (arg8 : Memref sig .tc .vmem S1024x3072 .f32) (harg8 : arg8.IsWhole) (arg9 : Memref sig .tc .vmem S1x3072 .f32) (harg9 : arg9.IsWhole) (arg10 : Memref sig .tc .vmem S512x1024 .f32) (harg10 : arg10.IsWhole) (arg11 : Memref sig .tc .vmem S512x3072 .bf16) (harg11 : arg11.IsWhole) (arg12 : Memref sig .tc .vmem S1024x3072 .bf16) (harg12 : arg12.IsWhole) (arg13 : Memref sig .tc .vmem S2x256x1024 .bf16) (harg13 : arg13.IsWhole) (hc0 : ¬cond0_0 i)
    (x0 : Vec F S512x1024 .f32) (x1 : Vec F S512x512 .i32) (x2 : Vec F S512x512 .i32) (x3 : Vec F S512x2 .f32) (x4 : Vec F S1x6x1024 .f32) (x5 : Vec F S1x1024 .f32) (x6 : Vec F S1x6x1024 .f32) (x7 : Vec F S1024x3072 .f32) (x8 : Vec F S1x3072 .f32) (xs0 : Vec F S1024x3072 .bf16) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = View.canon (Val := Elt F) (tokPieces x0 x1 x2 x3 x4) := by
  unfold out0_B_9 tokPieces tLo tHi
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, View.ld_unit_zero (S := S1x1024) zero2, View.ld_unit_zero (S := S1x6x1024) zero3, View.ld_unit_zero (S := S1024x3072) zero2, View.ld_unit_zero (S := S1x3072) zero2]
  rfl

theorem out_B_10_eq (c : Dev nD) (i : grid0.Coords) (arg1 : Memref sig .tc .vmem S512x1024 .f32) (harg1 : arg1.IsWhole) (arg2 : Memref sig .tc .vmem S512x512 .i32) (harg2 : arg2.IsWhole) (arg3 : Memref sig .tc .vmem S512x512 .i32) (harg3 : arg3.IsWhole) (arg4 : Memref sig .tc .vmem S512x2 .f32) (harg4 : arg4.IsWhole) (arg5 : Memref sig .tc .vmem S1x6x1024 .f32) (harg5 : arg5.IsWhole) (arg6 : Memref sig .tc .vmem S1x1024 .f32) (harg6 : arg6.IsWhole) (arg7 : Memref sig .tc .vmem S1x6x1024 .f32) (harg7 : arg7.IsWhole) (arg8 : Memref sig .tc .vmem S1024x3072 .f32) (harg8 : arg8.IsWhole) (arg9 : Memref sig .tc .vmem S1x3072 .f32) (harg9 : arg9.IsWhole) (arg10 : Memref sig .tc .vmem S512x1024 .f32) (harg10 : arg10.IsWhole) (arg11 : Memref sig .tc .vmem S512x3072 .bf16) (harg11 : arg11.IsWhole) (arg12 : Memref sig .tc .vmem S1024x3072 .bf16) (harg12 : arg12.IsWhole) (arg13 : Memref sig .tc .vmem S2x256x1024 .bf16) (harg13 : arg13.IsWhole) (hc0 : ¬cond0_0 i)
    (x0 : Vec F S512x1024 .f32) (x1 : Vec F S512x512 .i32) (x2 : Vec F S512x512 .i32) (x3 : Vec F S512x2 .f32) (x4 : Vec F S1x6x1024 .f32) (x5 : Vec F S1x1024 .f32) (x6 : Vec F S1x6x1024 .f32) (x7 : Vec F S1024x3072 .f32) (x8 : Vec F S1x3072 .f32) (xs0 : Vec F S1024x3072 .bf16) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = View.canon (Val := Elt F) (outPieces x0 x1 x2 x3 x4 x5 x6 x8 xs0) := by
  unfold out0_B_10 outPieces hLo hHi
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0)]
  unfold kernelRun0_B
  dsimp only
  sl_unfold_words
  rw [read_hi, read_lo]
  simp only [View.readAt_eq_ld, harg1.read_unread, harg2.read_unread, harg3.read_unread, harg4.read_unread, harg5.read_unread, harg6.read_unread, harg7.read_unread, harg8.read_unread, harg9.read_unread, View.ld_unit_zero (S := S1x1024) zero2, View.ld_unit_zero (S := S1x6x1024) zero3, View.ld_unit_zero (S := S1024x3072) zero2, View.ld_unit_zero (S := S1x3072) zero2, harg12.read_unread]
  rfl

end Cert.Kernel4Ideal.InProj1

end
-- ==== Proof.InProj1.Spec.lean ====
/- The second layer's input projection: every token takes its two experts' rows, weighted and modulated, onto its own, and is then
   normed over its channels, modulated, and multiplied by the weights, with a bias. -/
module

public import proofs.«01_k».proof.Proof.InProj.Spec

@[expose] public section

noncomputable section

namespace Cert.InProj1

open Idealize.ShloMosaic

/-- The tokens, their two experts' rows (a word holds two numbers), the experts' weights and modulation, and the second layer's
    gain, scale, shift, weights and bias. -/
structure Args where
  x : Fin 10240 → Fin 1024 → EReal
  ya : Fin 10240 → Fin 512 → BitVec 32
  yb : Fin 10240 → Fin 512 → BitVec 32
  wa : Fin 10240 → EReal
  wb : Fin 10240 → EReal
  gate : Fin 8 → Fin 1024 → EReal
  gain : Fin 1024 → EReal
  scale : Fin 8 → Fin 1024 → EReal
  shift : Fin 8 → Fin 1024 → EReal
  w : Fin 1024 → Fin 3072 → EReal
  bias : Fin 3072 → EReal

/-- The number in a word's high half, and the one in its low half. -/
def high (b : BitVec 32) : EReal := Ideal.ofBits FTy.f32 (IntOp.andi b 4294901760#32)
def low (b : BitVec 32) : EReal := Ideal.ofBits FTy.f32 (IntOp.shli .vector b 16#32)

/-- A row from its words: the high halves, then the low halves. -/
def rowOf (p : Fin 512 → BitVec 32) (k : Fin 1024) : EReal :=
  if h : k.val < 512 then high (p ⟨k.val, h⟩) else low (p ⟨k.val - 512, by omega⟩)

def mixRow (x : Fin 1024 → EReal) (a b : Fin 512 → BitVec 32) (wa wb : EReal) (gate : Fin 1024 → EReal) (k : Fin 1024) : EReal :=
  x k + gate k * (wa * rowOf a k + wb * rowOf b k)

variable (A : Args)

def tok (t : Fin 10240) : Fin 1024 → EReal := mixRow (A.x t) (A.ya t) (A.yb t) (A.wa t) (A.wb t) (A.gate (Moe.cond t))

def row (t : Fin 10240) : Fin 1024 → EReal := InProj.normRow (tok A t) A.gain (A.scale (Moe.cond t)) (A.shift (Moe.cond t))

def out (t : Fin 10240) (j : Fin 3072) : EReal := (∑ k : Fin 1024, row A t k * A.w k j) + A.bias j

end Cert.InProj1

end
-- ==== Proof.InProj1.Point.lean ====
/- One point's terms read at an index. -/
module

public import proofs.«01_k».proof.Proof.InProj1.Body
public import proofs.«01_k».proof.Proof.InProj1.Spec
public import Idealize.ShloMosaic.Lib.Pipeline.ValueKit

@[expose] public section

set_option maxRecDepth 16384

noncomputable section

namespace Cert.Kernel4Ideal.InProj1

open Cert.InProj (normRow)
open Cert.InProj1 Cert.Kernel4Ideal Cert.Kernel4Ideal.Gen Idealize.ShloMosaic Idealize.SL.Sem

theorem cast_apply (w : Vec Ideal S1024x3072 .f32) (k : Fin 1024) (j : Fin 3072) : k0_pay4 w (ix2 k j) = (w (ix2 k j) : EReal) := by
  pointwise [k0_pay4]

theorem lo_dot (h : Vec Ideal S1x256x1024 .bf16) (w : Vec Ideal S1024x3072 .bf16) (b : Vec Ideal S1x3072 .f32) (r : Fin 256) (j : Fin 3072) :
    k0_pay2 h w b (ix2 r j) = ((∑ k : Fin 1024, h (ix3 0 r k) * w (ix2 k j)) + b (ix2 0 j) : EReal) := by
  pointwise [k0_pay2]

theorem hi_dot (h : Vec Ideal S1x256x1024 .bf16) (w : Vec Ideal S1024x3072 .bf16) (b : Vec Ideal S1x3072 .f32) (r : Fin 256) (j : Fin 3072) :
    k0_pay3 h w b (ix2 r j) = ((∑ k : Fin 1024, h (ix3 0 r k) * w (ix2 k j)) + b (ix2 0 j) : EReal) := by
  pointwise [k0_pay3]

theorem lo_norm (t : Vec Ideal S256x1024 .f32) (g : Vec Ideal S1x1024 .f32) (m : Vec Ideal S1x6x1024 .f32) (r : Fin 256) (k : Fin 1024) :
    k0_pay7 t (k0_pay6 g) m (ix3 0 r k) = normRow (fun k => t (ix2 r k))
      (fun k => g (ix2 0 k)) (fun k => m (ix3 0 1 k)) (fun k => m (ix3 0 0 k)) k := by
  unfold normRow
  pointwise [k0_pay7, k0_pay6]

theorem hi_norm (a : Vec Ideal S256x1024 .f32) (b : Vec Ideal S256x1 .f32) (p : Vec Ideal S256x512 .i32) (c : BitVec 32) (x : Vec Ideal S256x1024 .f32)
    (q : Vec Ideal S1x1x1024 .f32) (g : Vec Ideal S1x1024 .f32) (m : Vec Ideal S1x6x1024 .f32) (r : Fin 256) (k : Fin 1024) :
    k0_pay1 (k0_pay11 a b p c x q g m) (ix3 0 r k) = normRow (fun k => k0_pay10 a b p c x q (ix2 r k))
      (fun k => g (ix2 0 k)) (fun k => m (ix3 0 1 k)) (fun k => m (ix3 0 0 k)) k := by
  unfold normRow k0_pay11
  generalize k0_pay10 a b p c x q = t
  pointwise [k0_pay1]

theorem lo_mix (w : Vec Ideal S256x2 .f32) (a b : Vec Ideal S256x512 .i32) (x : Vec Ideal S256x1024 .f32) (q : Vec Ideal S1x1x1024 .f32)
    (r : Fin 256) (k : Fin 1024) :
    k0_pay5 w a b x q (ix2 r k) = mixRow (fun k => x (ix2 r k)) (fun k => a (ix2 r k)) (fun k => b (ix2 r k)) (w (ix2 r 0)) (w (ix2 r 1))
      (fun k => q (ix3 0 0 k)) k := by
  unfold mixRow rowOf high low
  pointwise [k0_pay5]

theorem hi_mix (w : Vec Ideal S256x2 .f32) (a b : Vec Ideal S256x512 .i32) (x : Vec Ideal S256x1024 .f32) (q : Vec Ideal S1x1x1024 .f32)
    (r : Fin 256) (k : Fin 1024) :
    k0_pay10 (k0_pay8 w a) (k0_pay9 w) b 4294901760#32 x q (ix2 r k) = mixRow (fun k => x (ix2 r k)) (fun k => a (ix2 r k)) (fun k => b (ix2 r k))
      (w (ix2 r 0)) (w (ix2 r 1)) (fun k => q (ix3 0 0 k)) k := by
  unfold mixRow rowOf high low
  pointwise [k0_pay10, k0_pay8, k0_pay9]

theorem xLo_emb (r : Fin 256) (k : Fin 1024) : xLo.emb (ix2 r k) = (ix2 ⟨r.val, by omega⟩ k : S512x1024.Idx) := by
  funext a
  fin_cases a <;> apply Fin.ext <;> refine (ValueKit.rect_emb_unit_val _ _ _ _ _).trans ?_ <;> simp [ix2]
theorem xHi_emb (r : Fin 256) (k : Fin 1024) : xHi.emb (ix2 r k) = (ix2 ⟨256 + r.val, by omega⟩ k : S512x1024.Idx) := by
  funext a
  fin_cases a <;> apply Fin.ext <;> refine (ValueKit.rect_emb_unit_val _ _ _ _ _).trans ?_ <;> simp [ix2]
theorem oLo_emb (r : Fin 256) (j : Fin 3072) : oLo.emb (ix2 r j) = (ix2 ⟨r.val, by omega⟩ j : S512x3072.Idx) := by
  funext a
  fin_cases a <;> apply Fin.ext <;> refine (ValueKit.rect_emb_unit_val _ _ _ _ _).trans ?_ <;> simp [ix2]
theorem oHi_emb (r : Fin 256) (j : Fin 3072) : oHi.emb (ix2 r j) = (ix2 ⟨256 + r.val, by omega⟩ j : S512x3072.Idx) := by
  funext a
  fin_cases a <;> apply Fin.ext <;> refine (ValueKit.rect_emb_unit_val _ _ _ _ _).trans ?_ <;> simp [ix2]

theorem pLo_emb (r : Fin 256) (k : Fin 512) : pLo.emb (ix2 r k) = (ix2 ⟨r.val, by omega⟩ k : S512x512.Idx) := by
  funext a
  fin_cases a <;> apply Fin.ext <;> refine (ValueKit.rect_emb_unit_val _ _ _ _ _).trans ?_ <;> simp [ix2]
theorem pHi_emb (r : Fin 256) (k : Fin 512) : pHi.emb (ix2 r k) = (ix2 ⟨256 + r.val, by omega⟩ k : S512x512.Idx) := by
  funext a
  fin_cases a <;> apply Fin.ext <;> refine (ValueKit.rect_emb_unit_val _ _ _ _ _).trans ?_ <;> simp [ix2]
theorem wLo_emb (r : Fin 256) (k : Fin 2) : wLo.emb (ix2 r k) = (ix2 ⟨r.val, by omega⟩ k : S512x2.Idx) := by
  funext a
  fin_cases a <;> apply Fin.ext <;> refine (ValueKit.rect_emb_unit_val _ _ _ _ _).trans ?_ <;> simp [ix2]
theorem wHi_emb (r : Fin 256) (k : Fin 2) : wHi.emb (ix2 r k) = (ix2 ⟨256 + r.val, by omega⟩ k : S512x2.Idx) := by
  funext a
  fin_cases a <;> apply Fin.ext <;> refine (ValueKit.rect_emb_unit_val _ _ _ _ _).trans ?_ <;> simp [ix2]
theorem gRow_emb (k : Fin 1024) : gRow.emb (ix3 0 0 k) = (ix3 0 5 k : S1x6x1024.Idx) := by
  funext a
  fin_cases a <;> apply Fin.ext <;> refine (ValueKit.rect_emb_unit_val _ _ _ _ _).trans ?_ <;> simp [ix3]

variable (x0 : Vec Ideal S512x1024 .f32) (x1 x2 : Vec Ideal S512x512 .i32) (x3 : Vec Ideal S512x2 .f32) (x4 : Vec Ideal S1x6x1024 .f32)
  (x5 : Vec Ideal S1x1024 .f32) (x6 : Vec Ideal S1x6x1024 .f32) (x8 : Vec Ideal S1x3072 .f32) (w : Vec Ideal S1024x3072 .bf16)

/-- Row `r` of a block, with its experts' rows. -/
def blockRow (r : Fin 512) : Fin 1024 → EReal :=
  mixRow (fun k => x0 (ix2 r k)) (fun k => x1 (ix2 r k)) (fun k => x2 (ix2 r k)) (x3 (ix2 r 0)) (x3 (ix2 r 1)) (fun k => x4 (ix3 0 5 k))

theorem lo_row (r : Fin 256) (k : Fin 1024) :
    k0_pay5 (View.ld x3 wLo) (View.ld x1 pLo) (View.ld x2 pLo) (View.ld x0 xLo) (View.ld x4 gRow) (ix2 r k)
      = blockRow x0 x1 x2 x3 x4 ⟨r.val, by omega⟩ k := by
  refine (lo_mix _ _ _ _ _ r k).trans ?_
  have a : ∀ k : Fin 1024, View.ld x0 xLo (ix2 r k) = x0 (ix2 ⟨r.val, by omega⟩ k) := fun k => congrArg x0 (xLo_emb r k)
  have b : ∀ k : Fin 512, View.ld x1 pLo (ix2 r k) = x1 (ix2 ⟨r.val, by omega⟩ k) := fun k => congrArg x1 (pLo_emb r k)
  have c : ∀ k : Fin 512, View.ld x2 pLo (ix2 r k) = x2 (ix2 ⟨r.val, by omega⟩ k) := fun k => congrArg x2 (pLo_emb r k)
  have d : ∀ k : Fin 2, View.ld x3 wLo (ix2 r k) = x3 (ix2 ⟨r.val, by omega⟩ k) := fun k => congrArg x3 (wLo_emb r k)
  have e : ∀ k : Fin 1024, View.ld x4 gRow (ix3 0 0 k) = x4 (ix3 0 5 k) := fun k => congrArg x4 (gRow_emb k)
  unfold blockRow
  rw [funext a, funext b, funext c, funext e, d 0, d 1]

theorem hi_row (r : Fin 256) (k : Fin 1024) :
    k0_pay10 (k0_pay8 (View.ld x3 wHi) (View.ld x1 pHi)) (k0_pay9 (View.ld x3 wHi)) (View.ld x2 pHi) 4294901760#32 (View.ld x0 xHi)
        (View.ld x4 gRow) (ix2 r k)
      = blockRow x0 x1 x2 x3 x4 ⟨256 + r.val, by omega⟩ k := by
  refine (hi_mix _ _ _ _ _ r k).trans ?_
  have a : ∀ k : Fin 1024, View.ld x0 xHi (ix2 r k) = x0 (ix2 ⟨256 + r.val, by omega⟩ k) := fun k => congrArg x0 (xHi_emb r k)
  have b : ∀ k : Fin 512, View.ld x1 pHi (ix2 r k) = x1 (ix2 ⟨256 + r.val, by omega⟩ k) := fun k => congrArg x1 (pHi_emb r k)
  have c : ∀ k : Fin 512, View.ld x2 pHi (ix2 r k) = x2 (ix2 ⟨256 + r.val, by omega⟩ k) := fun k => congrArg x2 (pHi_emb r k)
  have d : ∀ k : Fin 2, View.ld x3 wHi (ix2 r k) = x3 (ix2 ⟨256 + r.val, by omega⟩ k) := fun k => congrArg x3 (wHi_emb r k)
  have e : ∀ k : Fin 1024, View.ld x4 gRow (ix3 0 0 k) = x4 (ix3 0 5 k) := fun k => congrArg x4 (gRow_emb k)
  unfold blockRow
  rw [funext a, funext b, funext c, funext e, d 0, d 1]

/-- The block of tokens of a point: every row with its experts' rows. -/
theorem tok_apply (r : Fin 512) (k : Fin 1024) :
    View.canon (Val := Elt Ideal) (tokPieces x0 x1 x2 x3 x4) (ix2 r k) = (blockRow x0 x1 x2 x3 x4 r k : EReal) := by
  have key := View.canon_apply_of_pieces (Val := Elt Ideal) (S := S512x1024) (e := .f32)
    (fun y => (blockRow x0 x1 x2 x3 x4 (y 0) (y 1) : EReal)) (tokPieces x0 x1 x2 x3 x4) ?_ (ix2 r k) ?_
  · exact key
  · intro p hp y
    simp only [tokPieces, List.mem_cons, List.mem_nil_iff, or_false] at hp
    rcases hp with rfl | rfl
    · obtain ⟨r, l, rfl⟩ : ∃ (r : Fin 256) (l : Fin 1024), y = ix2 r l := ⟨y 0, y 1, by funext a; fin_cases a <;> rfl⟩
      dsimp only
      rw [xHi_emb]
      exact hi_row x0 x1 x2 x3 x4 r l
    · obtain ⟨r, l, rfl⟩ : ∃ (r : Fin 256) (l : Fin 1024), y = ix2 r l := ⟨y 0, y 1, by funext a; fin_cases a <;> rfl⟩
      dsimp only
      rw [xLo_emb]
      exact lo_row x0 x1 x2 x3 x4 r l
  · rcases Nat.lt_or_ge r.val 256 with hr | hr
    · refine ⟨⟨xLo, tLo x0 x1 x2 x3 x4⟩, List.mem_cons_of_mem _ (List.mem_singleton.mpr rfl), ?_⟩
      simp only [xLo, Rect.mem_set_unit]
      intro a
      fin_cases a <;> simp [ix2] <;> omega
    · refine ⟨⟨xHi, tHi x0 x1 x2 x3 x4⟩, List.mem_cons_self, ?_⟩
      simp only [xHi, Rect.mem_set_unit]
      intro a
      fin_cases a <;> simp [ix2] <;> omega

/-- The output block of a point: every row of that block normed, times the cast weights, with the bias. -/
theorem out_apply (r : Fin 512) (j : Fin 3072) :
    View.canon (Val := Elt Ideal) (outPieces x0 x1 x2 x3 x4 x5 x6 x8 w) (ix2 r j)
      = ((∑ k : Fin 1024, normRow (blockRow x0 x1 x2 x3 x4 r) (fun k => x5 (ix2 0 k)) (fun k => x6 (ix3 0 1 k)) (fun k => x6 (ix3 0 0 k)) k
          * w (ix2 k j)) + x8 (ix2 0 j) : EReal) := by
  have key := View.canon_apply_of_pieces (Val := Elt Ideal) (S := S512x3072) (e := .bf16)
    (fun y => ((∑ k : Fin 1024, normRow (blockRow x0 x1 x2 x3 x4 (y 0)) (fun k => x5 (ix2 0 k)) (fun k => x6 (ix3 0 1 k)) (fun k => x6 (ix3 0 0 k)) k
          * w (ix2 k (y 1))) + x8 (ix2 0 (y 1)) : EReal)) (outPieces x0 x1 x2 x3 x4 x5 x6 x8 w) ?_ (ix2 r j) ?_
  · exact key
  · intro p hp y
    simp only [outPieces, List.mem_cons, List.mem_nil_iff, or_false] at hp
    rcases hp with rfl | rfl
    · obtain ⟨r, l, rfl⟩ : ∃ (r : Fin 256) (l : Fin 3072), y = ix2 r l := ⟨y 0, y 1, by funext a; fin_cases a <;> rfl⟩
      dsimp only
      rw [oHi_emb, hi_dot]
      refine congrArg (· + _) (Finset.sum_congr rfl fun k _ => congrArg (· * _) ?_)
      unfold hHi
      refine (hi_norm _ _ _ _ _ _ _ _ r k).trans ?_
      exact congrArg (fun z => normRow z _ _ _ k) (funext fun k => hi_row x0 x1 x2 x3 x4 r k)
    · obtain ⟨r, l, rfl⟩ : ∃ (r : Fin 256) (l : Fin 3072), y = ix2 r l := ⟨y 0, y 1, by funext a; fin_cases a <;> rfl⟩
      dsimp only
      rw [oLo_emb, lo_dot]
      refine congrArg (· + _) (Finset.sum_congr rfl fun k _ => congrArg (· * _) ?_)
      unfold hLo
      refine (lo_norm _ _ _ r k).trans ?_
      exact congrArg (fun z => normRow z _ _ _ k) (funext fun k => lo_row x0 x1 x2 x3 x4 r k)
  · rcases Nat.lt_or_ge r.val 256 with hr | hr
    · refine ⟨⟨oLo, k0_pay2 (hLo x0 x1 x2 x3 x4 x5 x6) w x8⟩, List.mem_cons_of_mem _ (List.mem_singleton.mpr rfl), ?_⟩
      simp only [oLo, Rect.mem_set_unit]
      intro a
      fin_cases a <;> simp [ix2] <;> omega
    · refine ⟨⟨oHi, k0_pay3 (hHi x0 x1 x2 x3 x4 x5 x6) w x8⟩, List.mem_cons_self, ?_⟩
      simp only [oHi, Rect.mem_set_unit]
      intro a
      fin_cases a <;> simp [ix2] <;> omega

end Cert.Kernel4Ideal.InProj1

end
-- ==== Proof.InProj1.Arrays.lean ====
/- The blocks of the grid's points, the scratch of cast weights, and the two arrays the launch leaves. -/
module

public import proofs.«01_k».proof.Proof.InProj1.Point

@[expose] public section

set_option maxRecDepth 16384

noncomputable section

namespace Cert.Kernel4Ideal.InProj1

open Cert.Moe (cond cond_val)
open Cert.InProj (normRow)
open Cert.InProj1 Cert.Kernel4Ideal Cert.Kernel4Ideal.Gen Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  x t k := m ((c : Thread nD τ).loc main_arg0) (ix2 t k)
  ya t k := m ((c : Thread nD τ).loc main_arg1) (ix2 t k)
  yb t k := m ((c : Thread nD τ).loc main_arg2) (ix2 t k)
  wa t := m ((c : Thread nD τ).loc main_arg3) (ix2 t 0)
  wb t := m ((c : Thread nD τ).loc main_arg3) (ix2 t 1)
  gate a k := m ((c : Thread nD τ).loc main_arg4) (ix4 0 a 5 k)
  gain k := m ((c : Thread nD τ).loc main_arg5) (ix3 1 0 k)
  scale a k := m ((c : Thread nD τ).loc main_arg4) (ix4 1 a 1 k)
  shift a k := m ((c : Thread nD τ).loc main_arg4) (ix4 1 a 0 k)
  w k j := m ((c : Thread nD τ).loc main_arg6) (ix3 0 k j)
  bias j := m ((c : Thread nD τ).loc main_arg7) (ix2 0 j)

/-- Row `r` of the block of tokens of point `n`. -/
def at' (n : ℕ) (hn : n < cfg0.N) (r : Fin 512) : Fin 10240 :=
  ⟨512 * n + r.val, by have : n < 20 := hn; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![if t.val < 16 then 0 else 1 + (t.val - 16) / 2, 0, 0] :=
  (by decide +kernel : ∀ t : Fin grid0.N, win0_4.index t = ![if t.val < 16 then 0 else 1 + (t.val - 16) / 2, 0, 0])
theorem index5 : ∀ t : Fin cfg0.N, win0_5.index t = ![0, 0] := (by decide +kernel : ∀ t : Fin grid0.N, win0_5.index t = ![0, 0])
theorem index6 : ∀ t : Fin cfg0.N, win0_6.index t = ![if t.val < 16 then 0 else 1 + (t.val - 16) / 2, 0, 0] :=
  (by decide +kernel : ∀ t : Fin grid0.N, win0_6.index t = ![if t.val < 16 then 0 else 1 + (t.val - 16) / 2, 0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![t.val, 0] := (by decide +kernel : ∀ t : Fin grid0.N, win0_9.index t = ![t.val, 0])
theorem index10 : ∀ t : Fin cfg0.N, win0_10.index t = ![t.val, 0] := (by decide +kernel : ∀ t : Fin grid0.N, win0_10.index t = ![t.val, 0])

/-- What the host operations leave for the launch. -/
theorem gain_V (k : Fin 1024) : V m c main_v8 (ix2 0 k) = (args m c).gain k := by
  have e : V m c main_v8 = shapeCast S1x1024 (shapeCast S1024 (extractStridedSlice S1x1x1024 ![1, 0, 0] (m ((c : Thread nD τ).loc main_arg5))
      slices_S2x2x1024_S1x1x1024_1_0_0) shapeCasts_S1x1x1024_S1024) shapeCasts_S1024_S1x1024 := by
    unfold_abbrev_sides
    after_results
    rfl
  rw [e]
  pointwise
  rfl

theorem mods0_V (a : Fin 8) (b : Fin 6) (k : Fin 1024) : V m c main_v1 (ix3 a b k) = m ((c : Thread nD τ).loc main_arg4) (ix4 0 a b k) := by
  have e : V m c main_v1 = shapeCast S8x6x1024 (extractStridedSlice S1x8x6x1024 ![0, 0, 0, 0] (m ((c : Thread nD τ).loc main_arg4))
      slices_S2x8x6x1024_S1x8x6x1024_0_0_0_0) shapeCasts_S1x8x6x1024_S8x6x1024 := by
    unfold_abbrev_sides
    after_results
    rfl
  rw [e]
  pointwise

theorem mods1_V (a : Fin 8) (b : Fin 6) (k : Fin 1024) : V m c main_v5 (ix3 a b k) = m ((c : Thread nD τ).loc main_arg4) (ix4 1 a b k) := by
  have e : V m c main_v5 = shapeCast S8x6x1024 (extractStridedSlice S1x8x6x1024 ![1, 0, 0, 0] (m ((c : Thread nD τ).loc main_arg4))
      slices_S2x8x6x1024_S1x8x6x1024_1_0_0_0) shapeCasts_S1x8x6x1024_S8x6x1024 := by
    unfold_abbrev_sides
    after_results
    rfl
  rw [e]
  pointwise

theorem drop_apply (w : Vec Ideal S1x1024x3072 .f32) (k : Fin 1024) (j : Fin 3072) :
    shapeCast S1024x3072 w shapeCasts_S1x1024x3072_S1024x3072 (ix2 k j) = (w (ix3 0 k j) : EReal) := by
  pointwise

theorem w_V (k : Fin 1024) (j : Fin 3072) : V m c main_v6 (ix2 k j) = (args m c).w k j := by
  have e : V m c main_v6 = shapeCast S1024x3072 (m ((c : Thread nD τ).loc main_arg6)) shapeCasts_S1x1024x3072_S1024x3072 := by
    unfold_abbrev_sides
    after_results
    rfl
  rw [e]
  exact drop_apply _ k j

theorem bias_V (j : Fin 3072) : V m c main_v9 (ix2 0 j) = (args m c).bias j := by
  have e : V m c main_v9 = shapeCast S1x3072 (shapeCast S3072 (m ((c : Thread nD τ).loc main_arg7)) shapeCasts_S1x3072_S3072)
      shapeCasts_S3072_S1x3072 := by
    unfold_abbrev_sides
    after_results
    rfl
  rw [e]
  pointwise
  rfl

variable (t : Fin cfg0.N)

theorem in0 (r : Fin 512) (k : Fin 1024) : iblk m c 0 t (ix2 r k) = m ((c : Thread nD τ).loc main_arg0) (ix2 (at' t.val t.isLt r) k) := by
  blk_simp [iblk]
  rw [V_main_arg0]
  refine congrArg _ ?_
  funext a
  fin_cases a <;> apply Fin.ext <;> blk_simp [index0] <;> simp [ix2, at'] <;> omega

theorem in1 (r : Fin 512) (k : Fin 512) : iblk m c 1 t (ix2 r k) = m ((c : Thread nD τ).loc main_arg1) (ix2 (at' t.val t.isLt r) k) := by
  blk_simp [iblk]
  rw [V_main_arg1]
  refine congrArg _ ?_
  funext a
  fin_cases a <;> apply Fin.ext <;> blk_simp [index1] <;> simp [ix2, at'] <;> omega

theorem in2 (r : Fin 512) (k : Fin 512) : iblk m c 2 t (ix2 r k) = m ((c : Thread nD τ).loc main_arg2) (ix2 (at' t.val t.isLt r) k) := by
  blk_simp [iblk]
  rw [V_main_arg2]
  refine congrArg _ ?_
  funext a
  fin_cases a <;> apply Fin.ext <;> blk_simp [index2] <;> simp [ix2, at'] <;> omega

theorem in3 (r : Fin 512) (k : Fin 2) : iblk m c 3 t (ix2 r k) = m ((c : Thread nD τ).loc main_arg3) (ix2 (at' t.val t.isLt r) k) := by
  blk_simp [iblk]
  rw [V_main_arg3]
  refine congrArg _ ?_
  funext a
  fin_cases a <;> apply Fin.ext <;> blk_simp [index3] <;> simp [ix2, at'] <;> omega

theorem cond_at (r : Fin 512) : (cond (at' t.val t.isLt r)).val = if t.val < 16 then 0 else 1 + (t.val - 16) / 2 := by
  have ht : t.val < 20 := t.isLt
  have hr := r.isLt
  rw [cond_val]
  show (if 512 * t.val + r.val < 8192 then 0 else 1 + (512 * t.val + r.val - 8192) / 1024) = _
  split <;> split <;> omega

theorem in4 (r : Fin 512) (b : Fin 6) (k : Fin 1024) :
    iblk m c 4 t (ix3 0 b k) = m ((c : Thread nD τ).loc main_arg4) (ix4 0 (cond (at' t.val t.isLt r)) b k) := by
  rw [← mods0_V m c]
  blk_simp [iblk]
  refine congrArg _ ?_
  funext a
  fin_cases a <;> apply Fin.ext <;> blk_simp [index4] <;> simp [ix3]
  exact (cond_at t r).symm

theorem in6 (r : Fin 512) (b : Fin 6) (k : Fin 1024) :
    iblk m c 6 t (ix3 0 b k) = m ((c : Thread nD τ).loc main_arg4) (ix4 1 (cond (at' t.val t.isLt r)) b k) := by
  rw [← mods1_V m c]
  blk_simp [iblk]
  refine congrArg _ ?_
  funext a
  fin_cases a <;> apply Fin.ext <;> blk_simp [index6] <;> simp [ix3]
  exact (cond_at t r).symm

theorem in5 (k : Fin 1024) : iblk m c 5 t (ix2 0 k) = (args m c).gain k := by
  rw [← gain_V m c]
  blk_simp [iblk]
  refine congrArg _ ?_
  funext a
  fin_cases a <;> apply Fin.ext <;> blk_simp [index5] <;> simp [ix2]

theorem in7 (k : Fin 1024) (j : Fin 3072) : iblk m c 7 t (ix2 k j) = (args m c).w k j := by
  rw [← w_V m c]
  blk_simp [iblk]
  refine congrArg _ ?_
  funext a
  fin_cases a <;> apply Fin.ext <;> blk_simp [index7] <;> simp [ix2]

theorem in8 (j : Fin 3072) : iblk m c 8 t (ix2 0 j) = (args m c).bias j := by
  rw [← bias_V m c]
  blk_simp [iblk]
  refine congrArg _ ?_
  funext a
  fin_cases a <;> apply Fin.ext <;> blk_simp [index8] <;> simp [ix2]

/-- After every point the scratch holds the cast weights. -/
theorem cast_at : ∀ (n : ℕ) (hn : n < cfg0.N) (k : Fin 1024) (j : Fin 3072), (outsAt0 m c n hn).2.2 (ix2 k j) = (args m c).w k j := by
  intro n
  induction n with
  | zero =>
    intro hn k j
    rw [outsAt0_A m c ⟨0, hn⟩ rfl]
    dsimp only
    rw [sout_A_0_eq]
    exact (cast_apply _ k j).trans (in7 m c ⟨0, hn⟩ k j)
  | succ n ih =>
    intro hn k j
    have hN : n + 1 < 20 := hn
    have h0 : ¬(n + 1) % 20 = 0 := by omega
    rw [outsAt0_B m c ⟨n + 1, hn⟩ h0]
    dsimp only
    unfold sout0_B_0
    exact ih (by omega) k j

/-- The two arrays: the tokens with their experts' rows, and the projections. -/
def tokArr (A : Args) : S10240x1024.Idx → EReal := fun y => tok A (y 0) (y 1)
def outArr (A : Args) : S10240x3072.Idx → EReal := fun y => out A (y 0) (y 1)

theorem emb9 (r : Fin 512) (j : Fin 1024) :
    (win0_9.blk t).view.emb (ix2 r j) = (ix2 (at' t.val t.isLt r) j : S10240x1024.Idx) := by
  funext a
  fin_cases a <;> apply Fin.ext <;> blk_simp [index9] <;> simp [ix2, at'] <;> omega
theorem emb10 (r : Fin 512) (j : Fin 3072) :
    (win0_10.blk t).view.emb (ix2 r j) = (ix2 (at' t.val t.isLt r) j : S10240x3072.Idx) := by
  funext a
  fin_cases a <;> apply Fin.ext <;> blk_simp [index10] <;> simp [ix2, at'] <;> omega

theorem block_tok (r : Fin 512) :
    blockRow (iblk m c 0 t) (iblk m c 1 t) (iblk m c 2 t) (iblk m c 3 t) (iblk m c 4 t) r = tok (args m c) (at' t.val t.isLt r) := by
  unfold blockRow tok
  rw [funext (in0 m c t r), funext (in1 m c t r), funext (in2 m c t r), in3 m c t r 0, in3 m c t r 1, funext (in4 m c t r 5)]
  rfl

theorem block_row (r : Fin 512) (k : Fin 1024) :
    normRow (blockRow (iblk m c 0 t) (iblk m c 1 t) (iblk m c 2 t) (iblk m c 3 t) (iblk m c 4 t) r) (fun k => iblk m c 5 t (ix2 0 k))
      (fun k => iblk m c 6 t (ix3 0 1 k)) (fun k => iblk m c 6 t (ix3 0 0 k)) k = row (args m c) (at' t.val t.isLt r) k := by
  unfold row
  rw [block_tok, funext (in5 m c t), funext (in6 m c t r 1), funext (in6 m c t r 0)]
  rfl

/-- The output blocks of every point are the blocks of those arrays. -/
theorem tok_at (r : Fin 512) (k : Fin 1024) : (outsAt0 m c t.val t.isLt).1 (ix2 r k) = tok (args m c) (at' t.val t.isLt r) k := by
  by_cases h0 : t.val % 20 = 0
  · rw [outsAt0_A m c t h0]
    dsimp only
    rw [out_A_9_eq]
    exact (tok_apply _ _ _ _ _ r k).trans (congrFun (block_tok m c t r) k)
  · rw [outsAt0_B m c t h0]
    dsimp only
    rw [out_B_9_eq]
    exact (tok_apply _ _ _ _ _ r k).trans (congrFun (block_tok m c t r) k)

theorem out_at (r : Fin 512) (j : Fin 3072) : (outsAt0 m c t.val t.isLt).2.1 (ix2 r j) = out (args m c) (at' t.val t.isLt r) j := by
  by_cases h0 : t.val % 20 = 0
  · rw [outsAt0_A m c t h0]
    dsimp only
    rw [out_A_10_eq]
    refine (out_apply _ _ _ _ _ _ _ _ _ r j).trans ?_
    unfold out
    refine congrArg₂ (· + ·) (Finset.sum_congr rfl fun k _ => ?_) (in8 m c t j)
    rw [block_row, cast_apply, in7]
  · have hs := cast_at m c (t.val - 1) (Nat.lt_of_le_of_lt (Nat.sub_le _ _) t.isLt)
    rw [outsAt0_B m c t h0]
    dsimp only
    rw [out_B_10_eq]
    refine (out_apply _ _ _ _ _ _ _ _ _ r j).trans ?_
    unfold out
    refine congrArg₂ (· + ·) (Finset.sum_congr rfl fun k _ => ?_) (in8 m c t j)
    rw [block_row, hs]

theorem final9 : (dats m 0 c).arrAt 9 cfg0.N = tokArr (args m c) := by
  refine (dats m 0 c).arrAt_eq_of_covers 9 _ (by decide +kernel) fun t hf y => ?_
  obtain ⟨r, l, rfl⟩ : ∃ (r : Fin 512) (l : Fin 1024), y = ix2 r l := ⟨y 0, y 1, by funext a; fin_cases a <;> rfl⟩
  blk_simp
  rw [after0_9]
  exact (tok_at m c t r l).trans (congrArg (tokArr (args m c)) (emb9 t r l)).symm

theorem final10 : (dats m 0 c).arrAt 10 cfg0.N = outArr (args m c) := by
  refine (dats m 0 c).arrAt_eq_of_covers 10 _ (by decide +kernel) fun t hf y => ?_
  obtain ⟨r, l, rfl⟩ : ∃ (r : Fin 512) (l : Fin 3072), y = ix2 r l := ⟨y 0, y 1, by funext a; fin_cases a <;> rfl⟩
  blk_simp
  rw [after0_10]
  exact (out_at m c t r l).trans (congrArg (outArr (args m c)) (emb10 t r l)).symm

variable (ρ : Dev nD → PrngReg)

/-- The run, with the arrays it leaves. -/
theorem run_out : θ_run defs (onTc (τ := τ) (main (F := Ideal))) ⟨m, fun _ => 0, ρ⟩ fun r => ∀ c : Dev nD,
    r.2.mem ((c : Thread nD τ).loc main_v10_0) = tokArr (args m c)
      ∧ r.2.mem ((c : Thread nD τ).loc main_v10_1) = outArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.Kernel4Ideal.InProj1

end
-- ==== Proof.InProj1.RefValue.lean ====
/- The reference's results are the tokens with their experts' rows, and the second layer's input projection. -/
module

public import proofs.«01_k».proof.Proof.Gen.Reference4Ideal.Read
public import proofs.«01_k».proof.Proof.InProj1.Spec
public import Idealize.ShloMosaic.Lib.Pipeline.ValueKit

@[expose] public section

set_option maxRecDepth 16384

noncomputable section

namespace Cert.Reference4Ideal.InProj1

open Cert.InProj (normRow)
open Cert.InProj1 Cert.Reference4Ideal Cert.Reference4Ideal.Gen Cert.Reference4Ideal.Read Idealize.ShloMosaic Idealize.SL.Sem

variable (x0 : FVec Ideal S10240x1024 .f32) (x1 x2 : IVec S10240x512 32) (x3 : FVec Ideal S10240x2 .f32)
  (x4 : FVec Ideal S2x8x6x1024 .f32) (x5 : FVec Ideal S2x2x1024 .f32) (x6 : FVec Ideal S1x1024x3072 .f32) (x7 : FVec Ideal S1x3072 .f32)

def argsOf : Args where
  x t k := x0 (ix2 t k)
  ya t k := x1 (ix2 t k)
  yb t k := x2 (ix2 t k)
  wa t := x3 (ix2 t 0)
  wb t := x3 (ix2 t 1)
  gate a k := x4 (ix4 0 a 5 k)
  gain k := x5 (ix3 1 0 k)
  scale a k := x4 (ix4 1 a 1 k)
  shift a k := x4 (ix4 1 a 0 k)
  w k j := x6 (ix3 0 k j)
  bias j := x7 (ix2 0 j)

theorem shift_eq (b : BitVec 32) : IntOp.shli .host b 16#32 = IntOp.shli .vector b 16#32 := rfl

theorem rows_a (t : Fin 10240) (k : Fin 1024) : val_main_v7 (F := Ideal) x1 (ix2 t k) = rowOf (fun k => x1 (ix2 t k)) k := by
  unfold rowOf high low
  simp only [← shift_eq]
  pointwise [val_main_v7, val_main_v6, val_main_v5, val_main_v4, val_main_v3, val_main_v2, val_main_v1, val_main_c, val_main_c_0]

theorem rows_b (t : Fin 10240) (k : Fin 1024) : val_main_v17 (F := Ideal) x2 (ix2 t k) = rowOf (fun k => x2 (ix2 t k)) k := by
  unfold rowOf high low
  simp only [← shift_eq]
  pointwise [val_main_v17, val_main_v16, val_main_v15, val_main_v14, val_main_v13, val_main_v12, val_main_v11, val_main_c_1, val_main_c_2]

theorem mix_apply (t : Fin 10240) (k : Fin 1024) : val_main_v20 (F := Ideal) x1 x2 x3 (ix2 t k)
    = (x3 (ix2 t 0) * rowOf (fun k => x1 (ix2 t k)) k + x3 (ix2 t 1) * rowOf (fun k => x2 (ix2 t k)) k : EReal) := by
  rw [← rows_a, ← rows_b]
  unfold val_main_v20 val_main_v9 val_main_v19
  generalize val_main_v7 (F := Ideal) x1 = p
  generalize val_main_v17 (F := Ideal) x2 = q
  pointwise [val_main_v18, val_main_v10, val_main_v8, val_main_v0]

/-- The tokens of the prompt and those of the two other sequences. -/
theorem tokP_apply (t : Fin 8192) (k : Fin 1024) : val_main_v34 (F := Ideal) x0 x1 x2 x3 x4 (ix2 t k)
    = mixRow (fun k => x0 (ix2 ⟨t.val, by omega⟩ k)) (fun k => x1 (ix2 ⟨t.val, by omega⟩ k)) (fun k => x2 (ix2 ⟨t.val, by omega⟩ k))
      (x3 (ix2 ⟨t.val, by omega⟩ 0)) (x3 (ix2 ⟨t.val, by omega⟩ 1)) (fun k => x4 (ix4 0 0 5 k)) k := by
  unfold mixRow
  rw [← mix_apply]
  unfold val_main_v34 val_main_v33 val_main_v30
  generalize val_main_v20 (F := Ideal) x1 x2 x3 = q
  pointwise [val_main_v32, val_main_v31, val_main_v29, val_main_v28, val_main_v27, val_main_v22, val_main_v21]

theorem tokL_apply (b : Fin 2) (s : Fin 1024) (k : Fin 1024) : val_main_v43 (F := Ideal) x0 x1 x2 x3 x4 (ix3 b s k)
    = mixRow (fun k => x0 (ix2 ⟨8192 + (b.val * 1024 + s.val), by omega⟩ k)) (fun k => x1 (ix2 ⟨8192 + (b.val * 1024 + s.val), by omega⟩ k))
      (fun k => x2 (ix2 ⟨8192 + (b.val * 1024 + s.val), by omega⟩ k)) (x3 (ix2 ⟨8192 + (b.val * 1024 + s.val), by omega⟩ 0))
      (x3 (ix2 ⟨8192 + (b.val * 1024 + s.val), by omega⟩ 1)) (fun k => x4 (ix4 0 ⟨1 + b.val, by omega⟩ 5 k)) k := by
  unfold mixRow
  rw [← mix_apply]
  unfold val_main_v43 val_main_v42 val_main_v40 val_main_v39
  generalize val_main_v20 (F := Ideal) x1 x2 x3 = q
  pointwise [val_main_v41, val_main_v38, val_main_v37, val_main_v36, val_main_v35, val_main_v22, val_main_v21]

/-- The normed rows. -/
theorem normP_apply (t : Fin 8192) (k : Fin 1024) : val_main_v70 (F := Ideal) x0 x1 x2 x3 x4 x5 (ix2 t k)
    = normRow (fun k => val_main_v34 (F := Ideal) x0 x1 x2 x3 x4 (ix2 t k)) (fun k => x5 (ix3 1 0 k))
      (fun k => x4 (ix4 1 0 1 k)) (fun k => x4 (ix4 1 0 0 k)) k := by
  unfold normRow val_main_v70 val_main_v65 val_main_v58 val_main_v55 val_main_v54 val_main_v53 val_main_v52 val_main_v50 val_main_v48 val_main_v47 val_main_v46
  generalize val_main_v34 (F := Ideal) x0 x1 x2 x3 x4 = q
  pointwise [val_main_v69, val_main_v68, val_main_v67, val_main_v66, val_main_v64, val_main_v63, val_main_v62, val_main_v61, val_main_v60, val_main_v59, val_main_v57, val_main_v56, val_main_v51, val_main_v49, val_main_v45, val_main_v44, val_main_v26, val_main_v25, val_main_v24, val_main_v23,
    val_main_cst, val_main_cst_3, val_main_cst_4, val_main_cst_5]

theorem normL_apply (b : Fin 2) (s : Fin 1024) (k : Fin 1024) : val_main_v95 (F := Ideal) x0 x1 x2 x3 x4 x5 (ix3 b s k)
    = normRow (fun k => val_main_v43 (F := Ideal) x0 x1 x2 x3 x4 (ix3 b s k)) (fun k => x5 (ix3 1 0 k))
      (fun k => x4 (ix4 1 ⟨1 + b.val, by omega⟩ 1 k)) (fun k => x4 (ix4 1 ⟨1 + b.val, by omega⟩ 0 k)) k := by
  unfold normRow val_main_v95 val_main_v91 val_main_v85 val_main_v82 val_main_v81 val_main_v80 val_main_v79 val_main_v77 val_main_v75 val_main_v74 val_main_v73
  generalize val_main_v43 (F := Ideal) x0 x1 x2 x3 x4 = q
  pointwise [val_main_v94, val_main_v93, val_main_v92, val_main_v90, val_main_v89, val_main_v88, val_main_v87, val_main_v86, val_main_v84, val_main_v83, val_main_v78, val_main_v76, val_main_v72, val_main_v71, val_main_v26, val_main_v25, val_main_v24, val_main_v23,
    val_main_cst_6, val_main_cst_7, val_main_cst_8, val_main_cst_9]

/-- The joined tokens and the joined normed rows. -/
theorem join_apply (p : Vec Ideal S8192x1024 .f32) (q : Vec Ideal S2x1024x1024 .f32) (t : Fin 10240) (k : Fin 1024) :
    concatenate S10240x1024 0 [⟨S8192x1024, p⟩, ⟨S2048x1024, shapeCast S2048x1024 q shapeCasts_S2x1024x1024_S2048x1024⟩]
        concatenates_S8192x1024_S2048x1024_S10240x1024_d0 (ix2 t k)
      = (if h : t.val < 8192 then p (ix2 ⟨t.val, h⟩ k)
          else q (ix3 ⟨(t.val - 8192) / 1024, by omega⟩ ⟨(t.val - 8192) % 1024, by omega⟩ k) : EReal) := by
  pointwise

theorem tok_apply (t : Fin 10240) (k : Fin 1024) :
    val_main_v99 (F := Ideal) x0 x1 x2 x3 x4 (ix2 t k) = tok (argsOf x0 x1 x2 x3 x4 x5 x6 x7) t k := by
  unfold val_main_v99 val_main_v98
  rw [join_apply]
  unfold tok argsOf Cert.Moe.cond
  by_cases h : t.val < 8192
  · rw [dif_pos h, tokP_apply]
    simp only [if_pos h]
  · rw [dif_neg h, tokL_apply]
    have e : (⟨8192 + ((t.val - 8192) / 1024 * 1024 + (t.val - 8192) % 1024), by omega⟩ : Fin 10240) = t := Fin.ext (by dsimp only; omega)
    simp only [if_neg h, e]

theorem row_apply (t : Fin 10240) (k : Fin 1024) :
    val_main_v97 (F := Ideal) x0 x1 x2 x3 x4 x5 (ix2 t k) = row (argsOf x0 x1 x2 x3 x4 x5 x6 x7) t k := by
  have ht : tok (argsOf x0 x1 x2 x3 x4 x5 x6 x7) t = fun k => val_main_v99 (F := Ideal) x0 x1 x2 x3 x4 (ix2 t k) :=
    funext fun k => (tok_apply x0 x1 x2 x3 x4 x5 x6 x7 t k).symm
  unfold row
  rw [ht]
  unfold val_main_v97 val_main_v96
  rw [join_apply]
  by_cases h : t.val < 8192
  · have e : (fun k => val_main_v99 (F := Ideal) x0 x1 x2 x3 x4 (ix2 t k)) = fun k => val_main_v34 (F := Ideal) x0 x1 x2 x3 x4 (ix2 ⟨t.val, h⟩ k) := by
      funext k
      unfold val_main_v99 val_main_v98
      rw [join_apply, dif_pos h]
    rw [dif_pos h, normP_apply, e]
    unfold argsOf Cert.Moe.cond
    simp only [if_pos h]
  · have e : (fun k => val_main_v99 (F := Ideal) x0 x1 x2 x3 x4 (ix2 t k)) = fun k => val_main_v43 (F := Ideal) x0 x1 x2 x3 x4
        (ix3 ⟨(t.val - 8192) / 1024, by omega⟩ ⟨(t.val - 8192) % 1024, by omega⟩ k) := by
      funext k
      unfold val_main_v99 val_main_v98
      rw [join_apply, dif_neg h]
    rw [dif_neg h, normL_apply, e]
    unfold argsOf Cert.Moe.cond
    simp only [if_neg h]

theorem out_apply (t : Fin 10240) (j : Fin 3072) :
    val_main_v106 (F := Ideal) x0 x1 x2 x3 x4 x5 x6 x7 (ix2 t j) = out (argsOf x0 x1 x2 x3 x4 x5 x6 x7) t j := by
  have hr : ∀ k, row (argsOf x0 x1 x2 x3 x4 x5 x6 x7) t k = val_main_v97 (F := Ideal) x0 x1 x2 x3 x4 x5 (ix2 t k) :=
    fun k => (row_apply x0 x1 x2 x3 x4 x5 x6 x7 t k).symm
  unfold out
  rw [funext hr]
  unfold val_main_v106 val_main_v105 val_main_v101
  generalize val_main_v97 (F := Ideal) x0 x1 x2 x3 x4 x5 = q
  pointwise [val_main_v104, val_main_v103, val_main_v102, val_main_v100]
  rfl

/-- The reference's results are the two arrays. -/
theorem tok_eq : val_main_v99 (F := Ideal) x0 x1 x2 x3 x4 = fun y => tok (argsOf x0 x1 x2 x3 x4 x5 x6 x7) (y 0) (y 1) := by
  funext y
  refine Eq.trans (congrArg _ ?_) (tok_apply x0 x1 x2 x3 x4 x5 x6 x7 (y 0) (y 1))
  funext a
  match a with
  | 0 => rfl
  | 1 => rfl

theorem out_eq : val_main_v106 (F := Ideal) x0 x1 x2 x3 x4 x5 x6 x7 = fun y => out (argsOf x0 x1 x2 x3 x4 x5 x6 x7) (y 0) (y 1) := by
  funext y
  refine Eq.trans (congrArg _ ?_) (out_apply x0 x1 x2 x3 x4 x5 x6 x7 (y 0) (y 1))
  funext a
  match a with
  | 0 => rfl
  | 1 => rfl

end Cert.Reference4Ideal.InProj1

end
-- ==== Proof.InProj1.Claims.lean ====
/- The frame of the second input projection's reference, and the equality of the two results. -/
module

public import proofs.«01_k».proof.Defs
public import proofs.«01_k».proof.Proof.Gen.Reference4Ideal.Run
public import proofs.«01_k».proof.Proof.InProj1.Arrays
public import proofs.«01_k».proof.Proof.InProj1.RefValue
public import Idealize.ShloMosaic.Adequacy
public import Idealize.ShloMosaic.Init

@[expose] public section

set_option maxRecDepth 16384

noncomputable section

namespace Cert.Proof.InProj1

open Cert.InProj1 Idealize.ShloMosaic Idealize.ShloMosaic.StableHlo Idealize.SL.Sem

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The values of the run of the kernel and of the run of the reference agree. -/
theorem values : Cert.algebraic_Kernel4Ideal_Reference4Ideal := fun m ρ m' ρ' _ hag =>
  ⟨fun c => Cert.Kernel4Ideal.InProj1.tokArr (Cert.Kernel4Ideal.InProj1.args m c),
    fun c => Cert.Kernel4Ideal.InProj1.outArr (Cert.Kernel4Ideal.InProj1.args m c), Cert.Kernel4Ideal.InProj1.run_out m ρ,
    (θ_run Cert.Reference4Ideal.defs _ _).mono (fun _ h c => by
        obtain ⟨a0, a1, a2, a3, a4, a5, a6, a7⟩ := hag c
        refine ⟨(h c).1.trans ((Cert.Reference4Ideal.Read.val_main_v99_eq _ _ _ _ _).trans
          ((Cert.Reference4Ideal.InProj1.tok_eq _ _ _ _ _ (m' ((c.tc : Thread _ _).loc Cert.Reference4Ideal.main_arg5))
            (m' ((c.tc : Thread _ _).loc Cert.Reference4Ideal.main_arg6)) (m' ((c.tc : Thread _ _).loc Cert.Reference4Ideal.main_arg7))).trans ?_)),
          (h c).2.1.trans ((Cert.Reference4Ideal.Read.val_main_v106_eq m' c).trans
          ((Cert.Reference4Ideal.InProj1.out_eq _ _ _ _ _ _ _ _).trans ?_)), (h c).2.2⟩
        · rw [a0, a1, a2, a3, a4, a5, a6, a7]
          rfl
        · rw [a0, a1, a2, a3, a4, a5, a6, a7]
          rfl)
      (Cert.Reference4Ideal.Value.run (F := Ideal) m' ρ')⟩

end Cert.Proof.InProj1

end
-- ==== Proof.Attn.Body.lean ====
/- What the body of the prompt's attention leaves in its three output blocks, sequence by sequence. -/
module

public import proofs.«01_k».proof.Proof.Gen.Kernel5Ideal.Frame
public import Idealize.ShloMosaic.Lib.Pipeline.Value

@[expose] public section

set_option maxRecDepth 16384

noncomputable section

namespace Cert.Kernel5Ideal.Attn

open Cert.Kernel5Ideal Cert.Kernel5Ideal.Gen Idealize.ShloMosaic Idealize.SL.Sem

variable {F : FTy → Type} [FloatOps F]

theorem zero2 : (![0, 0] : Fin 2 → Nat) = fun _ => 0 := funext fun a => by fin_cases a <;> rfl

/-- The rows of one of a block's eight sequences, of the queries and of the keys or values. -/
def qRows (s : Fin 8) : Rect S2048x512 :=
  Rect.unit (s := S2048x512) ![256 * s.val, 0] S256x512.size (by revert s; decide)
def kRows (s : Fin 8) : Rect S2048x128 :=
  Rect.unit (s := S2048x128) ![256 * s.val, 0] S256x128.size (by revert s; decide)
/-- A sequence's place in the block of keys or of values, and a pair of heads' place in the block of outputs. -/
def cRow (s : Fin 8) : Rect S8x128x256 :=
  Rect.unit (s := S8x128x256) ![s.val, 0, 0] S1x128x256.size (by revert s; decide)
def oTile (s : Fin 8) (n : Fin 4) : Rect S2048x512 :=
  Rect.unit (s := S2048x512) ![256 * s.val, 128 * n.val] S256x128.size (by revert s n; decide)

/-- A sequence's normed keys and its values, as they are stored. -/
def kStored (x : Vec F S256x128 .bf16) (g : Vec F S1x128 .f32) (w : Vec F S128x128 .bf16) : FVec F S1x128x256 .f32 := k0_pay6 x g w w
def vStored (x : Vec F S256x128 .bf16) : FVec F S1x128x256 .f32 := k0_pay8 (k0_pay7 x)

/-- The keys of one head, twice side by side, and its values twice with ones behind. -/
def keys (j : Bool) (x : Vec F S256x128 .bf16) (g : Vec F S1x128 .f32) (w : Vec F S128x128 .bf16) : FVec F S256x128 .bf16 :=
  match j with
  | false => k0_pay9 (k0_pay1 x g w w) k0_pay3 (k0_pay4 x g w w)
  | true => k0_pay11 (k0_pay1 x g w w) k0_pay3 (k0_pay4 x g w w)
def vals (j : Bool) (x : Vec F S256x128 .bf16) : FVec F S256x256 .bf16 :=
  match j with
  | false => k0_pay10 (k0_pay2 x) k0_pay3 (k0_pay5 x)
  | true => k0_pay12 (k0_pay2 x) k0_pay3 (k0_pay5 x)

/-- The normed queries of the four heads that share a key head, stacked, each zero on the other lanes of its tile. -/
def queries (j : Bool) (x : Vec F S256x512 .bf16) (g : Vec F S1x512 .f32) (w : Vec F S512x512 .bf16) : FVec F S1024x128 .bf16 :=
  match j with
  | false => k0_pay17 (k0_pay13 x g w w) k0_pay14 (k0_pay15 x g w w) (k0_pay16 x g w w)
  | true => k0_pay18 (k0_pay13 x g w w) k0_pay14

/-- A pair of heads' output: the softmax's weights on the values, divided by their sum, and the two heads side by side. -/
def pairOut (hi : Bool) (q : FVec F S1024x128 .bf16) (k : FVec F S256x128 .bf16) (v : FVec F S256x256 .bf16) : FVec F S256x128 .bf16 :=
  match hi with
  | false => k0_pay249 v k0_pay14 (k0_pay183 (k0_pay170 k q))
  | true => k0_pay250 v k0_pay14 (k0_pay183 (k0_pay170 k q))

def half (n : Fin 4) : Bool := match n with
  | 0 => false | 1 => false | 2 => true | 3 => true
def odd (n : Fin 4) : Bool := match n with
  | 0 => false | 1 => true | 2 => false | 3 => true

def oStored (x0 : Vec F S2048x512 .bf16) (x1 x2 : Vec F S2048x128 .bf16) (x3 : Vec F S1x512 .f32) (x4 : Vec F S1x128 .f32) (x5 : Vec F S512x512 .bf16)
    (x6 : Vec F S128x128 .bf16) (s : Fin 8) (n : Fin 4) : FVec F S256x128 .bf16 :=
  pairOut (odd n) (queries (half n) (View.ld x0 (qRows s)) x3 x5) (keys (half n) (View.ld x1 (kRows s)) x4 x6) (vals (half n) (View.ld x2 (kRows s)))

theorem k_eq (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S512x512 .bf16) (harg6 : arg6.IsWhole) (arg7 : Memref sig .tc .vmem S128x128 .bf16) (harg7 : arg7.IsWhole) (arg8 : Memref sig .tc .vmem S2048x512 .bf16) (harg8 : arg8.IsWhole) (arg9 : Memref sig .tc .vmem S8x128x256 .f32) (harg9 : arg9.IsWhole) (arg10 : Memref sig .tc .vmem S8x128x256 .f32) (harg10 : arg10.IsWhole)
    (x0 : Vec F S2048x512 .bf16) (x1 : Vec F S2048x128 .bf16) (x2 : Vec F S2048x128 .bf16) (x3 : Vec F S1x512 .f32) (x4 : Vec F S1x128 .f32) (x5 : Vec F S512x512 .bf16) (x6 : Vec F S128x128 .bf16) :
    out0_A_8 c i arg1 harg1 arg2 harg2 arg3 harg3 arg4 harg4 arg5 harg5 arg6 harg6 arg7 harg7 arg8 harg8 arg9 harg9 arg10 harg10 x0 x1 x2 x3 x4 x5 x6 =
      View.canon (Val := Elt F) [⟨cRow 7, kStored (View.ld x1 (kRows 7)) x4 x6⟩, ⟨cRow 6, kStored (View.ld x1 (kRows 6)) x4 x6⟩, ⟨cRow 5, kStored (View.ld x1 (kRows 5)) x4 x6⟩, ⟨cRow 4, kStored (View.ld x1 (kRows 4)) x4 x6⟩, ⟨cRow 3, kStored (View.ld x1 (kRows 3)) x4 x6⟩, ⟨cRow 2, kStored (View.ld x1 (kRows 2)) x4 x6⟩, ⟨cRow 1, kStored (View.ld x1 (kRows 1)) x4 x6⟩, ⟨cRow 0, kStored (View.ld x1 (kRows 0)) x4 x6⟩] := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread,
    View.ld_unit_zero (S := S1x512) zero2, View.ld_unit_zero (S := S1x128) zero2, View.ld_unit_zero (S := S512x512) zero2, View.ld_unit_zero (S := S128x128) zero2]
  rfl

theorem v_eq (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S512x512 .bf16) (harg6 : arg6.IsWhole) (arg7 : Memref sig .tc .vmem S128x128 .bf16) (harg7 : arg7.IsWhole) (arg8 : Memref sig .tc .vmem S2048x512 .bf16) (harg8 : arg8.IsWhole) (arg9 : Memref sig .tc .vmem S8x128x256 .f32) (harg9 : arg9.IsWhole) (arg10 : Memref sig .tc .vmem S8x128x256 .f32) (harg10 : arg10.IsWhole)
    (x0 : Vec F S2048x512 .bf16) (x1 : Vec F S2048x128 .bf16) (x2 : Vec F S2048x128 .bf16) (x3 : Vec F S1x512 .f32) (x4 : Vec F S1x128 .f32) (x5 : Vec F S512x512 .bf16) (x6 : Vec F S128x128 .bf16) :
    out0_A_9 c i arg1 harg1 arg2 harg2 arg3 harg3 arg4 harg4 arg5 harg5 arg6 harg6 arg7 harg7 arg8 harg8 arg9 harg9 arg10 harg10 x0 x1 x2 x3 x4 x5 x6 =
      View.canon (Val := Elt F) [⟨cRow 7, vStored (View.ld x2 (kRows 7))⟩, ⟨cRow 6, vStored (View.ld x2 (kRows 6))⟩, ⟨cRow 5, vStored (View.ld x2 (kRows 5))⟩, ⟨cRow 4, vStored (View.ld x2 (kRows 4))⟩, ⟨cRow 3, vStored (View.ld x2 (kRows 3))⟩, ⟨cRow 2, vStored (View.ld x2 (kRows 2))⟩, ⟨cRow 1, vStored (View.ld x2 (kRows 1))⟩, ⟨cRow 0, vStored (View.ld x2 (kRows 0))⟩] := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread,
    View.ld_unit_zero (S := S1x512) zero2, View.ld_unit_zero (S := S1x128) zero2, View.ld_unit_zero (S := S512x512) zero2, View.ld_unit_zero (S := S128x128) zero2]
  rfl

theorem o_eq (c : Dev nD) (i : grid0.Coords) (arg1 : Memref sig .tc .vmem S2048x512 .bf16) (harg1 : arg1.IsWhole) (arg2 : Memref sig .tc .vmem S2048x128 .bf16) (harg2 : arg2.IsWhole) (arg3 : Memref sig .tc .vmem S2048x128 .bf16) (harg3 : arg3.IsWhole) (arg4 : Memref sig .tc .vmem S1x512 .f32) (harg4 : arg4.IsWhole) (arg5 : Memref sig .tc .vmem S1x128 .f32) (harg5 : arg5.IsWhole) (arg6 : Memref sig .tc .vmem S512x512 .bf16) (harg6 : arg6.IsWhole) (arg7 : Memref sig .tc .vmem S128x128 .bf16) (harg7 : arg7.IsWhole) (arg8 : Memref sig .tc .vmem S2048x512 .bf16) (harg8 : arg8.IsWhole) (arg9 : Memref sig .tc .vmem S8x128x256 .f32) (harg9 : arg9.IsWhole) (arg10 : Memref sig .tc .vmem S8x128x256 .f32) (harg10 : arg10.IsWhole)
    (x0 : Vec F S2048x512 .bf16) (x1 : Vec F S2048x128 .bf16) (x2 : Vec F S2048x128 .bf16) (x3 : Vec F S1x512 .f32) (x4 : Vec F S1x128 .f32) (x5 : Vec F S512x512 .bf16) (x6 : Vec F S128x128 .bf16) :
    out0_A_7 c i arg1 harg1 arg2 harg2 arg3 harg3 arg4 harg4 arg5 harg5 arg6 harg6 arg7 harg7 arg8 harg8 arg9 harg9 arg10 harg10 x0 x1 x2 x3 x4 x5 x6 =
      View.canon (Val := Elt F) [⟨oTile 7 3, oStored x0 x1 x2 x3 x4 x5 x6 7 3⟩,
        ⟨oTile 7 2, oStored x0 x1 x2 x3 x4 x5 x6 7 2⟩,
        ⟨oTile 7 1, oStored x0 x1 x2 x3 x4 x5 x6 7 1⟩,
        ⟨oTile 7 0, oStored x0 x1 x2 x3 x4 x5 x6 7 0⟩,
        ⟨oTile 6 3, oStored x0 x1 x2 x3 x4 x5 x6 6 3⟩,
        ⟨oTile 6 2, oStored x0 x1 x2 x3 x4 x5 x6 6 2⟩,
        ⟨oTile 6 1, oStored x0 x1 x2 x3 x4 x5 x6 6 1⟩,
        ⟨oTile 6 0, oStored x0 x1 x2 x3 x4 x5 x6 6 0⟩,
        ⟨oTile 5 3, oStored x0 x1 x2 x3 x4 x5 x6 5 3⟩,
        ⟨oTile 5 2, oStored x0 x1 x2 x3 x4 x5 x6 5 2⟩,
        ⟨oTile 5 1, oStored x0 x1 x2 x3 x4 x5 x6 5 1⟩,
        ⟨oTile 5 0, oStored x0 x1 x2 x3 x4 x5 x6 5 0⟩,
        ⟨oTile 4 3, oStored x0 x1 x2 x3 x4 x5 x6 4 3⟩,
        ⟨oTile 4 2, oStored x0 x1 x2 x3 x4 x5 x6 4 2⟩,
        ⟨oTile 4 1, oStored x0 x1 x2 x3 x4 x5 x6 4 1⟩,
        ⟨oTile 4 0, oStored x0 x1 x2 x3 x4 x5 x6 4 0⟩,
        ⟨oTile 3 3, oStored x0 x1 x2 x3 x4 x5 x6 3 3⟩,
        ⟨oTile 3 2, oStored x0 x1 x2 x3 x4 x5 x6 3 2⟩,
        ⟨oTile 3 1, oStored x0 x1 x2 x3 x4 x5 x6 3 1⟩,
        ⟨oTile 3 0, oStored x0 x1 x2 x3 x4 x5 x6 3 0⟩,
        ⟨oTile 2 3, oStored x0 x1 x2 x3 x4 x5 x6 2 3⟩,
        ⟨oTile 2 2, oStored x0 x1 x2 x3 x4 x5 x6 2 2⟩,
        ⟨oTile 2 1, oStored x0 x1 x2 x3 x4 x5 x6 2 1⟩,
        ⟨oTile 2 0, oStored x0 x1 x2 x3 x4 x5 x6 2 0⟩,
        ⟨oTile 1 3, oStored x0 x1 x2 x3 x4 x5 x6 1 3⟩,
        ⟨oTile 1 2, oStored x0 x1 x2 x3 x4 x5 x6 1 2⟩,
        ⟨oTile 1 1, oStored x0 x1 x2 x3 x4 x5 x6 1 1⟩,
        ⟨oTile 1 0, oStored x0 x1 x2 x3 x4 x5 x6 1 0⟩,
        ⟨oTile 0 3, oStored x0 x1 x2 x3 x4 x5 x6 0 3⟩,
        ⟨oTile 0 2, oStored x0 x1 x2 x3 x4 x5 x6 0 2⟩,
        ⟨oTile 0 1, oStored x0 x1 x2 x3 x4 x5 x6 0 1⟩,
        ⟨oTile 0 0, oStored x0 x1 x2 x3 x4 x5 x6 0 0⟩] := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread,
    View.ld_unit_zero (S := S1x512) zero2, View.ld_unit_zero (S := S1x128) zero2, View.ld_unit_zero (S := S512x512) zero2, View.ld_unit_zero (S := S128x128) zero2]
  rfl

end Cert.Kernel5Ideal.Attn

end
-- ==== Proof.Attn.Spec.lean ====
/- The prompt's attention over extended reals, with no program in it: queries and keys normed head by head, a softmax over the
   sequence's 256 keys, and the weighted values. -/
module

public import Idealize.ShloMosaic.Lib.Pointwise

@[expose] public section

set_option backward.proofsInPublic true

noncomputable section

namespace Cert.Attn

open Idealize.ShloMosaic

/-- The projections of the tokens, and the gains of the queries and of the keys. -/
structure Args where
  z : Fin 10240 → Fin 3328 → EReal
  gq : Fin 64 → EReal
  gk : Fin 64 → EReal

/-- A head's 64 numbers over their root mean square, times the gain. -/
def normed (x g : Fin 64 → EReal) (d : Fin 64) : EReal :=
  x d * Ideal.rsqrt (Ideal.div (∑ e : Fin 64, x e * x e) (Ideal.ofBits FTy.f32 0x42800000#32) + Ideal.ofBits FTy.f32 0x358637BD#32) * g d

variable (A : Args)

/-- The queries, keys and values of one position `r` of the sequence `b`, for a head. -/
def query (b : Fin 32) (r : Fin 256) (h : Fin 8) (d : Fin 64) : EReal := A.z ⟨256 * b.val + r.val, by omega⟩ ⟨2560 + (64 * h.val + d.val), by omega⟩
def key (b : Fin 32) (r : Fin 256) (j : Fin 2) (d : Fin 64) : EReal := A.z ⟨256 * b.val + r.val, by omega⟩ ⟨3072 + (64 * j.val + d.val), by omega⟩
def value (b : Fin 32) (r : Fin 256) (j : Fin 2) (d : Fin 64) : EReal := A.z ⟨256 * b.val + r.val, by omega⟩ ⟨3200 + (64 * j.val + d.val), by omega⟩

/-- The key head of a query head. -/
def shared (h : Fin 8) : Fin 2 := ⟨h.val / 4, by omega⟩

def keyOut (b : Fin 32) (r : Fin 256) (j : Fin 2) (d : Fin 64) : EReal := normed (key A b r j) A.gk d

/-- A query's score with the key of position `k`. -/
def score (b : Fin 32) (r : Fin 256) (h : Fin 8) (k : Fin 256) : EReal :=
  (∑ d : Fin 64, normed (query A b r h) A.gq d * normed (key A b k (shared h)) A.gk d) * Ideal.ofBits FTy.f32 0x3E000000#32

/-- The softmax of 256 scores, and the values weighted with it. -/
def top (s : Fin 256 → EReal) : EReal := Finset.univ.fold max ⊥ s
def soft (s : Fin 256 → EReal) (k : Fin 256) : EReal := Ideal.div (Ideal.exp (s k - top s)) (∑ l : Fin 256, Ideal.exp (s l - top s))

def out (b : Fin 32) (r : Fin 256) (h : Fin 8) (d : Fin 64) : EReal :=
  ∑ k : Fin 256, soft (score A b r h) k * value A b k (shared h) d

theorem out_congr {b b' : Fin 32} {r r' : Fin 256} {h h' : Fin 8} {d d' : Fin 64} (hb : b.val = b'.val) (hr : r.val = r'.val) (hh : h.val = h'.val)
    (hd : d.val = d'.val) : out A b r h d = out A b' r' h' d' := by
  rw [Fin.ext hb, Fin.ext hr, Fin.ext hh, Fin.ext hd]

end Cert.Attn

end
-- ==== Proof.Attn.Real.lean ====
/- What the attention's steps come to on finite tokens and gains: the mean through a product with a table, the heads' lanes,
   and the division of the weights before or after the sum. -/
module

public import proofs.«01_k».proof.Proof.Attn.Spec
public import Idealize.ShloMosaic.Lib.Pipeline.ValueKit
public import Mathlib.Data.EReal.Inv
public import Mathlib.Data.Finset.Fold
public import Mathlib.Tactic.NormNum
public import Mathlib.Tactic.Ring

@[expose] public section

set_option backward.proofsInPublic true
set_option maxRecDepth 16384

noncomputable section

namespace Cert.Attn

open Idealize.ShloMosaic

/-- A finite number. -/
def IsReal (x : EReal) : Prop := ∃ a : ℝ, x = (a : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ i, IsReal (f i)) : IsReal (∑ i, f i) := by
  choose a ha using h
  refine ⟨∑ i, a i, ?_⟩
  rw [funext ha]
  generalize (Finset.univ : Finset (Fin n)) = s
  induction s using Finset.cons_induction with
  | empty => simp
  | cons i s hi ih => rw [Finset.sum_cons, Finset.sum_cons, ih, EReal.coe_add]

theorem sum_coe {n : ℕ} (a : Fin n → ℝ) : ∑ i, (a i : EReal) = ((∑ i, a i : ℝ) : EReal) := by
  generalize (Finset.univ : Finset (Fin n)) = s
  induction s using Finset.cons_induction with
  | empty => simp
  | cons i s hi ih => rw [Finset.sum_cons, Finset.sum_cons, ih, EReal.coe_add]

theorem word_inv : Ideal.ofBits FTy.f32 0x3C800000#32 = ((1 / 64 : ℝ) : EReal) := by
  simp [Ideal.ofBits, Ideal.ieee]
  rw [← EReal.coe_mul]
  norm_num
theorem word_64 : Ideal.ofBits FTy.f32 0x42800000#32 = ((64 : ℝ) : EReal) := by
  simp [Ideal.ofBits, Ideal.ieee]
  rw [← EReal.coe_mul]
  norm_num
theorem word_8 : Ideal.ofBits FTy.f32 0x3E000000#32 = ((1 / 8 : ℝ) : EReal) := by
  simp [Ideal.ofBits, Ideal.ieee]
  rw [← EReal.coe_mul]
  norm_num
theorem word_zero : Ideal.ofBits FTy.f32 0x00000000#32 = (0 : EReal) := by simp [Ideal.ofBits, Ideal.ieee]
theorem word_eps : ∃ ε : ℝ, 0 < ε ∧ Ideal.ofBits FTy.f32 0x358637BD#32 = (ε : EReal) := by
  refine ⟨_, ?_, by simp [Ideal.ofBits, Ideal.ieee]; rfl⟩
  norm_num

/-- The mean of 64 squares, as a sum of weighted squares or as a division. -/
theorem mean_eq (x : Fin 64 → EReal) (hx : ∀ d, IsReal (x d)) :
    ∑ d, x d * x d * Ideal.ofBits FTy.f32 0x3C800000#32 = Ideal.div (∑ d, x d * x d) (Ideal.ofBits FTy.f32 0x42800000#32) := by
  choose a ha using hx
  have e1 : ∀ d, x d * x d = ((a d * a d : ℝ) : EReal) := fun d => by rw [ha, EReal.coe_mul]
  have h64 : ((64 : ℝ) : EReal) ≠ 0 := by norm_num
  rw [word_inv, word_64, Ideal.div, if_neg h64]
  simp only [e1, ← EReal.coe_mul]
  rw [sum_coe, sum_coe, ← EReal.coe_inv, ← EReal.coe_mul, Finset.sum_mul]
  norm_num

theorem IsReal.rms (x : Fin 64 → EReal) (hx : ∀ d, IsReal (x d)) :
    IsReal (Ideal.rsqrt (Ideal.div (∑ e : Fin 64, x e * x e) (Ideal.ofBits FTy.f32 0x42800000#32) + Ideal.ofBits FTy.f32 0x358637BD#32)) := by
  choose a ha using hx
  obtain ⟨ε, hε, he⟩ := word_eps
  have e1 : ∀ d, x d * x d = ((a d * a d : ℝ) : EReal) := fun d => by rw [ha, EReal.coe_mul]
  have h64 : ((64 : ℝ) : EReal) ≠ 0 := by norm_num
  rw [he, word_64, Ideal.div, if_neg h64]
  simp only [e1]
  rw [sum_coe, ← EReal.coe_inv, ← EReal.coe_mul, ← EReal.coe_add]
  have hp : 0 < (∑ i, a i * a i) * (64 : ℝ)⁻¹ + ε :=
    add_pos_of_nonneg_of_pos (mul_nonneg (Finset.sum_nonneg fun i _ => mul_self_nonneg _) (by norm_num)) hε
  generalize (∑ i, a i * a i) * (64 : ℝ)⁻¹ + ε = ρ at hp ⊢
  have e : Ideal.rsqrt (ρ : EReal) = (((Real.sqrt ρ)⁻¹ : ℝ) : EReal) := by
    show (if ρ < 0 then ⊥ else if ρ = 0 then ⊤ else (((Real.sqrt ρ)⁻¹ : ℝ) : EReal)) = _
    rw [if_neg (not_lt.mpr hp.le), if_neg hp.ne']
  exact ⟨_, e⟩

theorem IsReal.normed (x g : Fin 64 → EReal) (hx : ∀ d, IsReal (x d)) (hg : ∀ d, IsReal (g d)) (d : Fin 64) : IsReal (normed x g d) :=
  ((hx d).mul (IsReal.rms x hx)).mul (hg d)

/-- A sum over heads of 64 lanes against a table that keeps one head. -/
theorem keep_head {N : ℕ} (H : ℕ) (hN : N = H * 64) (f : Fin N → EReal) (h : ℕ) (hh : h < H) (W : EReal) :
    ∑ e : Fin N, f e * (if e.val / 64 = h then W else 0) = ∑ d : Fin 64, f ⟨64 * h + d.val, by omega⟩ * W := by
  have e : (∑ e : Fin N, f e * (if e.val / 64 = h then W else 0))
      = ∑ a : Fin H, ∑ s : Fin 64, f ⟨64 * a.val + s.val, by omega⟩ * (if a.val = h then W else 0) := Fin.sum_divmod_congr (F := fun e => f e * (if e.val / 64 = h then W else 0))
    (f := fun a s => f ⟨64 * a.val + s.val, by omega⟩ * (if a.val = h then W else 0))
    (fun t ha hs => by
      have e : (⟨64 * (t.val / 64) + t.val % 64, by omega⟩ : Fin N) = t := Fin.ext (by simp; omega)
      simp only [e]) hN
  rw [e, Finset.sum_eq_single (⟨h, hh⟩ : Fin H)]
  · simp
  · intro b _ hb
    refine Finset.sum_eq_zero fun s _ => ?_
    have : b.val ≠ h := fun hv => hb (Fin.ext hv)
    rw [if_neg this, mul_zero]
  · intro hn
    exact absurd (Finset.mem_univ _) hn

/-- The table of 1/64 within a head. -/
def Table {N : ℕ} (u : Fin N → Fin N → EReal) : Prop :=
  ∀ e c, u e c = if e.val / 64 = c.val / 64 then Ideal.ofBits FTy.f32 0x3C800000#32 else 0

theorem lanes_normed {N : ℕ} (H : ℕ) (hN : N = H * 64) (x g : Fin N → EReal) (u : Fin N → Fin N → EReal) (hx : ∀ e, IsReal (x e)) (hu : Table u) (c : Fin N) :
    x c * Ideal.rsqrt (∑ e : Fin N, x e * x e * u e c + ∑ e : Fin N, (x e * x e - x e * x e) * u e c + Ideal.ofBits FTy.f32 0x358637BD#32) * g c
      = normed (fun d => x ⟨64 * (c.val / 64) + d.val, by omega⟩) (fun d => g ⟨64 * (c.val / 64) + d.val, by omega⟩) ⟨c.val % 64, by omega⟩ := by
  have hc : c.val / 64 < H := by omega
  have e0 : ∑ e : Fin N, (x e * x e - x e * x e) * u e c = 0 := by
    refine Finset.sum_eq_zero fun e _ => ?_
    obtain ⟨a, ha⟩ := hx e
    rw [ha, ← EReal.coe_mul, ← EReal.coe_sub, sub_self, EReal.coe_zero, zero_mul]
  have e1 : ∑ e : Fin N, x e * x e * u e c
      = Ideal.div (∑ d : Fin 64, x ⟨64 * (c.val / 64) + d.val, by omega⟩ * x ⟨64 * (c.val / 64) + d.val, by omega⟩) (Ideal.ofBits FTy.f32 0x42800000#32) := by
    rw [← mean_eq _ (fun d => hx _), ← keep_head H hN (fun e => x e * x e) (c.val / 64) hc]
    exact Finset.sum_congr rfl fun e _ => by rw [hu]
  have ec : (⟨64 * (c.val / 64) + c.val % 64, by omega⟩ : Fin N) = c := Fin.ext (by simp; omega)
  rw [e0, e1, add_zero]
  simp only [normed, ec]

/-- A score from 128 lanes of which one half is zero and the scale is already in. -/
theorem half_score (q k : Fin 64 → EReal) (hq : ∀ d, IsReal (q d)) (hk : ∀ d, IsReal (k d)) (h : ℕ) (hh : h < 2) (Q : Fin 128 → EReal)
    (hQ : ∀ e : Fin 128, Q e = if e.val / 64 = h then q ⟨e.val % 64, by omega⟩ * Ideal.ofBits FTy.f32 0x3E000000#32 else 0) :
    ∑ e : Fin 128, Q e * k ⟨e.val % 64, by omega⟩ = (∑ d, q d * k d) * Ideal.ofBits FTy.f32 0x3E000000#32 := by
  choose a ha using hq
  choose b hb using hk
  have e := keep_head (N := 128) 2 rfl (fun e => q ⟨e.val % 64, by omega⟩ * k ⟨e.val % 64, by omega⟩) h hh (Ideal.ofBits FTy.f32 0x3E000000#32)
  have e1 : ∑ e : Fin 128, Q e * k ⟨e.val % 64, by omega⟩
      = ∑ e : Fin 128, q ⟨e.val % 64, by omega⟩ * k ⟨e.val % 64, by omega⟩ * (if e.val / 64 = h then Ideal.ofBits FTy.f32 0x3E000000#32 else 0) := by
    refine Finset.sum_congr rfl fun e _ => ?_
    rw [hQ]
    split
    · rw [mul_right_comm]
    · rw [zero_mul, mul_zero]
  rw [e1, e]
  have e2 : ∀ d : Fin 64, (⟨(64 * h + d.val) % 64, by omega⟩ : Fin 64) = d := fun d => Fin.ext (by dsimp only; omega)
  simp only [e2, ha, hb, word_8, ← EReal.coe_mul]
  rw [sum_coe, sum_coe, ← EReal.coe_mul, Finset.sum_mul]

theorem IsReal.score (A : Args) (hq : ∀ b r h d, IsReal (query A b r h d)) (hk : ∀ b r j d, IsReal (key A b r j d)) (hgq : ∀ d, IsReal (A.gq d))
    (hgk : ∀ d, IsReal (A.gk d)) (b : Fin 32) (r : Fin 256) (h : Fin 8) (k : Fin 256) : IsReal (score A b r h k) :=
  (IsReal.sum fun d => (IsReal.normed _ _ (hq b r h) hgq d).mul (IsReal.normed _ _ (hk b k _) hgk d)).mul ⟨_, word_8⟩

/-- The weighted values over the weights' sum, before any division of the weights. -/
def late (s v u : Fin 256 → EReal) : EReal :=
  Ideal.div (∑ k : Fin 256, Ideal.exp (s k - top s) * v k) (∑ k : Fin 256, Ideal.exp (s k - top s) * u k)

theorem sum_mul_of {n : ℕ} (f : Fin n → EReal) (c : EReal) (h0 : 0 ≤ c) (ht : c ≠ ⊤) : (∑ i, f i) * c = ∑ i, f i * c := by
  generalize (Finset.univ : Finset (Fin n)) = s
  induction s using Finset.cons_induction with
  | empty => simp
  | cons i s hi ih => rw [Finset.sum_cons, Finset.sum_cons, EReal.right_distrib_of_nonneg_of_ne_top h0 ht, ih]

theorem exp_nonneg (x : EReal) : 0 ≤ Ideal.exp x := by
  induction x with
  | bot => exact le_rfl
  | top => exact le_top
  | coe a => exact EReal.coe_nonneg.mpr (Real.exp_nonneg a)

theorem exp_pos (x : EReal) (h : x ≠ ⊥) : 0 < Ideal.exp x := by
  induction x with
  | bot => exact absurd rfl h
  | top => exact EReal.zero_lt_top
  | coe a => exact EReal.coe_pos.mpr (Real.exp_pos a)

theorem late_eq (s v : Fin 256 → EReal) (hs : ∀ k, IsReal (s k)) : late s v (fun _ => 1) = ∑ k, soft s k * v k := by
  have hM : top s ≠ ⊤ := by
    refine ne_of_lt ((Finset.fold_max_lt _).mpr ⟨bot_lt_top, fun k _ => ?_⟩)
    obtain ⟨a, ha⟩ := hs k
    rw [ha]
    exact EReal.coe_lt_top a
  have hp : ∀ k, 0 < Ideal.exp (s k - top s) := fun k => by
    refine exp_pos _ ?_
    obtain ⟨a, ha⟩ := hs k
    rw [ha]
    generalize top s = M at hM
    induction M with
    | bot => simp
    | top => exact absurd rfl hM
    | coe b => rw [← EReal.coe_sub]; exact EReal.coe_ne_bot _
  have hS : 0 < ∑ k : Fin 256, Ideal.exp (s k - top s) :=
    lt_of_lt_of_le (hp 0) (Finset.single_le_sum (f := fun k => Ideal.exp (s k - top s)) (fun k _ => exp_nonneg _) (Finset.mem_univ 0))
  unfold late soft
  simp only [mul_one]
  generalize (∑ k : Fin 256, Ideal.exp (s k - top s)) = S at hS ⊢
  simp only [Ideal.div, if_neg hS.ne']
  rw [sum_mul_of _ _ (EReal.inv_nonneg_of_nonneg hS.le) ?_]
  · exact Finset.sum_congr rfl fun k _ => mul_right_comm _ _ _
  · induction S with
    | bot => simp
    | top => simp
    | coe b => rw [← EReal.coe_inv]; exact EReal.coe_ne_top _

end Cert.Attn

end
-- ==== Proof.Attn.Unit.lean ====
/- The body's terms for one sequence, read at an index. -/
module

public import proofs.«01_k».proof.Proof.Attn.Body
public import proofs.«01_k».proof.Proof.Attn.Real
public import Idealize.ShloMosaic.Lib.Pipeline.ValueKit

@[expose] public section

set_option backward.proofsInPublic true
set_option maxRecDepth 16384

noncomputable section

namespace Cert.Kernel5Ideal.Attn

open Cert.Attn Cert.Kernel5Ideal Cert.Kernel5Ideal.Gen Idealize.ShloMosaic Idealize.SL.Sem

theorem bottom : Ideal.ofBits FTy.f32 0xFF800000#32 = (⊥ : EReal) := by simp [Ideal.ofBits, Ideal.ieee]

section Key

variable (x : Vec Ideal S256x128 .bf16) (g : Vec Ideal S1x128 .f32) (w : Vec Ideal S128x128 .bf16)

theorem norm_k (r : Fin 256) (c : Fin 128) :
    k0_pay1 x g w w (ix2 r c) = (x (ix2 r c) * Ideal.rsqrt
      (∑ e : Fin 128, x (ix2 r e) * x (ix2 r e) * w (ix2 e c)
        + ∑ e : Fin 128, (x (ix2 r e) * x (ix2 r e) - x (ix2 r e) * x (ix2 r e)) * w (ix2 e c)
        + Ideal.ofBits FTy.f32 0x358637BD#32) * g (ix2 0 c) : EReal) := by
  pointwise [k0_pay1]

theorem kStored_apply (r : Fin 256) (c : Fin 128) : kStored x g w (ix3 0 c r) = (k0_pay1 x g w w (ix2 r c) : EReal) := by
  unfold kStored k0_pay6
  generalize k0_pay1 x g w w = q
  pointwise

theorem vStored_apply (r : Fin 256) (c : Fin 128) : vStored x (ix3 0 c r) = (x (ix2 r c) : EReal) := by
  unfold vStored
  pointwise [k0_pay8, k0_pay7, k0_pay2]

theorem low_k (r : Fin 256) (c : Fin 128) : k0_pay3 (ix2 r c) = if c.val < 64 then 1#1 else 0#1 := by
  have e : k0_pay3 (ix2 r c) = IntOp.cmpi CmpIPredicate.slt (BitVec.ofNat 32 c.val) 64#32 := by pointwise [k0_pay3]
  rw [e]
  clear e
  revert c
  decide +kernel

theorem low_q (r : Fin 256) (c : Fin 128) : k0_pay14 (ix2 r c) = if c.val < 64 then 1#1 else 0#1 := by
  have e : k0_pay14 (ix2 r c) = IntOp.cmpi CmpIPredicate.slt (BitVec.ofNat 32 c.val) 64#32 := by pointwise [k0_pay14]
  rw [e]
  clear e
  revert c
  decide +kernel

/-- The lane a key head's feature sits in. -/
def lane (j : Bool) (d : ℕ) (h : d < 64) : Fin 128 := ⟨(if j then 64 else 0) + d, by split <;> omega⟩

theorem pick {P : Prop} [Decidable P] (a b : EReal) : Scalar.select (if P then 1#1 else 0#1) a b = if P then a else b := by
  split <;> rfl

theorem keys_apply (j : Bool) (r : Fin 256) (c : Fin 128) :
    keys j x g w (ix2 r c) = (k0_pay1 x g w w (ix2 r (lane j (c.val % 64) (by omega))) : EReal) := by
  have hc := c.isLt
  cases j
  · unfold keys k0_pay4
    generalize k0_pay1 x g w w = q
    pointwise [k0_pay9]
    rw [low_k, pick]
    split
    · refine congrArg (fun i => q (ix2 r i)) (Fin.ext ?_)
      simp [lane]
      omega
    · refine congrArg (fun i => q (ix2 r i)) (Fin.ext ?_)
      simp [lane]
      omega
  · unfold keys k0_pay4
    generalize k0_pay1 x g w w = q
    pointwise [k0_pay11]
    rw [low_k, pick]
    split
    · refine congrArg (fun i => q (ix2 r i)) (Fin.ext ?_)
      simp [lane]
      omega
    · refine congrArg (fun i => q (ix2 r i)) (Fin.ext ?_)
      simp [lane]
      omega

theorem vals_apply (j : Bool) (r : Fin 256) (c : Fin 128) :
    vals j x (ix2 r ⟨c.val, by omega⟩) = (x (ix2 r (lane j (c.val % 64) (by omega))) : EReal) := by
  have hc := c.isLt
  cases j
  · unfold vals
    pointwise [k0_pay10, k0_pay2, k0_pay5]
    rw [low_k, pick]
    split
    · refine congrArg (fun i => x (ix2 r i)) (Fin.ext ?_)
      simp [lane]
      omega
    · refine congrArg (fun i => x (ix2 r i)) (Fin.ext ?_)
      simp [lane]
      omega
  · unfold vals
    pointwise [k0_pay12, k0_pay2, k0_pay5]
    rw [low_k, pick]
    split
    · refine congrArg (fun i => x (ix2 r i)) (Fin.ext ?_)
      simp [lane]
      omega
    · refine congrArg (fun i => x (ix2 r i)) (Fin.ext ?_)
      simp [lane]
      omega

theorem ones_apply (j : Bool) (r : Fin 256) (c : Fin 128) : vals j x (ix2 r ⟨128 + c.val, by omega⟩) = (1 : EReal) := by
  have hc : ¬ 128 + c.val < 128 := by omega
  cases j
  · unfold vals
    pointwise [k0_pay10, k0_pay2, k0_pay5]
  · unfold vals
    pointwise [k0_pay12, k0_pay2, k0_pay5]

end Key

section Query

variable (x : Vec Ideal S256x512 .bf16) (g : Vec Ideal S1x512 .f32) (w : Vec Ideal S512x512 .bf16)

theorem norm_q (r : Fin 256) (c : Fin 512) :
    k0_pay13 x g w w (ix2 r c) = (x (ix2 r c) * Ideal.rsqrt
      (∑ e : Fin 512, x (ix2 r e) * x (ix2 r e) * w (ix2 e c)
        + ∑ e : Fin 512, (x (ix2 r e) * x (ix2 r e) - x (ix2 r e) * x (ix2 r e)) * w (ix2 e c)
        + Ideal.ofBits FTy.f32 0x358637BD#32) * g (ix2 0 c) * Ideal.ofBits FTy.f32 0x3E000000#32 : EReal) := by
  pointwise [k0_pay13]

/-- Row `i` of four heads stacked: the lanes of the head's half hold it, the others zero. -/
theorem stack_apply (j : Bool) (q : Fin 256 → Fin 512 → EReal) (i : Fin 4) (r : Fin 256) (c : Fin 128) (a : Fin 256) (b : Fin 512) (i' : ℕ) (hi : i.val = i')
    (ha : a.val = r.val) (hb : b.val = (if j then 256 else 0) + 128 * (i' / 2) + c.val) (P : Prop) [Decidable P] (hP : P ↔ c.val / 64 = i' % 2) :
    (if P then q a b else 0) = (if c.val / 64 = i.val % 2 then
      q r ⟨(if j then 256 else 0) + 128 * (i.val / 2) + c.val, by split <;> omega⟩ else 0 : EReal) := by
  subst hi
  obtain rfl : a = r := Fin.ext ha
  have e : b = ⟨(if j then 256 else 0) + 128 * (i.val / 2) + c.val, by split <;> omega⟩ := Fin.ext hb
  rw [e]
  by_cases h : c.val / 64 = i.val % 2
  · rw [if_pos h, if_pos (hP.mpr h)]
  · rw [if_neg h, if_neg (fun hp => h (hP.mp hp))]

theorem flip_if {P : Prop} [Decidable P] (a b : EReal) : (if P then a else b) = if ¬ P then b else a := by
  by_cases h : P <;> simp [h]

theorem queries_of (j : Bool) (i : Fin 4) (r : Fin 256) (c : Fin 128) (p : Fin 1024) (hp : p.val = 256 * i.val + r.val) :
    queries j x g w (ix2 p c) = (if c.val / 64 = i.val % 2 then
      k0_pay13 x g w w (ix2 r ⟨(if j then 256 else 0) + 128 * (i.val / 2) + c.val, by split <;> omega⟩) else 0 : EReal) := by
  have hc := c.isLt
  cases j
  · unfold queries k0_pay15 k0_pay16 k0_pay15
    generalize k0_pay13 x g w w = q
    pointwise [k0_pay17]
    simp only [low_q, pick]
    split
    · refine stack_apply false (fun a b => q (ix2 a b)) i r c _ _ 0 (by omega) ?_ ?_ _ ?_ <;> (try dsimp only) <;> (try simp only [Bool.false_eq_true, if_false]) <;> omega
    split
    · rw [flip_if]
      refine stack_apply false (fun a b => q (ix2 a b)) i r c _ _ 1 (by omega) ?_ ?_ _ ?_ <;> (try dsimp only) <;> (try simp only [Bool.false_eq_true, if_false]) <;> omega
    split
    · refine stack_apply false (fun a b => q (ix2 a b)) i r c _ _ 2 (by omega) ?_ ?_ _ ?_ <;> (try dsimp only) <;> (try simp only [Bool.false_eq_true, if_false]) <;> omega
    · rw [flip_if]
      refine stack_apply false (fun a b => q (ix2 a b)) i r c _ _ 3 (by omega) ?_ ?_ _ ?_ <;> (try dsimp only) <;> (try simp only [Bool.false_eq_true, if_false]) <;> omega
  · unfold queries
    generalize k0_pay13 x g w w = q
    pointwise [k0_pay18]
    simp only [low_q, pick]
    split
    · refine stack_apply true (fun a b => q (ix2 a b)) i r c _ _ 0 (by omega) ?_ ?_ _ ?_ <;> (try dsimp only) <;> (try simp only [if_true]) <;> omega
    split
    · rw [flip_if]
      refine stack_apply true (fun a b => q (ix2 a b)) i r c _ _ 1 (by omega) ?_ ?_ _ ?_ <;> (try dsimp only) <;> (try simp only [if_true]) <;> omega
    split
    · refine stack_apply true (fun a b => q (ix2 a b)) i r c _ _ 2 (by omega) ?_ ?_ _ ?_ <;> (try dsimp only) <;> (try simp only [if_true]) <;> omega
    · rw [flip_if]
      refine stack_apply true (fun a b => q (ix2 a b)) i r c _ _ 3 (by omega) ?_ ?_ _ ?_ <;> (try dsimp only) <;> (try simp only [if_true]) <;> omega

end Query

theorem pairOut_apply (o : Bool) (q : Vec Ideal S1024x128 .bf16) (k : Vec Ideal S256x128 .bf16) (v : Vec Ideal S256x256 .bf16) (r : Fin 256) (c : Fin 128) :
    pairOut (F := Ideal) o q k v (ix2 r c) = (late
      (fun l => ∑ e : Fin 128, q (ix2 ⟨256 * ((if o then 2 else 0) + c.val / 64) + r.val, by split <;> omega⟩ e) * k (ix2 l e))
      (fun l => v (ix2 l ⟨c.val, by omega⟩)) (fun l => v (ix2 l ⟨128 + c.val, by omega⟩)) : EReal) := by
  have hc := c.isLt
  cases o
  · unfold pairOut
    pointwise [k0_pay249, k0_pay248, k0_pay183, k0_pay170]
    rw [low_q, pick, bottom]
    split
    · have h : c.val / 64 = 0 := by omega
      simp only [h]
      simp [late, top]
    · have h : c.val / 64 = 1 := by omega
      simp only [h]
      simp [late, top]
  · unfold pairOut
    pointwise [k0_pay250, k0_pay248, k0_pay183, k0_pay170]
    rw [low_q, pick, bottom]
    split
    · have h : c.val / 64 = 0 := by omega
      simp only [h]
      simp [late, top]
    · have h : c.val / 64 = 1 := by omega
      simp only [h]
      simp [late, top]

end Cert.Kernel5Ideal.Attn

end
-- ==== Proof.Attn.Point.lean ====
/- One sequence's terms of the body on finite queries, keys and gains: the normed keys, and the attention. -/
module

public import proofs.«01_k».proof.Proof.Attn.Unit

@[expose] public section

set_option backward.proofsInPublic true
set_option maxRecDepth 16384

noncomputable section

namespace Cert.Kernel5Ideal.Attn

open Cert.Attn Cert.Kernel5Ideal Cert.Kernel5Ideal.Gen Idealize.ShloMosaic Idealize.SL.Sem

variable (A : Args) (b : Fin 32)
variable (x : Vec Ideal S256x512 .bf16) (g : Vec Ideal S1x512 .f32) (w : Vec Ideal S512x512 .bf16)
variable (y : Vec Ideal S256x128 .bf16) (e : Vec Ideal S1x128 .f32) (u : Vec Ideal S128x128 .bf16) (v : Vec Ideal S256x128 .bf16)
variable (hx : ∀ (r : Fin 256) (l : Fin 512), x (ix2 r l) = (query A b r ⟨l.val / 64, by omega⟩ ⟨l.val % 64, by omega⟩ : EReal))
variable (hg : ∀ l : Fin 512, g (ix2 0 l) = (A.gq ⟨l.val % 64, by omega⟩ : EReal))
variable (hw : ∀ r l : Fin 512, w (ix2 r l) = (if r.val / 64 = l.val / 64 then Ideal.ofBits FTy.f32 0x3C800000#32 else 0 : EReal))
variable (hy : ∀ (r : Fin 256) (l : Fin 128), y (ix2 r l) = (key A b r ⟨l.val / 64, by omega⟩ ⟨l.val % 64, by omega⟩ : EReal))
variable (he : ∀ l : Fin 128, e (ix2 0 l) = (A.gk ⟨l.val % 64, by omega⟩ : EReal))
variable (hu : ∀ r l : Fin 128, u (ix2 r l) = (if r.val / 64 = l.val / 64 then Ideal.ofBits FTy.f32 0x3C800000#32 else 0 : EReal))
variable (hv : ∀ (r : Fin 256) (l : Fin 128), v (ix2 r l) = (value A b r ⟨l.val / 64, by omega⟩ ⟨l.val % 64, by omega⟩ : EReal))
variable (fq : ∀ r h d, IsReal (query A b r h d)) (fk : ∀ r j d, IsReal (key A b r j d)) (fgq : ∀ d, IsReal (A.gq d)) (fgk : ∀ d, IsReal (A.gk d))

include hy he hu fk in
theorem key_norm (r : Fin 256) (l : Fin 128) :
    k0_pay1 y e u u (ix2 r l) = keyOut A b r ⟨l.val / 64, by omega⟩ ⟨l.val % 64, by omega⟩ := by
  refine (norm_k y e u r l).trans ((lanes_normed 2 rfl (fun c => y (ix2 r c)) (fun c => e (ix2 0 c)) (fun a c => u (ix2 a c))
    (fun c => by rw [hy]; exact fk _ _ _) hu l).trans ?_)
  unfold keyOut
  have e1 : (fun d : Fin 64 => (y (ix2 r ⟨64 * (l.val / 64) + d.val, by omega⟩) : EReal)) = key A b r ⟨l.val / 64, by omega⟩ := by
    funext d
    rw [hy]
    exact congrArg₂ (key A b r) (Fin.ext (by dsimp only; omega)) (Fin.ext (by dsimp only; omega))
  have e2 : (fun d : Fin 64 => (e (ix2 0 ⟨64 * (l.val / 64) + d.val, by omega⟩) : EReal)) = A.gk := by
    funext d
    rw [he]
    exact congrArg A.gk (Fin.ext (by dsimp only; omega))
  exact congrArg₂ (fun a c => normed a c _) e1 e2

include hx hg hw fq in
theorem query_norm (r : Fin 256) (l : Fin 512) :
    k0_pay13 x g w w (ix2 r l) = (normed (query A b r ⟨l.val / 64, by omega⟩) A.gq ⟨l.val % 64, by omega⟩ * Ideal.ofBits FTy.f32 0x3E000000#32 : EReal) := by
  refine (norm_q x g w r l).trans (congrArg (· * Ideal.ofBits FTy.f32 0x3E000000#32) ?_)
  refine (lanes_normed 8 rfl (fun c => x (ix2 r c)) (fun c => g (ix2 0 c)) (fun a c => w (ix2 a c))
    (fun c => by rw [hx]; exact fq _ _ _) hw l).trans ?_
  have e1 : (fun d : Fin 64 => (x (ix2 r ⟨64 * (l.val / 64) + d.val, by omega⟩) : EReal)) = query A b r ⟨l.val / 64, by omega⟩ := by
    funext d
    rw [hx]
    exact congrArg₂ (query A b r) (Fin.ext (by dsimp only; omega)) (Fin.ext (by dsimp only; omega))
  have e2 : (fun d : Fin 64 => (g (ix2 0 ⟨64 * (l.val / 64) + d.val, by omega⟩) : EReal)) = A.gq := by
    funext d
    rw [hg]
    exact congrArg A.gq (Fin.ext (by dsimp only; omega))
  exact congrArg₂ (fun a c => normed a c _) e1 e2

/-- The head of a lane of the tile `n`. -/
def headOf (n : Fin 4) (c : Fin 128) : Fin 8 := ⟨2 * n.val + c.val / 64, by omega⟩

theorem headOf_val (n : Fin 4) (c : Fin 128) : (headOf n c).val = 2 * n.val + c.val / 64 := rfl
theorem half_val (n : Fin 4) : (if half n then 256 else 0) = 256 * (n.val / 2) := by revert n; decide
theorem odd_val (n : Fin 4) : (if odd n then 2 else 0) = 2 * (n.val % 2) := by revert n; decide
theorem lane_val (n : Fin 4) : (if half n then 64 else 0) = 64 * (n.val / 2) := by revert n; decide

include hx hg hw hy he hu fq fk fgq fgk in
theorem scores (n : Fin 4) (r k : Fin 256) (c : Fin 128) (p : Fin 1024) (hp : p.val = 256 * ((if odd n then 2 else 0) + c.val / 64) + r.val) :
    ∑ l : Fin 128, (queries (half n) x g w (ix2 p l) : EReal) * keys (half n) y e u (ix2 k l) = score A b r (headOf n c) k := by
  rw [odd_val] at hp
  have hn := n.isLt
  have hc := c.isLt
  have eQ : ∀ l : Fin 128, queries (half n) x g w (ix2 p l) = (if l.val / 64 = c.val / 64 then
      normed (query A b r (headOf n c)) A.gq ⟨l.val % 64, by omega⟩ * Ideal.ofBits FTy.f32 0x3E000000#32 else 0 : EReal) := fun l => by
    rw [queries_of x g w (half n) ⟨2 * (n.val % 2) + c.val / 64, by omega⟩ r l p hp]
    have hi : (2 * (n.val % 2) + c.val / 64) % 2 = c.val / 64 := by omega
    simp only [hi]
    split
    · rename_i hl
      rw [query_norm A b x g w hx hg hw fq]
      have hh := half_val n
      refine congrArg (· * Ideal.ofBits FTy.f32 0x3E000000#32) ?_
      refine congrArg₂ (fun h d => normed (query A b r h) A.gq d) (Fin.ext ?_) (Fin.ext ?_)
      · simp only [headOf, hh]; omega
      · simp only [hh]; omega
    · rfl
  have eK : ∀ l : Fin 128, keys (half n) y e u (ix2 k l) = (normed (key A b k (shared (headOf n c))) A.gk ⟨l.val % 64, by omega⟩ : EReal) := fun l => by
    rw [keys_apply, key_norm A b y e u hy he hu fk]
    have hh := lane_val n
    unfold keyOut
    refine congrArg₂ (fun h d => normed (key A b k h) A.gk d) (Fin.ext ?_) (Fin.ext ?_)
    · simp only [headOf, shared, lane, hh]; omega
    · simp only [lane, hh]; omega
  rw [Finset.sum_congr rfl fun l _ => congrArg₂ (fun a c : EReal => a * c) rfl (eK l)]
  exact half_score _ _ (IsReal.normed _ _ (fq r _) fgq) (IsReal.normed _ _ (fk k _) fgk) (c.val / 64) (by omega) _ eQ

include hx hg hw hy he hu hv fq fk fgq fgk in
theorem pair_out (n : Fin 4) (r : Fin 256) (c : Fin 128) (d : Fin 64) (hd : d.val = c.val % 64) :
    pairOut (F := Ideal) (odd n) (queries (half n) x g w) (keys (half n) y e u) (vals (half n) v) (ix2 r c)
      = out A b r (headOf n c) d := by
  have hd' : d = ⟨c.val % 64, by clear hd; omega⟩ := Fin.ext hd
  rw [hd']
  clear hd' hd
  have hn := n.isLt
  have hc := c.isLt
  have eV : ∀ l : Fin 256, vals (half n) v (ix2 l ⟨c.val, by omega⟩) = (value A b l (shared (headOf n c)) ⟨c.val % 64, by omega⟩ : EReal) := fun l => by
    rw [vals_apply, hv]
    have hh := lane_val n
    refine congrArg₂ (value A b l) (Fin.ext ?_) (Fin.ext ?_)
    · simp only [headOf, shared, lane, hh]; omega
    · simp only [lane, hh]; omega
  refine (pairOut_apply (odd n) _ _ _ r c).trans ?_
  have e1 : (fun k : Fin 256 => ∑ l : Fin 128, (queries (half n) x g w
      (ix2 ⟨256 * ((if odd n then 2 else 0) + c.val / 64) + r.val, by split <;> omega⟩ l) : EReal) * keys (half n) y e u (ix2 k l)) = score A b r (headOf n c) :=
    funext fun k => scores A b x g w y e u hx hg hw hy he hu fq fk fgq fgk n r k c _ rfl
  have e2 : (fun l : Fin 256 => (vals (half n) v (ix2 l ⟨128 + c.val, by omega⟩) : EReal)) = fun _ => 1 := funext fun l => ones_apply v (half n) l c
  refine (congrArg₂ (fun s t => late s _ t) e1 e2).trans ?_
  have fs : ∀ k, IsReal (score A b r (headOf n c) k) := fun k => (IsReal.sum fun d => (IsReal.normed _ _ (fq r _) fgq d).mul (IsReal.normed _ _ (fk k _) fgk d)).mul ⟨_, word_8⟩
  rw [late_eq _ _ fs]
  unfold out
  exact Finset.sum_congr rfl fun l _ => congrArg _ (eV l)

end Cert.Kernel5Ideal.Attn

end
-- ==== Proof.Attn.Arrays.lean ====
/- The blocks of the grid's points and the three arrays the launch leaves. -/
module

public import proofs.«01_k».proof.Proof.Gen.Kernel5Ideal.Value
public import proofs.«01_k».proof.Proof.Attn.Point

@[expose] public section

set_option backward.proofsInPublic true
set_option maxRecDepth 16384

noncomputable section

namespace Cert.Kernel5Ideal.Attn

open Cert.Attn Cert.Kernel5Ideal Cert.Kernel5Ideal.Gen Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  z t k := m ((c : Thread nD τ).loc main_arg0) (ix2 t k)
  gq d := m ((c : Thread nD τ).loc main_arg1) (ix2 0 d)
  gk d := m ((c : Thread nD τ).loc main_arg2) (ix2 0 d)

/-- The sequence `s` of the block of point `n`, and its rows. -/
def seq (n : ℕ) (hn : n < cfg0.N) (s : Fin 8) : Fin 32 := ⟨8 * n + s.val, by have : n < 4 := hn; omega⟩

theorem index0 : ∀ t : Fin cfg0.N, win0_0.index t = ![t.val, 5] := (by decide +kernel : ∀ t : Fin grid0.N, win0_0.index t = ![t.val, 5])
theorem index1 : ∀ t : Fin cfg0.N, win0_1.index t = ![t.val, 24] := (by decide +kernel : ∀ t : Fin grid0.N, win0_1.index t = ![t.val, 24])
theorem index2 : ∀ t : Fin cfg0.N, win0_2.index t = ![t.val, 25] := (by decide +kernel : ∀ t : Fin grid0.N, win0_2.index t = ![t.val, 25])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0, 0] := (by decide +kernel : ∀ t : Fin grid0.N, win0_8.index t = ![t.val, 0, 0])
theorem index9 : ∀ t : Fin cfg0.N, win0_9.index t = ![t.val, 0, 0] := (by decide +kernel : ∀ t : Fin grid0.N, win0_9.index t = ![t.val, 0, 0])

/-- The gains, once for each head. -/
theorem tile8_apply (w : Vec Ideal S1x64 .f32) (l : Fin 512) :
    shapeCast S1x512 (shapeCast S512 (broadcastInDim S8x64 ![0, 1] bcast_S1x64_S8x64_0_1
      (shapeCast S1x64 (shapeCast S64 w shapeCasts_S1x64_S64) shapeCasts_S64_S1x64)) shapeCasts_S8x64_S512) shapeCasts_S512_S1x512 (ix2 0 l)
      = (w (ix2 0 ⟨l.val % 64, by omega⟩) : EReal) := by
  pointwise

theorem tile2_apply (w : Vec Ideal S1x64 .f32) (l : Fin 128) :
    shapeCast S1x128 (shapeCast S128 (broadcastInDim S2x64 ![0, 1] bcast_S1x64_S2x64_0_1
      (shapeCast S1x64 (shapeCast S64 w shapeCasts_S1x64_S64) shapeCasts_S64_S1x64)) shapeCasts_S2x64_S128) shapeCasts_S128_S1x128 (ix2 0 l)
      = (w (ix2 0 ⟨l.val % 64, by omega⟩) : EReal) := by
  pointwise

theorem gq_V (l : Fin 512) : V m c main_v5 (ix2 0 l) = (args m c).gq ⟨l.val % 64, by omega⟩ := by
  have e : V m c main_v5 = shapeCast S1x512 (shapeCast S512 (broadcastInDim S8x64 ![0, 1] bcast_S1x64_S8x64_0_1
      (shapeCast S1x64 (shapeCast S64 (m ((c : Thread nD τ).loc main_arg1)) shapeCasts_S1x64_S64) shapeCasts_S64_S1x64)) shapeCasts_S8x64_S512) shapeCasts_S512_S1x512 := by
    unfold_abbrev_sides
    after_results
    rfl
  rw [e]
  exact tile8_apply _ l

theorem gk_V (l : Fin 128) : V m c main_v9 (ix2 0 l) = (args m c).gk ⟨l.val % 64, by omega⟩ := by
  have e : V m c main_v9 = shapeCast S1x128 (shapeCast S128 (broadcastInDim S2x64 ![0, 1] bcast_S1x64_S2x64_0_1
      (shapeCast S1x64 (shapeCast S64 (m ((c : Thread nD τ).loc main_arg2)) shapeCasts_S1x64_S64) shapeCasts_S64_S1x64)) shapeCasts_S2x64_S128) shapeCasts_S128_S1x128 := by
    unfold_abbrev_sides
    after_results
    rfl
  rw [e]
  exact tile2_apply _ l

/-- The tables of ones over 64: an element is 1/64 where its row and column are of one head. -/
theorem div_word : ∀ r : Fin 512, IntOp.divsi ArithUnit.host (BitVec.ofNat 32 r.val) 64#32 = BitVec.ofNat 32 (r.val / 64) := by
  decide +kernel
theorem eq_word : ∀ a b : Fin 8, IntOp.cmpi .eq (BitVec.ofNat 32 a.val) (BitVec.ofNat 32 b.val) = if a.val = b.val then 1#1 else 0#1 := by
  decide +kernel
theorem select_heads (r l : ℕ) (hr : r < 512) (hl : l < 512) (x y : EReal) :
    Scalar.select (IntOp.cmpi .eq (IntOp.divsi ArithUnit.host (BitVec.ofNat 32 r) 64#32) (IntOp.divsi ArithUnit.host (BitVec.ofNat 32 l) 64#32)) x y
      = if r / 64 = l / 64 then x else y := by
  rw [div_word ⟨r, hr⟩, div_word ⟨l, hl⟩, eq_word ⟨r / 64, by omega⟩ ⟨l / 64, by omega⟩]
  show Scalar.select (if r / 64 = l / 64 then 1#1 else 0#1) x y = _
  split <;> rfl

theorem large_V (r l : Fin 512) : V m c main_v18 (ix2 r l) = if r.val / 64 = l.val / 64 then Ideal.ofBits FTy.f32 0x3C800000#32 else 0 := by
  have e : V m c main_v18 = truncf .bf16 (select (cmpi .eq (Host.divsi (iotaInDim S512x512 32 0) (broadcastInDim S512x512 ![] bcast_S_S512x512 (constantI S_ 32 64#32))) (Host.divsi (iotaInDim S512x512 32 1) (broadcastInDim S512x512 ![] bcast_S_S512x512 (constantI S_ 32 64#32))))
      (broadcastInDim S512x512 ![] bcast_S_S512x512 (constant (F := Ideal) S_ .f32 0x3C800000#32)) (broadcastInDim S512x512 ![] bcast_S_S512x512 (constant (F := Ideal) S_ .f32 0x00000000#32))) bitsLt_bf16_f32 := by
    unfold_abbrev_sides
    after_results
    rfl
  rw [e]
  pointwise
  exact select_heads r.val l.val (by omega) (by omega) _ _

theorem small_V (r l : Fin 128) : V m c main_v27 (ix2 r l) = if r.val / 64 = l.val / 64 then Ideal.ofBits FTy.f32 0x3C800000#32 else 0 := by
  have e : V m c main_v27 = truncf .bf16 (select (cmpi .eq (Host.divsi (iotaInDim S128x128 32 0) (broadcastInDim S128x128 ![] bcast_S_S128x128 (constantI S_ 32 64#32))) (Host.divsi (iotaInDim S128x128 32 1) (broadcastInDim S128x128 ![] bcast_S_S128x128 (constantI S_ 32 64#32))))
      (broadcastInDim S128x128 ![] bcast_S_S128x128 (constant (F := Ideal) S_ .f32 0x3C800000#32)) (broadcastInDim S128x128 ![] bcast_S_S128x128 (constant (F := Ideal) S_ .f32 0x00000000#32))) bitsLt_bf16_f32 := by
    unfold_abbrev_sides
    after_results
    rfl
  rw [e]
  pointwise
  exact select_heads r.val l.val (by omega) (by omega) _ _

variable (t : Fin cfg0.N)

theorem in0 (s : Fin 8) (r : Fin 256) (l : Fin 512) :
    View.ld (X0_0 m c t) (qRows s) (ix2 r l) = query (args m c) (seq t.val t.isLt s) r ⟨l.val / 64, by omega⟩ ⟨l.val % 64, by omega⟩ := by
  have e : (qRows s).emb (ix2 r l) = (ix2 ⟨256 * s.val + r.val, by omega⟩ l : S2048x512.Idx) := by
    funext a
    fin_cases a <;> apply Fin.ext <;> refine (ValueKit.rect_emb_unit_val _ _ _ _ _).trans ?_ <;> simp [ix2]
  refine (congrArg (X0_0 m c t) e).trans ?_
  unfold X0_0 Pipeline.Window.fill
  rw [dif_pos (moved0_0 t _)]
  blk_simp [iblk]
  rw [V_main_arg0]
  unfold query args
  refine congrArg _ ?_
  funext a
  fin_cases a <;> apply Fin.ext <;> blk_simp [index0] <;> simp [ix2, seq] <;> omega

theorem in1 (s : Fin 8) (r : Fin 256) (l : Fin 128) :
    View.ld (iblk m c 1 t) (kRows s) (ix2 r l) = key (args m c) (seq t.val t.isLt s) r ⟨l.val / 64, by omega⟩ ⟨l.val % 64, by omega⟩ := by
  have e : (kRows s).emb (ix2 r l) = (ix2 ⟨256 * s.val + r.val, by omega⟩ l : S2048x128.Idx) := by
    funext a
    fin_cases a <;> apply Fin.ext <;> refine (ValueKit.rect_emb_unit_val _ _ _ _ _).trans ?_ <;> simp [ix2]
  refine (congrArg (iblk m c 1 t) e).trans ?_
  blk_simp [iblk]
  rw [V_main_arg0]
  unfold key args
  refine congrArg _ ?_
  funext a
  fin_cases a <;> apply Fin.ext <;> blk_simp [index1] <;> simp [ix2, seq] <;> omega

theorem in2 (s : Fin 8) (r : Fin 256) (l : Fin 128) :
    View.ld (iblk m c 2 t) (kRows s) (ix2 r l) = value (args m c) (seq t.val t.isLt s) r ⟨l.val / 64, by omega⟩ ⟨l.val % 64, by omega⟩ := by
  have e : (kRows s).emb (ix2 r l) = (ix2 ⟨256 * s.val + r.val, by omega⟩ l : S2048x128.Idx) := by
    funext a
    fin_cases a <;> apply Fin.ext <;> refine (ValueKit.rect_emb_unit_val _ _ _ _ _).trans ?_ <;> simp [ix2]
  refine (congrArg (iblk m c 2 t) e).trans ?_
  blk_simp [iblk]
  rw [V_main_arg0]
  unfold value args
  refine congrArg _ ?_
  funext a
  fin_cases a <;> apply Fin.ext <;> blk_simp [index2] <;> simp [ix2, seq] <;> omega

theorem in3 (l : Fin 512) : iblk m c 3 t (ix2 0 l) = (args m c).gq ⟨l.val % 64, by omega⟩ := by
  rw [← gq_V m c]
  blk_simp [iblk]
  refine congrArg _ ?_
  funext a
  fin_cases a <;> apply Fin.ext <;> blk_simp [index3] <;> simp [ix2]

theorem in4 (l : Fin 128) : iblk m c 4 t (ix2 0 l) = (args m c).gk ⟨l.val % 64, by omega⟩ := by
  rw [← gk_V m c]
  blk_simp [iblk]
  refine congrArg _ ?_
  funext a
  fin_cases a <;> apply Fin.ext <;> blk_simp [index4] <;> simp [ix2]

theorem in5 (r l : Fin 512) : iblk m c 5 t (ix2 r l) = if r.val / 64 = l.val / 64 then Ideal.ofBits FTy.f32 0x3C800000#32 else 0 := by
  rw [← large_V m c]
  blk_simp [iblk]
  refine congrArg _ ?_
  funext a
  fin_cases a <;> apply Fin.ext <;> blk_simp [index5] <;> simp [ix2]

theorem in6 (r l : Fin 128) : iblk m c 6 t (ix2 r l) = if r.val / 64 = l.val / 64 then Ideal.ofBits FTy.f32 0x3C800000#32 else 0 := by
  rw [← small_V m c]
  blk_simp [iblk]
  refine congrArg _ ?_
  funext a
  fin_cases a <;> apply Fin.ext <;> blk_simp [index6] <;> simp [ix2]

/-- The three arrays: the attention, the normed keys and the values, these with their positions last. -/
def oArr (A : Args) : S8192x512.Idx → EReal := fun y =>
  out A ⟨(show Fin 8192 from y 0).val / 256, by omega⟩ ⟨(show Fin 8192 from y 0).val % 256, by omega⟩
    ⟨(show Fin 512 from y 1).val / 64, by omega⟩ ⟨(show Fin 512 from y 1).val % 64, by omega⟩
def kArr (A : Args) : S32x128x256.Idx → EReal := fun y =>
  keyOut A (y 0) (y 2) ⟨(show Fin 128 from y 1).val / 64, by omega⟩ ⟨(show Fin 128 from y 1).val % 64, by omega⟩
def vArr (A : Args) : S32x128x256.Idx → EReal := fun y =>
  value A (y 0) (y 2) ⟨(show Fin 128 from y 1).val / 64, by omega⟩ ⟨(show Fin 128 from y 1).val % 64, by omega⟩

/-- The queries, the keys and the gains are finite. -/
structure Fine (A : Args) : Prop where
  q : ∀ b r h d, IsReal (query A b r h d)
  k : ∀ b r j d, IsReal (key A b r j d)
  gq : ∀ d, IsReal (A.gq d)
  gk : ∀ d, IsReal (A.gk d)

variable (hf : Fine (args m c))

theorem mem8 {α : Type} (f : Fin 8 → α) (s : Fin 8) : f s ∈ [f 7, f 6, f 5, f 4, f 3, f 2, f 1, f 0] := by
  fin_cases s <;> simp
theorem mem32 {α : Type} (f : Fin 8 → Fin 4 → α) (s : Fin 8) (n : Fin 4) :
    f s n ∈ [f 7 3, f 7 2, f 7 1, f 7 0, f 6 3, f 6 2, f 6 1, f 6 0, f 5 3, f 5 2, f 5 1, f 5 0, f 4 3, f 4 2, f 4 1, f 4 0, f 3 3, f 3 2, f 3 1, f 3 0, f 2 3, f 2 2, f 2 1, f 2 0, f 1 3, f 1 2, f 1 1, f 1 0, f 0 3, f 0 2, f 0 1, f 0 0] := by
  fin_cases s <;> fin_cases n <;> simp

theorem cRow_emb (s : Fin 8) (l : Fin 128) (r : Fin 256) : (cRow s).emb (ix3 0 l r) = (ix3 s l r : S8x128x256.Idx) := by
  funext a
  fin_cases a <;> apply Fin.ext <;> refine (ValueKit.rect_emb_unit_val _ _ _ _ _).trans ?_ <;> simp [ix3]

theorem oTile_emb (s : Fin 8) (n : Fin 4) (r : Fin 256) (l : Fin 128) :
    (oTile s n).emb (ix2 r l) = (ix2 ⟨256 * s.val + r.val, by omega⟩ ⟨128 * n.val + l.val, by omega⟩ : S2048x512.Idx) := by
  funext a
  fin_cases a <;> apply Fin.ext <;> refine (ValueKit.rect_emb_unit_val _ _ _ _ _).trans ?_ <;> simp [ix2]

include hf in
theorem k_at (s : Fin 8) (l : Fin 128) (r : Fin 256) : (outsAt0 m c t).2.1 (ix3 s l r)
    = keyOut (args m c) (seq t.val t.isLt s) r ⟨l.val / 64, by omega⟩ ⟨l.val % 64, by omega⟩ := by
  unfold outsAt0
  dsimp only
  rw [k_eq]
  refine View.canon_apply_of_pieces (Val := Elt Ideal) (S := S8x128x256) (e := .f32)
    (fun y => keyOut (args m c) (seq t.val t.isLt (y 0)) (y 2) ⟨(show Fin 128 from y 1).val / 64, by omega⟩ ⟨(show Fin 128 from y 1).val % 64, by omega⟩)
    _ ?_ (ix3 s l r) ?_
  · intro p hp j
    obtain ⟨s, rfl⟩ : ∃ s : Fin 8, p = ⟨cRow s, kStored (View.ld (iblk m c 1 t) (kRows s)) (iblk m c 4 t) (iblk m c 6 t)⟩ := by
      simp only [List.mem_cons, List.mem_nil_iff, or_false] at hp
      rcases hp with h | h | h | h | h | h | h | h <;> exact ⟨_, h⟩
    obtain ⟨l, r, rfl⟩ : ∃ (l : Fin 128) (r : Fin 256), j = ix3 0 l r :=
      ⟨j 1, j 2, by funext a; fin_cases a <;> first | rfl | exact Subsingleton.elim (α := Fin 1) _ _⟩
    simp only
    rw [cRow_emb]
    refine (kStored_apply _ _ _ r l).trans ?_
    exact key_norm (args m c) (seq t.val t.isLt s) _ _ _ (in1 m c t s) (in4 m c t) (in6 m c t) (hf.k _) r l
  · refine ⟨⟨cRow s, kStored (View.ld (iblk m c 1 t) (kRows s)) (iblk m c 4 t) (iblk m c 6 t)⟩, ?_, ?_⟩
    · exact mem8 (fun s => (⟨cRow s, kStored (View.ld (iblk m c 1 t) (kRows s)) (iblk m c 4 t) (iblk m c 6 t)⟩ : View.Piece (Elt Ideal) S8x128x256 .f32)) s
    · rw [← cRow_emb]
      exact (cRow s).toLoadRect.idx_mem _

theorem v_at (s : Fin 8) (l : Fin 128) (r : Fin 256) : (outsAt0 m c t).2.2 (ix3 s l r)
    = value (args m c) (seq t.val t.isLt s) r ⟨l.val / 64, by omega⟩ ⟨l.val % 64, by omega⟩ := by
  unfold outsAt0
  dsimp only
  rw [v_eq]
  refine View.canon_apply_of_pieces (Val := Elt Ideal) (S := S8x128x256) (e := .f32)
    (fun y => value (args m c) (seq t.val t.isLt (y 0)) (y 2) ⟨(show Fin 128 from y 1).val / 64, by omega⟩ ⟨(show Fin 128 from y 1).val % 64, by omega⟩)
    _ ?_ (ix3 s l r) ?_
  · intro p hp j
    obtain ⟨s, rfl⟩ : ∃ s : Fin 8, p = ⟨cRow s, vStored (View.ld (iblk m c 2 t) (kRows s))⟩ := by
      simp only [List.mem_cons, List.mem_nil_iff, or_false] at hp
      rcases hp with h | h | h | h | h | h | h | h <;> exact ⟨_, h⟩
    obtain ⟨l, r, rfl⟩ : ∃ (l : Fin 128) (r : Fin 256), j = ix3 0 l r :=
      ⟨j 1, j 2, by funext a; fin_cases a <;> first | rfl | exact Subsingleton.elim (α := Fin 1) _ _⟩
    simp only
    rw [cRow_emb]
    refine (vStored_apply _ r l).trans ?_
    exact in2 m c t s r l
  · refine ⟨⟨cRow s, vStored (View.ld (iblk m c 2 t) (kRows s))⟩, ?_, ?_⟩
    · exact mem8 (fun s => (⟨cRow s, vStored (View.ld (iblk m c 2 t) (kRows s))⟩ : View.Piece (Elt Ideal) S8x128x256 .f32)) s
    · rw [← cRow_emb]
      exact (cRow s).toLoadRect.idx_mem _

include hf in
theorem o_at (s : Fin 8) (r : Fin 256) (h : Fin 8) (d : Fin 64) (p : Fin 2048) (l : Fin 512) (hp : p.val = 256 * s.val + r.val) (hl : l.val = 64 * h.val + d.val) :
    (outsAt0 m c t).1 (ix2 p l) = out (args m c) (seq t.val t.isLt s) r h d := by
  unfold outsAt0
  dsimp only
  rw [o_eq]
  refine (View.canon_apply_of_pieces (Val := Elt Ideal) (S := S2048x512) (e := .bf16)
    (fun y => out (args m c) (seq t.val t.isLt ⟨(show Fin 2048 from y 0).val / 256, by omega⟩) ⟨(show Fin 2048 from y 0).val % 256, by omega⟩
      ⟨(show Fin 512 from y 1).val / 64, by omega⟩ ⟨(show Fin 512 from y 1).val % 64, by omega⟩)
    _ (fun q hq j => ?_) (ix2 p l) ?_).trans ?_
  · obtain ⟨s, n, rfl⟩ : ∃ (s : Fin 8) (n : Fin 4), q = ⟨oTile s n, oStored (X0_0 m c t) (iblk m c 1 t) (iblk m c 2 t) (iblk m c 3 t)
        (iblk m c 4 t) (iblk m c 5 t) (iblk m c 6 t) s n⟩ := by
      simp only [List.mem_cons, List.mem_nil_iff, or_false] at hq
      rcases hq with h | h | h | h | h | h | h | h | h | h | h | h | h | h | h | h | h | h | h | h | h | h | h | h | h | h | h | h | h | h | h | h <;> exact ⟨_, _, h⟩
    obtain ⟨r, l, rfl⟩ : ∃ (r : Fin 256) (l : Fin 128), j = ix2 r l := ⟨j 0, j 1, by funext a; fin_cases a <;> rfl⟩
    simp only
    rw [oTile_emb]
    refine (pair_out (args m c) (seq t.val t.isLt s) _ _ _ _ _ _ _ (in0 m c t s) (in3 m c t) (in5 m c t) (in1 m c t s) (in4 m c t) (in6 m c t)
      (in2 m c t s) (hf.q _) (hf.k _) hf.gq hf.gk n r l ⟨l.val % 64, by omega⟩ rfl).trans ?_
    refine out_congr _ ?_ ?_ ?_ ?_
    · show (seq t.val t.isLt s).val = (seq t.val t.isLt ⟨(256 * s.val + r.val) / 256, _⟩).val
      simp only [seq]
      omega
    · show r.val = (256 * s.val + r.val) % 256
      omega
    · show (headOf n l).val = (128 * n.val + l.val) / 64
      rw [headOf_val]
      omega
    · show l.val % 64 = (128 * n.val + l.val) % 64
      omega
  · have hh := h.isLt
    obtain ⟨n, hn⟩ : ∃ n : Fin 4, n.val = h.val / 2 := ⟨⟨h.val / 2, by omega⟩, rfl⟩
    refine ⟨⟨oTile s n, oStored (X0_0 m c t) (iblk m c 1 t) (iblk m c 2 t) (iblk m c 3 t)
        (iblk m c 4 t) (iblk m c 5 t) (iblk m c 6 t) s n⟩, ?_, ?_⟩
    · exact mem32 (fun s n => (⟨oTile s n, oStored (X0_0 m c t) (iblk m c 1 t) (iblk m c 2 t) (iblk m c 3 t)
        (iblk m c 4 t) (iblk m c 5 t) (iblk m c 6 t) s n⟩ : View.Piece (Elt Ideal) S2048x512 .bf16)) s n
    · have e : (ix2 p l : S2048x512.Idx) = (oTile s n).emb (ix2 r ⟨64 * (h.val % 2) + d.val, by omega⟩) := by
        rw [oTile_emb]
        exact congrArg₂ ix2 (Fin.ext hp) (Fin.ext (by dsimp only; omega))
      rw [e]
      exact (oTile s n).toLoadRect.idx_mem _
  · have h0 : p.val / 256 = s.val := by omega
    have h1 : p.val % 256 = r.val := by omega
    have h2 : l.val / 64 = h.val := by omega
    have h3 : l.val % 64 = d.val := by omega
    show out (args m c) (seq t.val t.isLt ⟨p.val / 256, _⟩) ⟨p.val % 256, _⟩ ⟨l.val / 64, _⟩ ⟨l.val % 64, _⟩ = _
    simp only [h0, h1, h2, h3]

theorem emb7 (p : Fin 2048) (l : Fin 512) :
    (win0_7.blk t).view.emb (ix2 p l) = (ix2 ⟨2048 * t.val + p.val, by have : t.val < 4 := t.isLt; omega⟩ l : S8192x512.Idx) := by
  funext a
  fin_cases a <;> apply Fin.ext <;> blk_simp [index7] <;> simp [ix2] <;> omega
theorem emb8 (s : Fin 8) (l : Fin 128) (r : Fin 256) :
    (win0_8.blk t).view.emb (ix3 s l r) = (ix3 (seq t.val t.isLt s) l r : S32x128x256.Idx) := by
  funext a
  fin_cases a <;> apply Fin.ext <;> blk_simp [index8] <;> simp [ix3, seq] <;> omega
theorem emb9 (s : Fin 8) (l : Fin 128) (r : Fin 256) :
    (win0_9.blk t).view.emb (ix3 s l r) = (ix3 (seq t.val t.isLt s) l r : S32x128x256.Idx) := by
  funext a
  fin_cases a <;> apply Fin.ext <;> blk_simp [index9] <;> simp [ix3, seq] <;> omega

include hf in
theorem final7 : (dats m 0 c).arrAt 7 cfg0.N = oArr (args m c) := by
  refine (dats m 0 c).arrAt_eq_of_covers 7 _ (by decide +kernel) fun t _ y => ?_
  obtain ⟨p, l, rfl⟩ : ∃ (p : Fin 2048) (l : Fin 512), y = ix2 p l := ⟨y 0, y 1, by funext a; fin_cases a <;> rfl⟩
  blk_simp
  rw [after0_7]
  refine Eq.trans ?_ (congrArg (oArr (args m c)) (emb7 t p l)).symm
  refine (o_at m c t hf ⟨p.val / 256, by omega⟩ ⟨p.val % 256, by omega⟩ ⟨l.val / 64, by omega⟩ ⟨l.val % 64, by omega⟩ p l
    (by dsimp only; omega) (by dsimp only; omega)).trans ?_
  have h0 : (2048 * t.val + p.val) / 256 = 8 * t.val + p.val / 256 := by omega
  have h1 : (2048 * t.val + p.val) % 256 = p.val % 256 := by omega
  show _ = out (args m c) ⟨(2048 * t.val + p.val) / 256, _⟩ ⟨(2048 * t.val + p.val) % 256, _⟩ ⟨l.val / 64, _⟩ ⟨l.val % 64, _⟩
  simp only [h0, h1]
  rfl

include hf in
theorem final8 : (dats m 0 c).arrAt 8 cfg0.N = kArr (args m c) := by
  refine (dats m 0 c).arrAt_eq_of_covers 8 _ (by decide +kernel) fun t _ y => ?_
  obtain ⟨s, l, r, rfl⟩ : ∃ (s : Fin 8) (l : Fin 128) (r : Fin 256), y = ix3 s l r := ⟨y 0, y 1, y 2, by funext a; fin_cases a <;> rfl⟩
  blk_simp
  rw [after0_8]
  exact (k_at m c t hf s l r).trans (congrArg (kArr (args m c)) (emb8 t s l r)).symm

theorem final9 : (dats m 0 c).arrAt 9 cfg0.N = vArr (args m c) := by
  refine (dats m 0 c).arrAt_eq_of_covers 9 _ (by decide +kernel) fun t _ y => ?_
  obtain ⟨s, l, r, rfl⟩ : ∃ (s : Fin 8) (l : Fin 128) (r : Fin 256), y = ix3 s l r := ⟨y 0, y 1, y 2, by funext a; fin_cases a <;> rfl⟩
  blk_simp
  rw [after0_9]
  exact (v_at m c t s l r).trans (congrArg (vArr (args m c)) (emb9 t s l r)).symm

variable (ρ : Dev nD → PrngReg)

/-- The run, with the arrays it leaves. -/
theorem run_out (hf : ∀ c, Fine (args m c)) : θ_run defs (onTc (τ := τ) (main (F := Ideal))) ⟨m, fun _ => 0, ρ⟩ fun r => ∀ c : Dev nD,
    r.2.mem ((c : Thread nD τ).loc main_v28_0) = oArr (args m c)
      ∧ r.2.mem ((c : Thread nD τ).loc main_v28_1) = kArr (args m c)
      ∧ r.2.mem ((c : Thread nD τ).loc main_v28_2) = vArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 7).trans (final7 m c (hf c)), ((h c).1 8).trans (final8 m c (hf c)), ((h c).1 9).trans (final9 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Attn

end
-- ==== Proof.Attn.Pre.lean ====
/- What the precondition says of the arguments: the queries, the keys and the gains are finite. -/
module

public import proofs.«01_k».proof.Defs
public import proofs.«01_k».proof.Proof.Attn.Arrays

@[expose] public section

set_option backward.proofsInPublic true
set_option maxRecDepth 16384

noncomputable section

instance Cert.Pre_qk_finite.facts : Cert.Pre_qk_finite.Facts where
  slices_S10240x3328_S8192x640_0_2560 := by decide
  bitsLt_bf16_f32 := by decide
  shapeCasts_S8192x640_S8192x10x64 := by decide
  bcast_S_S8192x10x64 := by decide
  shapeCasts_S1x64_S64 := by decide
  bcast_S_S64 := by decide
  bcast_S64_S1x1x64_2 := by decide
  bcast_S1x1x64_S8192x10x64_0_1_2 := by decide

namespace Cert.Kernel5Ideal.Attn

open Cert.Attn Cert.Kernel5Ideal Cert.Kernel5Ideal.Gen Idealize.ShloMosaic Idealize.ShloMosaic.TcCoe Idealize.SL.Sem

/-- A number whose size is below infinity is real. -/
theorem real_of_bit {x : EReal} (h : decide (FloatOps.absf (F := Ideal) (φ := .f32) x < Ideal.ofBits FTy.f32 0x7F800000#32) = true) : IsReal x := by
  have hw : Ideal.ofBits FTy.f32 0x7F800000#32 = (⊤ : EReal) := by simp [Ideal.ofBits, Ideal.ieee]
  have h := of_decide_eq_true h
  rw [hw] at h
  have h : max x (-x) < ⊤ := h
  induction x with
  | bot => exact absurd h (by simp)
  | top => exact absurd h (by simp)
  | coe a => exact ⟨a, rfl⟩

theorem and_bits : ∀ p q r : Bool, IntOp.andi (IntOp.andi (BitVec.ofBool p) (BitVec.ofBool q)) (BitVec.ofBool r) = 1#1 → p = true ∧ q = true ∧ r = true := by
  decide

theorem read (x0 : Vec Ideal S10240x3328 .bf16) (x1 x2 : Vec Ideal S1x64 .f32) (t : Fin 8192) (h : Fin 10) (d : Fin 64)
    (hp : Cert.Pre_qk_finite.fn (F := Ideal) x0 x1 x2 = fun _ => 1#1) :
    IsReal (x0 (ix2 ⟨t.val, by omega⟩ ⟨2560 + (h.val * 64 + d.val), by omega⟩)) ∧ IsReal (x1 (ix2 0 d)) ∧ IsReal (x2 (ix2 0 d)) := by
  have e := congrFun hp (ix3 t h d)
  have e2 : Cert.Pre_qk_finite.fn (F := Ideal) x0 x1 x2 (ix3 t h d)
      = IntOp.andi (IntOp.andi
        (BitVec.ofBool (decide (FloatOps.absf (F := Ideal) (φ := .f32) (x0 (ix2 ⟨t.val, by omega⟩ ⟨2560 + (h.val * 64 + d.val), by omega⟩)) < Ideal.ofBits FTy.f32 0x7F800000#32)))
        (BitVec.ofBool (decide (FloatOps.absf (F := Ideal) (φ := .f32) (x1 (ix2 0 d)) < Ideal.ofBits FTy.f32 0x7F800000#32))))
        (BitVec.ofBool (decide (FloatOps.absf (F := Ideal) (φ := .f32) (x2 (ix2 0 d)) < Ideal.ofBits FTy.f32 0x7F800000#32))) := by
    pointwise [Cert.Pre_qk_finite.fn]
  obtain ⟨h0, h1, h2⟩ := and_bits _ _ _ (e2.symm.trans e)
  exact ⟨real_of_bit h0, real_of_bit h1, real_of_bit h2⟩

theorem col_real {x0 : Vec Ideal S10240x3328 .bf16} {t : Fin 10240} {k k' : Fin 3328} (h : IsReal (x0 (ix2 t k))) (hk : k.val = k'.val) : IsReal (x0 (ix2 t k')) := by
  rw [← Fin.ext hk]
  exact h

/-- The precondition gives the finiteness the kernel's values need. -/
theorem fine (m : (ℓ : Loc nD τ sig) → Buf (Elt Ideal) ℓ) (hp : Cert.Pre_Kernel5Ideal_qk_finite m) (c : Dev nD) : Fine (args m c) where
  q b r h d := col_real (read _ _ _ ⟨256 * b.val + r.val, by omega⟩ ⟨h.val, by omega⟩ d (hp c)).1 (show 2560 + (h.val * 64 + d.val) = 2560 + (64 * h.val + d.val) by omega)
  k b r j d := col_real (read _ _ _ ⟨256 * b.val + r.val, by omega⟩ ⟨8 + j.val, by omega⟩ d (hp c)).1
    (show 2560 + ((8 + j.val) * 64 + d.val) = 3072 + (64 * j.val + d.val) by omega)
  gq d := (read _ _ _ 0 0 d (hp c)).2.1
  gk d := (read _ _ _ 0 0 d (hp c)).2.2

end Cert.Kernel5Ideal.Attn

end
-- ==== Proof.Attn.RefValue.lean ====
/- The reference's three results, read at an index. -/
module

public import proofs.«01_k».proof.Proof.Gen.Reference5Ideal.Read
public import proofs.«01_k».proof.Proof.Attn.Real
public import Idealize.ShloMosaic.Lib.Pipeline.ValueKit

@[expose] public section

set_option backward.proofsInPublic true
set_option maxRecDepth 16384

noncomputable section

namespace Cert.Reference5Ideal.Attn

open Cert.Attn Cert.Reference5Ideal Cert.Reference5Ideal.Gen Cert.Reference5Ideal.Read Idealize.ShloMosaic Idealize.SL.Sem

/-- The reference's arguments. -/
def args (x0 : Vec Ideal S10240x3328 .bf16) (x1 x2 : Vec Ideal S1x64 .f32) : Args where
  z t k := x0 (ix2 t k)
  gq d := x1 (ix2 0 d)
  gk d := x2 (ix2 0 d)

variable (x0 : Vec Ideal S10240x3328 .bf16) (x1 x2 : Vec Ideal S1x64 .f32)

theorem col_eq {t t' : Fin 10240} {k k' : Fin 3328} (ht : t.val = t'.val) (hk : k.val = k'.val) : (x0 (ix2 t k) : EReal) = x0 (ix2 t' k') := by
  rw [Fin.ext ht, Fin.ext hk]

theorem q_in (b : Fin 32) (r : Fin 256) (h : Fin 8) (d : Fin 64) : val_main_v6 (F := Ideal) x0 (ix4 b r h d) = query (args x0 x1 x2) b r h d := by
  have e : val_main_v6 (F := Ideal) x0 (ix4 b r h d) = (x0 (ix2 ⟨b.val * 256 + r.val, by omega⟩ ⟨2560 + (h.val * 64 + d.val), by omega⟩) : EReal) := by
    pointwise [val_main_v6, val_main_v3, val_main_v2, val_main_v1, val_main_v0]
  exact e.trans (col_eq x0 (show b.val * 256 + r.val = 256 * b.val + r.val by omega) (show 2560 + (h.val * 64 + d.val) = 2560 + (64 * h.val + d.val) by omega))

theorem k_in (b : Fin 32) (r : Fin 256) (h : Fin 2) (d : Fin 64) : val_main_v22 (F := Ideal) x0 (ix4 b r h d) = key (args x0 x1 x2) b r h d := by
  have e : val_main_v22 (F := Ideal) x0 (ix4 b r h d) = (x0 (ix2 ⟨b.val * 256 + r.val, by omega⟩ ⟨2560 + (512 + (h.val * 64 + d.val)), by omega⟩) : EReal) := by
    pointwise [val_main_v22, val_main_v4, val_main_v2, val_main_v1, val_main_v0]
  exact e.trans (col_eq x0 (show b.val * 256 + r.val = 256 * b.val + r.val by omega) (show 2560 + (512 + (h.val * 64 + d.val)) = 3072 + (64 * h.val + d.val) by omega))

theorem v_in (b : Fin 32) (r : Fin 256) (h : Fin 2) (d : Fin 64) : val_main_v38 (F := Ideal) x0 (ix4 b r h d) = value (args x0 x1 x2) b r h d := by
  have e : val_main_v38 (F := Ideal) x0 (ix4 b r h d) = (x0 (ix2 ⟨b.val * 256 + r.val, by omega⟩ ⟨2560 + (640 + (h.val * 64 + d.val)), by omega⟩) : EReal) := by
    pointwise [val_main_v38, val_main_v5, val_main_v2, val_main_v1, val_main_v0]
  exact e.trans (col_eq x0 (show b.val * 256 + r.val = 256 * b.val + r.val by omega) (show 2560 + (640 + (h.val * 64 + d.val)) = 3200 + (64 * h.val + d.val) by omega))

theorem q_n (b : Fin 32) (r : Fin 256) (h : Fin 8) (d : Fin 64) :
    val_main_v20 (F := Ideal) x0 x1 (ix4 b r h d) = normed (query (args x0 x1 x2) b r h) (args x0 x1 x2).gq d := by
  have e : ∀ e : Fin 64, val_main_v6 (F := Ideal) x0 (ix4 b r h e) = query (args x0 x1 x2) b r h e := q_in x0 x1 x2 b r h
  unfold normed
  simp only [← e]
  unfold val_main_v20 val_main_v17 val_main_v16 val_main_v15 val_main_v14 val_main_v12 val_main_v10 val_main_v9 val_main_v8
  generalize val_main_v6 (F := Ideal) x0 = q
  pointwise [val_main_v19, val_main_v18, val_main_v7, val_main_v13, val_main_v11, val_main_cst, val_main_cst_0, val_main_cst_1]
  rfl

theorem k_n (b : Fin 32) (r : Fin 256) (h : Fin 2) (d : Fin 64) : val_main_v36 (F := Ideal) x0 x2 (ix4 b r h d) = keyOut (args x0 x1 x2) b r h d := by
  have e : ∀ e : Fin 64, val_main_v22 (F := Ideal) x0 (ix4 b r h e) = key (args x0 x1 x2) b r h e := k_in x0 x1 x2 b r h
  unfold keyOut normed
  simp only [← e]
  unfold val_main_v36 val_main_v33 val_main_v32 val_main_v31 val_main_v30 val_main_v28 val_main_v26 val_main_v25 val_main_v24
  generalize val_main_v22 (F := Ideal) x0 = q
  pointwise [val_main_v35, val_main_v34, val_main_v23, val_main_v29, val_main_v27, val_main_cst_2, val_main_cst_3, val_main_cst_4]
  rfl

/-- The query head `i` of the key head `j`. -/
def headAt (j : Fin 2) (i : Fin 4) : Fin 8 := ⟨j.val * 4 + i.val, by omega⟩
theorem shared_headAt (j : Fin 2) (i : Fin 4) : shared (headAt j i) = j := Fin.ext (show (j.val * 4 + i.val) / 4 = j.val by omega)

theorem s_in (b : Fin 32) (j : Fin 2) (i : Fin 4) (r k : Fin 256) :
    val_main_v43 (F := Ideal) x0 x1 x2 (ix5 b j i r k) = score (args x0 x1 x2) b r (headAt j i) k := by
  have eq : ∀ d : Fin 64, val_main_v20 (F := Ideal) x0 x1 (ix4 b r (headAt j i) d) = normed (query (args x0 x1 x2) b r (headAt j i)) (args x0 x1 x2).gq d := q_n x0 x1 x2 b r _
  have ek : ∀ d : Fin 64, val_main_v36 (F := Ideal) x0 x2 (ix4 b k j d) = normed (key (args x0 x1 x2) b k j) (args x0 x1 x2).gk d := k_n x0 x1 x2 b k j
  unfold score
  rw [shared_headAt]
  simp only [← eq, ← ek]
  unfold val_main_v43 val_main_v41 val_main_v40 val_main_v21 val_main_v37
  generalize val_main_v20 (F := Ideal) x0 x1 = q
  generalize val_main_v36 (F := Ideal) x0 x2 = w
  pointwise [val_main_v42, val_main_cst_5]
  rfl

theorem bottom : Ideal.ofBits FTy.f32 0xFF800000#32 = (⊥ : EReal) := by simp [Ideal.ofBits, Ideal.ieee]

theorem max_read (s : FVec Ideal S32x2x4x256x256 .f32) (b : Fin 32) (j : Fin 2) (i : Fin 4) (r : Fin 256) :
    Host.reduce (s := S32x2x4x256x256) FloatOps.maximumf s (val_main_cst_6 (F := Ideal)) reducesTo_S32x2x4x256x256_S32x2x4x256_d4 h_S_ (ix4 b j i r)
      = Finset.univ.fold max (Ideal.ofBits FTy.f32 0xFF800000#32) (fun k : Fin 256 => (s (ix5 b j i r k) : EReal)) := by
  pointwise [val_main_cst_6]

theorem top_in (b : Fin 32) (j : Fin 2) (i : Fin 4) (r : Fin 256) :
    val_main_v46 (F := Ideal) x0 x1 x2 (ix4 b j i r) = top (score (args x0 x1 x2) b r (headAt j i)) := by
  have e1 : val_main_v44 (F := Ideal) x0 x1 x2 (ix4 b j i r) = top (score (args x0 x1 x2) b r (headAt j i)) := by
    refine (max_read (val_main_v43 (F := Ideal) x0 x1 x2) b j i r).trans ?_
    simp only [s_in]
    rw [bottom]
    rfl
  have e2 : val_main_v45 (F := Ideal) (ix4 b j i r) = (⊥ : EReal) := (val_main_v45_apply _).trans bottom
  rw [val_main_v46_apply, e1, e2]
  exact max_eq_right bot_le

theorem exp_in (b : Fin 32) (j : Fin 2) (i : Fin 4) (r k : Fin 256) :
    val_main_v50 (F := Ideal) x0 x1 x2 (ix5 b j i r k)
      = Ideal.exp (score (args x0 x1 x2) b r (headAt j i) k - top (score (args x0 x1 x2) b r (headAt j i))) := by
  have e : idx_main_v47 (idx_main_v48 (ix5 b j i r k)) = ix4 b j i r := by
    funext a
    match a with
    | ⟨0, _⟩ => rfl
    | ⟨1, _⟩ => rfl
    | ⟨2, _⟩ => rfl
    | ⟨3, _⟩ => rfl
  rw [val_main_v50_apply, val_main_v49_apply, val_main_v48_apply, val_main_v47_apply, e, s_in, top_in]
  rfl

theorem sum_in (b : Fin 32) (j : Fin 2) (i : Fin 4) (r : Fin 256) :
    val_main_v51 (F := Ideal) x0 x1 x2 (ix4 b j i r)
      = ∑ k : Fin 256, Ideal.exp (score (args x0 x1 x2) b r (headAt j i) k - top (score (args x0 x1 x2) b r (headAt j i))) := by
  have e : ∀ k : Fin 256, idx_main_v51 (ix4 b j i r) k = ix5 b j i r k := by
    intro k
    funext a
    match a with
    | ⟨0, _⟩ => rfl
    | ⟨1, _⟩ => rfl
    | ⟨2, _⟩ => rfl
    | ⟨3, _⟩ => rfl
    | ⟨4, _⟩ => rfl
  have z : val_main_cst_8 (F := Ideal) (Shape.Idx.first h_S_) = (0 : EReal) := word_zero
  rw [val_main_v51_apply, z]
  simp only [e, exp_in, zero_add]

theorem soft_in (b : Fin 32) (j : Fin 2) (i : Fin 4) (r k : Fin 256) :
    val_main_v54 (F := Ideal) x0 x1 x2 (ix5 b j i r k) = soft (score (args x0 x1 x2) b r (headAt j i)) k := by
  have e : idx_main_v52 (idx_main_v53 (ix5 b j i r k)) = ix4 b j i r := by
    funext a
    match a with
    | ⟨0, _⟩ => rfl
    | ⟨1, _⟩ => rfl
    | ⟨2, _⟩ => rfl
    | ⟨3, _⟩ => rfl
  rw [val_main_v54_apply, val_main_v53_apply, val_main_v52_apply, e, exp_in, sum_in]
  rfl

theorem dot_read (s : FVec Ideal S32x2x4x256x256 .f32) (b : Fin 32) (j : Fin 2) (i : Fin 4) (r : Fin 256) (d : Fin 64) :
    Host.dotGeneral (φ₂ := .f32) dot_S32x2x4x256x256_S32x2x256x64_S32x2x4x256x64_4_2_23_3_01_01 none s (val_main_v39 (F := Ideal) x0) (ix5 b j i r d)
      = ∑ k : Fin 256, (s (ix5 b j i r k) : EReal) * val_main_v38 (F := Ideal) x0 (ix4 b k j d) := by
  unfold val_main_v39
  generalize val_main_v38 (F := Ideal) x0 = t
  pointwise

theorem out_in (b : Fin 32) (j : Fin 2) (i : Fin 4) (r : Fin 256) (d : Fin 64) :
    val_main_v55 (F := Ideal) x0 x1 x2 (ix5 b j i r d) = out (args x0 x1 x2) b r (headAt j i) d := by
  refine (dot_read x0 (val_main_v54 (F := Ideal) x0 x1 x2) b j i r d).trans ?_
  unfold out
  rw [shared_headAt]
  simp only [soft_in, v_in x0 x1 x2]

theorem o_read (p : Fin 8192) (l : Fin 512) :
    val_main_v59 (F := Ideal) x0 x1 x2 (ix2 p l)
      = (val_main_v55 (F := Ideal) x0 x1 x2 (ix5 ⟨p.val / 256, by omega⟩ ⟨l.val / 64 / 4, by omega⟩ ⟨l.val / 64 % 4, by omega⟩ ⟨p.val % 256, by omega⟩ ⟨l.val % 64, by omega⟩) : EReal) := by
  unfold val_main_v59 val_main_v58 val_main_v57 val_main_v56
  generalize val_main_v55 (F := Ideal) x0 x1 x2 = s
  pointwise

theorem o_eq (p : Fin 8192) (l : Fin 512) :
    val_main_v59 (F := Ideal) x0 x1 x2 (ix2 p l)
      = out (args x0 x1 x2) ⟨p.val / 256, by omega⟩ ⟨p.val % 256, by omega⟩ ⟨l.val / 64, by omega⟩ ⟨l.val % 64, by omega⟩ := by
  refine (o_read x0 x1 x2 p l).trans ((out_in x0 x1 x2 _ _ _ _ _).trans (out_congr _ rfl rfl ?_ rfl))
  show l.val / 64 / 4 * 4 + l.val / 64 % 4 = l.val / 64
  omega

theorem k_eq (b : Fin 32) (l : Fin 128) (r : Fin 256) :
    val_main_v61 (F := Ideal) x0 x2 (ix3 b l r) = keyOut (args x0 x1 x2) b r ⟨l.val / 64, by omega⟩ ⟨l.val % 64, by omega⟩ := by
  refine Eq.trans ?_ (k_n x0 x1 x2 b r _ _)
  unfold val_main_v61 val_main_v60 val_main_v37
  generalize val_main_v36 (F := Ideal) x0 x2 = s
  pointwise

theorem v_eq (b : Fin 32) (l : Fin 128) (r : Fin 256) :
    val_main_v63 (F := Ideal) x0 (ix3 b l r) = value (args x0 x1 x2) b r ⟨l.val / 64, by omega⟩ ⟨l.val % 64, by omega⟩ := by
  refine Eq.trans ?_ (v_in x0 x1 x2 b r _ _)
  unfold val_main_v63 val_main_v62 val_main_v39
  generalize val_main_v38 (F := Ideal) x0 = s
  pointwise

end Cert.Reference5Ideal.Attn

end
-- ==== Proof.Attn.Claims.lean ====
/- The frame of the attention's reference, and the equality of the three results. -/
module

public import proofs.«01_k».proof.Defs
public import proofs.«01_k».proof.Proof.Gen.Reference5Ideal.Run
public import proofs.«01_k».proof.Proof.Attn.Pre
public import proofs.«01_k».proof.Proof.Attn.RefValue
public import Idealize.ShloMosaic.Adequacy
public import Idealize.ShloMosaic.Init

@[expose] public section

set_option maxRecDepth 16384

noncomputable section

namespace Cert.Proof.Attn

open Cert.Attn Idealize.ShloMosaic Idealize.ShloMosaic.StableHlo Idealize.SL.Sem

theorem frame_reference : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The three results of the reference, as arrays. -/
theorem o_arr (x0 : Vec Ideal Cert.Reference5Ideal.S10240x3328 .bf16) (x1 x2 : Vec Ideal Cert.Reference5Ideal.S1x64 .f32) :
    Cert.Reference5Ideal.Read.val_main_v59 (F := Ideal) x0 x1 x2 = Cert.Kernel5Ideal.Attn.oArr (Cert.Reference5Ideal.Attn.args x0 x1 x2) := by
  funext y
  rw [eq_ix2 y]
  exact Cert.Reference5Ideal.Attn.o_eq x0 x1 x2 (y 0) (y 1)
theorem k_arr (x0 : Vec Ideal Cert.Reference5Ideal.S10240x3328 .bf16) (x1 x2 : Vec Ideal Cert.Reference5Ideal.S1x64 .f32) :
    Cert.Reference5Ideal.Read.val_main_v61 (F := Ideal) x0 x2 = Cert.Kernel5Ideal.Attn.kArr (Cert.Reference5Ideal.Attn.args x0 x1 x2) := by
  funext y
  rw [eq_ix3 y]
  exact Cert.Reference5Ideal.Attn.k_eq x0 x1 x2 (y 0) (y 1) (y 2)
theorem v_arr (x0 : Vec Ideal Cert.Reference5Ideal.S10240x3328 .bf16) (x1 x2 : Vec Ideal Cert.Reference5Ideal.S1x64 .f32) :
    Cert.Reference5Ideal.Read.val_main_v63 (F := Ideal) x0 = Cert.Kernel5Ideal.Attn.vArr (Cert.Reference5Ideal.Attn.args x0 x1 x2) := by
  funext y
  rw [eq_ix3 y]
  exact Cert.Reference5Ideal.Attn.v_eq x0 x1 x2 (y 0) (y 1) (y 2)

/-- The values of the run of the kernel and of the run of the reference agree. -/
theorem values : Cert.algebraic_Kernel5Ideal_Reference5Ideal_pre_qk_finite := fun m ρ m' ρ' hp hag =>
  ⟨fun c => Cert.Kernel5Ideal.Attn.oArr (Cert.Kernel5Ideal.Attn.args m c),
    fun c => Cert.Kernel5Ideal.Attn.kArr (Cert.Kernel5Ideal.Attn.args m c),
    fun c => Cert.Kernel5Ideal.Attn.vArr (Cert.Kernel5Ideal.Attn.args m c),
    Cert.Kernel5Ideal.Attn.run_out m ρ (fun c => Cert.Kernel5Ideal.Attn.fine m hp c),
    (θ_run Cert.Reference5Ideal.defs _ _).mono (fun _ h c => by
        obtain ⟨a0, a1, a2⟩ := hag c
        refine ⟨(h c).1.trans ((Cert.Reference5Ideal.Read.val_main_v59_eq m' c).trans ((o_arr _ _ _).trans ?_)),
          (h c).2.1.trans ((Cert.Reference5Ideal.Read.val_main_v61_eq _ _).trans
            ((k_arr _ (m' ((c.tc : Thread _ _).loc Cert.Reference5Ideal.main_arg1)) _).trans ?_)),
          (h c).2.2.1.trans ((Cert.Reference5Ideal.Read.val_main_v63_eq _).trans
            ((v_arr _ (m' ((c.tc : Thread _ _).loc Cert.Reference5Ideal.main_arg1))
              (m' ((c.tc : Thread _ _).loc Cert.Reference5Ideal.main_arg2))).trans ?_)), (h c).2.2.2⟩
        · rw [a0, a1, a2]
          rfl
        · rw [a0, a1, a2]
          rfl
        · rw [a0, a1, a2]
          rfl)
      (Cert.Reference5Ideal.Value.run (F := Ideal) m' ρ')⟩

end Cert.Proof.Attn

end
-- ==== Proof.OutProj.Spec.lean ====
/- The output projection of a layer: every token takes its mixer row times the weights, modulated, onto its own; its second norm,
   modulated, is the row the experts take, and that row times the router's weights are its logits. -/
module

public import proofs.«01_k».proof.Proof.InProj.Spec

@[expose] public section

noncomputable section

namespace Cert.OutProj

open Idealize.ShloMosaic

/-- The mixer's rows, the projection's weights, the tokens, the layer's modulation (a row for each of its three uses, for each of the
    conditions), its second gain and the router's weights. -/
structure Args where
  act : Fin 10240 → Fin 1024 → EReal
  w : Fin 1024 → Fin 1024 → EReal
  x : Fin 10240 → Fin 1024 → EReal
  gate : Fin 8 → Fin 1024 → EReal
  gain : Fin 1024 → EReal
  scale : Fin 8 → Fin 1024 → EReal
  shift : Fin 8 → Fin 1024 → EReal
  router : Fin 1024 → Fin 16 → EReal

variable (A : Args)

/-- The product with the weights. -/
def proj (t : Fin 10240) (k : Fin 1024) : EReal := ∑ j : Fin 1024, A.act t j * A.w j k

/-- The token with it. -/
def tok (t : Fin 10240) (k : Fin 1024) : EReal := A.x t k + A.gate (Moe.cond t) k * proj A t k

/-- The row the experts take. -/
def row (t : Fin 10240) : Fin 1024 → EReal := InProj.normRow (tok A t) A.gain (A.scale (Moe.cond t)) (A.shift (Moe.cond t))

/-- The router's logits. -/
def logit (e : Fin 16) (t : Fin 10240) : EReal := ∑ k : Fin 1024, row A t k * A.router k e

/-- A sum of 1024 is the sum of its halves. -/
theorem sum_halves (f : Fin 1024 → EReal) :
    (∑ j : Fin 512, f ⟨j.val, by omega⟩) + (∑ j : Fin 512, f ⟨512 + j.val, by omega⟩) = ∑ j : Fin 1024, f j :=
  (Fin.sum_univ_add (a := 512) (b := 512) f).symm

end Cert.OutProj

end
-- ==== Proof.OutProj.Point.lean ====
/- What one point of the first layer's output projection leaves in its three output blocks, read at an index. -/
module

public import proofs.«01_k».proof.Proof.Gen.Kernel6Ideal.Frame
public import proofs.«01_k».proof.Proof.OutProj.Spec
public import Idealize.ShloMosaic.Lib.Pipeline.ValueKit

@[expose] public section

set_option maxRecDepth 16384

noncomputable section

namespace Cert.Kernel6Ideal.OutProj

open Cert.InProj (normRow)
open Cert.OutProj Cert.Kernel6Ideal Cert.Kernel6Ideal.Gen Idealize.ShloMosaic Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

variable (x0 x1 : Vec Ideal S256x512 .bf16) (x2 x3 : Vec Ideal S512x1024 .bf16) (x4 : Vec Ideal S256x1024 .f32) (x5 : Vec Ideal S1x1024 .f32) (x6 : Vec Ideal S1x6x1024 .f32) (x7 : Vec Ideal S16x1024 .f32)

theorem out_x_eq : out0_8 x0 x1 x2 x3 x4 x5 x6 x7 = k0_pay5 x0 x2 x1 x3 x6 x4 := by
  unfold_out out0_8
  rw [View.canon_unit_zero (S := S256x1024) zero2]
  simp only [View.ld_unit_zero (S := S256x512) zero2, View.ld_unit_zero (S := S512x1024) zero2, View.ld_unit_zero (S := S256x1024) zero2, View.ld_unit_zero (S := S1x1024) zero2, View.ld_unit_zero (S := S1x6x1024) zero3, View.ld_unit_zero (S := S16x1024) zero2]

theorem out_h_eq : out0_9 x0 x1 x2 x3 x4 x5 x6 x7 = k0_pay2 (k0_pay4 x6) (k0_pay6 x0 x2 x1 x3 x6 x4 x5) (k0_pay7 x6) := by
  unfold_out out0_9
  rw [View.canon_unit_zero (S := S256x1024) zero2]
  simp only [View.ld_unit_zero (S := S256x512) zero2, View.ld_unit_zero (S := S512x1024) zero2, View.ld_unit_zero (S := S256x1024) zero2, View.ld_unit_zero (S := S1x1024) zero2, View.ld_unit_zero (S := S1x6x1024) zero3, View.ld_unit_zero (S := S16x1024) zero2]

theorem out_l_eq : out0_10 x0 x1 x2 x3 x4 x5 x6 x7 = k0_pay3 (k0_pay4 x6) (k0_pay6 x0 x2 x1 x3 x6 x4 x5) (k0_pay7 x6) x7 := by
  unfold_out out0_10
  rw [View.canon_unit_zero (S := S16x256) zero2]
  simp only [View.ld_unit_zero (S := S256x512) zero2, View.ld_unit_zero (S := S512x1024) zero2, View.ld_unit_zero (S := S256x1024) zero2, View.ld_unit_zero (S := S1x1024) zero2, View.ld_unit_zero (S := S1x6x1024) zero3, View.ld_unit_zero (S := S16x1024) zero2]

/-- The token of a row, with its product. -/
theorem tok_point (r : Fin 256) (k : Fin 1024) : k0_pay5 x0 x2 x1 x3 x6 x4 (ix2 r k)
    = (x4 (ix2 r k) + x6 (ix3 0 2 k) * ((∑ j : Fin 512, x0 (ix2 r j) * x2 (ix2 j k)) + ∑ j : Fin 512, x1 (ix2 r j) * x3 (ix2 j k)) : EReal) := by
  pointwise [k0_pay5, k0_pay4]

/-- The normed row. -/
theorem row_point (r : Fin 256) (k : Fin 1024) : k0_pay1 (k0_pay4 x6) (k0_pay6 x0 x2 x1 x3 x6 x4 x5) (k0_pay7 x6) (ix2 r k)
    = normRow (fun k => k0_pay5 x0 x2 x1 x3 x6 x4 (ix2 r k)) (fun k => x5 (ix2 0 k)) (fun k => x6 (ix3 0 4 k)) (fun k => x6 (ix3 0 3 k)) k := by
  unfold normRow k0_pay6
  generalize k0_pay5 x0 x2 x1 x3 x6 x4 = q
  pointwise [k0_pay1, k0_pay4, k0_pay7]

theorem rowbf_point (r : Fin 256) (k : Fin 1024) : k0_pay2 (k0_pay4 x6) (k0_pay6 x0 x2 x1 x3 x6 x4 x5) (k0_pay7 x6) (ix2 r k) = (k0_pay1 (k0_pay4 x6) (k0_pay6 x0 x2 x1 x3 x6 x4 x5) (k0_pay7 x6) (ix2 r k) : EReal) := by
  unfold k0_pay2
  generalize k0_pay1 (k0_pay4 x6) (k0_pay6 x0 x2 x1 x3 x6 x4 x5) (k0_pay7 x6) = q
  pointwise

/-- The logits. -/
theorem logit_point (e : Fin 16) (r : Fin 256) : k0_pay3 (k0_pay4 x6) (k0_pay6 x0 x2 x1 x3 x6 x4 x5) (k0_pay7 x6) x7 (ix2 e r)
    = (∑ k : Fin 1024, x7 (ix2 e k) * k0_pay1 (k0_pay4 x6) (k0_pay6 x0 x2 x1 x3 x6 x4 x5) (k0_pay7 x6) (ix2 r k) : EReal) := by
  unfold k0_pay3
  generalize k0_pay1 (k0_pay4 x6) (k0_pay6 x0 x2 x1 x3 x6 x4 x5) (k0_pay7 x6) = q
  pointwise

end Cert.Kernel6Ideal.OutProj

end
-- ==== Proof.OutProj.Arrays.lean ====
/- The blocks of the grid's points, and the arrays the launch of the first layer's output projection leaves. -/
module

public import proofs.«01_k».proof.Proof.Gen.Kernel6Ideal.Value
public import proofs.«01_k».proof.Proof.OutProj.Point

@[expose] public section

set_option maxRecDepth 16384

noncomputable section

namespace Cert.Kernel6Ideal.OutProj

open Cert.Moe (cond cond_val)
open Cert.InProj (normRow)
open Cert.OutProj Cert.Kernel6Ideal Cert.Kernel6Ideal.Gen Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  act t j := if h : j.val < 512 then m ((c : Thread nD τ).loc main_arg0) (ix2 t ⟨j.val, h⟩)
    else m ((c : Thread nD τ).loc main_arg1) (ix2 t ⟨j.val - 512, by omega⟩)
  w j k := m ((c : Thread nD τ).loc main_arg2) (ix3 0 j k)
  x t k := m ((c : Thread nD τ).loc main_arg3) (ix2 t k)
  gate a k := m ((c : Thread nD τ).loc main_arg5) (ix4 0 a 2 k)
  gain k := m ((c : Thread nD τ).loc main_arg4) (ix3 0 1 k)
  scale a k := m ((c : Thread nD τ).loc main_arg5) (ix4 0 a 4 k)
  shift a k := m ((c : Thread nD τ).loc main_arg5) (ix4 0 a 3 k)
  router k e := m ((c : Thread nD τ).loc main_arg6) (ix2 k e)

/-- Row `r` of a point's block of tokens. -/
def at' (t : Fin cfg0.N) (r : Fin 256) : Fin 10240 := ⟨256 * t.val + r.val, by have : t.val < 40 := t.isLt; omega⟩

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![t.val, 0] :=
  (by decide +kernel : ∀ t : Fin grid0.N, win0_4.index t = ![t.val, 0])
theorem index5 : ∀ t : Fin cfg0.N, win0_5.index t = ![0, 0] :=
  (by decide +kernel : ∀ t : Fin grid0.N, win0_5.index t = ![0, 0])
theorem index6 : ∀ t : Fin cfg0.N, win0_6.index t = ![if t.val < 32 then 0 else 1 + (t.val - 32) / 4, 0, 0] :=
  (by decide +kernel : ∀ t : Fin grid0.N, win0_6.index t = ![if t.val < 32 then 0 else 1 + (t.val - 32) / 4, 0, 0])
theorem index7 : ∀ t : Fin cfg0.N, win0_7.index t = ![0, 0] :=
  (by decide +kernel : ∀ t : Fin grid0.N, win0_7.index t = ![0, 0])
theorem index8 : ∀ t : Fin cfg0.N, win0_8.index t = ![t.val, 0] :=
  (by decide +kernel : ∀ t : Fin grid0.N, win0_8.index t = ![t.val, 0])
theorem index9 : ∀ t : Fin cfg0.N, win0_9.index t = ![t.val, 0] :=
  (by decide +kernel : ∀ t : Fin grid0.N, win0_9.index t = ![t.val, 0])
theorem index10 : ∀ t : Fin cfg0.N, win0_10.index t = ![0, t.val] :=
  (by decide +kernel : ∀ t : Fin grid0.N, win0_10.index t = ![0, t.val])

/-- What the host operations leave for the launch. -/
theorem gain_V (k : Fin 1024) : V m c main_v9 (ix2 0 k) = (args m c).gain k := by
  have e : V m c main_v9 = shapeCast S1x1024 (shapeCast S1024 (extractStridedSlice S1x1x1024 ![0, 1, 0] (m ((c : Thread nD τ).loc main_arg4))
      slices_S2x2x1024_S1x1x1024_0_1_0) shapeCasts_S1x1x1024_S1024) shapeCasts_S1024_S1x1024 := by
    unfold_abbrev_sides
    after_results
    rfl
  rw [e]
  pointwise
  rfl

theorem mods_V (a : Fin 8) (b : Fin 6) (k : Fin 1024) : V m c main_v7 (ix3 a b k) = m ((c : Thread nD τ).loc main_arg5) (ix4 0 a b k) := by
  have e : V m c main_v7 = shapeCast S8x6x1024 (extractStridedSlice S1x8x6x1024 ![0, 0, 0, 0] (m ((c : Thread nD τ).loc main_arg5))
      slices_S2x8x6x1024_S1x8x6x1024_0_0_0_0) shapeCasts_S1x8x6x1024_S8x6x1024 := by
    unfold_abbrev_sides
    after_results
    rfl
  rw [e]
  pointwise

theorem flip_apply (w : Vec Ideal S1024x16 .f32) (e : Fin 16) (k : Fin 1024) :
    transpose S16x1024 [1, 0] w transposes_S1024x16_S16x1024_1_0 (ix2 e k) = (w (ix2 k e) : EReal) := by
  pointwise

theorem router_V (e : Fin 16) (k : Fin 1024) : V m c main_v8 (ix2 e k) = (args m c).router k e := by
  have e' : V m c main_v8 = transpose S16x1024 [1, 0] (m ((c : Thread nD τ).loc main_arg6)) transposes_S1024x16_S16x1024_1_0 := by
    unfold_abbrev_sides
    after_results
  rw [e']
  exact flip_apply _ e k

theorem cast_apply (w : Vec Ideal S1x1024x1024 .f32) (j k : Fin 1024) :
    truncf .bf16 (shapeCast S1024x1024 w shapeCasts_S1x1024x1024_S1024x1024 : FVec Ideal S1024x1024 .f32) bitsLt_bf16_f32 (ix2 j k) = (w (ix3 0 j k) : EReal) := by
  pointwise

theorem lo_apply (w : Vec Ideal S1024x1024 .bf16) (j : Fin 512) (k : Fin 1024) :
    extractStridedSlice S512x1024 ![0, 0] w slices_S1024x1024_S512x1024_0_0 (ix2 j k) = (w (ix2 ⟨j.val, by omega⟩ k) : EReal) := by
  pointwise
theorem hi_apply (w : Vec Ideal S1024x1024 .bf16) (j : Fin 512) (k : Fin 1024) :
    extractStridedSlice S512x1024 ![512, 0] w slices_S1024x1024_S512x1024_512_0 (ix2 j k) = (w (ix2 ⟨512 + j.val, by omega⟩ k) : EReal) := by
  pointwise

theorem wlo_V (j : Fin 512) (k : Fin 1024) : V m c main_v2 (ix2 j k) = (args m c).w ⟨j.val, by omega⟩ k := by
  have e : V m c main_v2 = extractStridedSlice S512x1024 ![0, 0] (truncf .bf16 (shapeCast S1024x1024 (m ((c : Thread nD τ).loc main_arg2)) shapeCasts_S1x1024x1024_S1024x1024 : FVec Ideal S1024x1024 .f32) bitsLt_bf16_f32)
      slices_S1024x1024_S512x1024_0_0 := by
    unfold_abbrev_sides
    after_results
    rfl
  rw [e]
  exact (lo_apply _ j k).trans (cast_apply _ _ k)

theorem whi_V (j : Fin 512) (k : Fin 1024) : V m c main_v3 (ix2 j k) = (args m c).w ⟨512 + j.val, by omega⟩ k := by
  have e : V m c main_v3 = extractStridedSlice S512x1024 ![512, 0] (truncf .bf16 (shapeCast S1024x1024 (m ((c : Thread nD τ).loc main_arg2)) shapeCasts_S1x1024x1024_S1024x1024 : FVec Ideal S1024x1024 .f32) bitsLt_bf16_f32)
      slices_S1024x1024_S512x1024_512_0 := by
    unfold_abbrev_sides
    after_results
    rfl
  rw [e]
  exact (hi_apply _ j k).trans (cast_apply _ _ k)

variable (t : Fin cfg0.N)

theorem act_lo (t : Fin 10240) (j : Fin 512) : (args m c).act t ⟨j.val, by omega⟩ = m ((c : Thread nD τ).loc main_arg0) (ix2 t j) := dif_pos j.isLt
theorem act_hi (t : Fin 10240) (j : Fin 512) : (args m c).act t ⟨512 + j.val, by omega⟩ = m ((c : Thread nD τ).loc main_arg1) (ix2 t j) := by
  refine (dif_neg (show ¬(512 + j.val) < 512 by omega)).trans (congrArg (fun z => m ((c : Thread nD τ).loc main_arg1) (ix2 t z)) (Fin.ext ?_))
  show 512 + j.val - 512 = j.val
  omega

theorem in0 (r : Fin 256) (j : Fin 512) : iblk m c 0 t (ix2 r j) = (args m c).act (at' t r) ⟨j.val, by omega⟩ := by
  rw [act_lo]
  blk_simp [iblk]
  rw [V_main_arg0]
  refine congrArg _ ?_
  funext a
  fin_cases a <;> apply Fin.ext <;> blk_simp [index0] <;> simp [ix2, at'] <;> omega

theorem in1 (r : Fin 256) (j : Fin 512) : iblk m c 1 t (ix2 r j) = (args m c).act (at' t r) ⟨512 + j.val, by omega⟩ := by
  rw [act_hi]
  blk_simp [iblk]
  rw [V_main_arg1]
  refine congrArg _ ?_
  funext a
  fin_cases a <;> apply Fin.ext <;> blk_simp [index1] <;> simp [ix2, at'] <;> omega

theorem in2 (j : Fin 512) (k : Fin 1024) : iblk m c 2 t (ix2 j k) = (args m c).w ⟨j.val, by omega⟩ k := by
  rw [← wlo_V m c]
  blk_simp [iblk]
  refine congrArg _ ?_
  funext a
  fin_cases a <;> apply Fin.ext <;> blk_simp [index2] <;> simp [ix2]

theorem in3 (j : Fin 512) (k : Fin 1024) : iblk m c 3 t (ix2 j k) = (args m c).w ⟨512 + j.val, by omega⟩ k := by
  rw [← whi_V m c]
  blk_simp [iblk]
  refine congrArg _ ?_
  funext a
  fin_cases a <;> apply Fin.ext <;> blk_simp [index3] <;> simp [ix2]

theorem in_x (r : Fin 256) (k : Fin 1024) : iblk m c 4 t (ix2 r k) = (args m c).x (at' t r) k := by
  show _ = m ((c : Thread nD τ).loc main_arg3) (ix2 (at' t r) k)
  blk_simp [iblk]
  rw [V_main_arg3]
  refine congrArg _ ?_
  funext a
  fin_cases a <;> apply Fin.ext <;> blk_simp [index4] <;> simp [ix2, at'] <;> omega

theorem in_gain (k : Fin 1024) : iblk m c 5 t (ix2 0 k) = (args m c).gain k := by
  rw [← gain_V m c]
  blk_simp [iblk]
  refine congrArg _ ?_
  funext a
  fin_cases a <;> apply Fin.ext <;> blk_simp [index5] <;> simp [ix2]

theorem cond_at (r : Fin 256) : (cond (at' t r)).val = if t.val < 32 then 0 else 1 + (t.val - 32) / 4 := by
  have ht : t.val < 40 := t.isLt
  have hr := r.isLt
  rw [cond_val]
  show (if 256 * t.val + r.val < 8192 then 0 else 1 + (256 * t.val + r.val - 8192) / 1024) = _
  split <;> split <;> omega

theorem in_mod (r : Fin 256) (b : Fin 6) (k : Fin 1024) :
    iblk m c 6 t (ix3 0 b k) = m ((c : Thread nD τ).loc main_arg5) (ix4 0 (cond (at' t r)) b k) := by
  rw [← mods_V m c]
  blk_simp [iblk]
  refine congrArg _ ?_
  funext a
  fin_cases a <;> apply Fin.ext <;> blk_simp [index6] <;> simp [ix3]
  exact (cond_at t r).symm

theorem in_router (e : Fin 16) (k : Fin 1024) : iblk m c 7 t (ix2 e k) = (args m c).router k e := by
  rw [← router_V m c]
  blk_simp [iblk]
  refine congrArg _ ?_
  funext a
  fin_cases a <;> apply Fin.ext <;> blk_simp [index7] <;> simp [ix2]

/-- The three arrays. -/
def xArr (A : Args) : S10240x1024.Idx → EReal := fun y => tok A (y 0) (y 1)
def hArr (A : Args) : S10240x1024.Idx → EReal := fun y => row A (y 0) (y 1)
def lArr (A : Args) : S16x10240.Idx → EReal := fun y => logit A (y 0) (y 1)

/-- The output blocks of every point are the blocks of those arrays. -/
theorem tok_at (r : Fin 256) (k : Fin 1024) : (k0_pay5 (iblk m c 0 t) (iblk m c 2 t) (iblk m c 1 t) (iblk m c 3 t) (iblk m c 6 t) (iblk m c 4 t)) (ix2 r k) = tok (args m c) (at' t r) k := by
  refine (tok_point (iblk m c 0 t) (iblk m c 1 t) (iblk m c 2 t) (iblk m c 3 t) (iblk m c 4 t) (iblk m c 6 t) r k).trans (congrArg₂ (fun a b : EReal => a + b) (in_x m c t r k)
    (congrArg₂ (fun a b : EReal => a * b) (in_mod m c t r 2 k) ?_))
  unfold proj
  rw [← sum_halves]
  exact congrArg₂ (fun a b : EReal => a + b) (Finset.sum_congr rfl fun j _ => congrArg₂ (fun a b : EReal => a * b) (in0 m c t r j) (in2 m c t j k))
    (Finset.sum_congr rfl fun j _ => congrArg₂ (fun a b : EReal => a * b) (in1 m c t r j) (in3 m c t j k))

theorem row_at (r : Fin 256) (k : Fin 1024) : (k0_pay1 (k0_pay4 (iblk m c 6 t)) (k0_pay6 (iblk m c 0 t) (iblk m c 2 t) (iblk m c 1 t) (iblk m c 3 t) (iblk m c 6 t) (iblk m c 4 t) (iblk m c 5 t)) (k0_pay7 (iblk m c 6 t))) (ix2 r k) = row (args m c) (at' t r) k := by
  refine (row_point (iblk m c 0 t) (iblk m c 1 t) (iblk m c 2 t) (iblk m c 3 t) (iblk m c 4 t) (iblk m c 5 t) (iblk m c 6 t) r k).trans ?_
  simp only [tok_at, in_gain, in_mod m c t r]
  rfl

theorem x_at (r : Fin 256) (k : Fin 1024) : out0_8 (iblk m c 0 t) (iblk m c 1 t) (iblk m c 2 t) (iblk m c 3 t) (iblk m c 4 t) (iblk m c 5 t) (iblk m c 6 t) (iblk m c 7 t) (ix2 r k) = tok (args m c) (at' t r) k := by
  rw [out_x_eq]
  exact tok_at m c t r k

theorem h_at (r : Fin 256) (k : Fin 1024) : out0_9 (iblk m c 0 t) (iblk m c 1 t) (iblk m c 2 t) (iblk m c 3 t) (iblk m c 4 t) (iblk m c 5 t) (iblk m c 6 t) (iblk m c 7 t) (ix2 r k) = row (args m c) (at' t r) k := by
  rw [out_h_eq]
  exact (rowbf_point (iblk m c 0 t) (iblk m c 1 t) (iblk m c 2 t) (iblk m c 3 t) (iblk m c 4 t) (iblk m c 5 t) (iblk m c 6 t) r k).trans (row_at m c t r k)

theorem l_at (e : Fin 16) (r : Fin 256) : out0_10 (iblk m c 0 t) (iblk m c 1 t) (iblk m c 2 t) (iblk m c 3 t) (iblk m c 4 t) (iblk m c 5 t) (iblk m c 6 t) (iblk m c 7 t) (ix2 e r) = logit (args m c) e (at' t r) := by
  rw [out_l_eq]
  refine (logit_point (iblk m c 0 t) (iblk m c 1 t) (iblk m c 2 t) (iblk m c 3 t) (iblk m c 4 t) (iblk m c 5 t) (iblk m c 6 t) (iblk m c 7 t) e r).trans ?_
  unfold logit
  refine Finset.sum_congr rfl fun k _ => ?_
  rw [row_at, in_router, mul_comm]

theorem emb_x (r : Fin 256) (j : Fin 1024) : (win0_8.blk t).view.emb (ix2 r j) = (ix2 (at' t r) j : S10240x1024.Idx) := by
  funext a
  fin_cases a <;> apply Fin.ext <;> blk_simp [index8] <;> simp [ix2, at'] <;> omega
theorem emb_h (r : Fin 256) (j : Fin 1024) : (win0_9.blk t).view.emb (ix2 r j) = (ix2 (at' t r) j : S10240x1024.Idx) := by
  funext a
  fin_cases a <;> apply Fin.ext <;> blk_simp [index9] <;> simp [ix2, at'] <;> omega
theorem emb_l (e : Fin 16) (r : Fin 256) : (win0_10.blk t).view.emb (ix2 e r) = (ix2 e (at' t r) : S16x10240.Idx) := by
  funext a
  fin_cases a <;> apply Fin.ext <;> blk_simp [index10] <;> simp [ix2, at'] <;> omega

theorem final_x : (dats m 0 c).arrAt 8 cfg0.N = xArr (args m c) := by
  refine (dats m 0 c).arrAt_eq_of_covers 8 _ (by decide +kernel) fun t hf y => ?_
  obtain ⟨r, l, rfl⟩ : ∃ (r : Fin 256) (l : Fin 1024), y = ix2 r l := ⟨y 0, y 1, by funext a; fin_cases a <;> rfl⟩
  blk_simp
  rw [after0_8]
  exact (x_at m c t r l).trans (congrArg (xArr (args m c)) (emb_x t r l)).symm

theorem final_h : (dats m 0 c).arrAt 9 cfg0.N = hArr (args m c) := by
  refine (dats m 0 c).arrAt_eq_of_covers 9 _ (by decide +kernel) fun t hf y => ?_
  obtain ⟨r, l, rfl⟩ : ∃ (r : Fin 256) (l : Fin 1024), y = ix2 r l := ⟨y 0, y 1, by funext a; fin_cases a <;> rfl⟩
  blk_simp
  rw [after0_9]
  exact (h_at m c t r l).trans (congrArg (hArr (args m c)) (emb_h t r l)).symm

theorem final_l : (dats m 0 c).arrAt 10 cfg0.N = lArr (args m c) := by
  refine (dats m 0 c).arrAt_eq_of_covers 10 _ (by decide +kernel) fun t hf y => ?_
  obtain ⟨e, r, rfl⟩ : ∃ (e : Fin 16) (r : Fin 256), y = ix2 e r := ⟨y 0, y 1, by funext a; fin_cases a <;> rfl⟩
  blk_simp
  rw [after0_10]
  exact (l_at m c t e r).trans (congrArg (lArr (args m c)) (emb_l t e r)).symm

variable (ρ : Dev nD → PrngReg)

/-- The run, with the arrays it leaves. -/
theorem run_out : θ_run defs (onTc (τ := τ) (main (F := Ideal))) ⟨m, fun _ => 0, ρ⟩ fun r => ∀ c : Dev nD,
    r.2.mem ((c : Thread nD τ).loc main_v10_0) = xArr (args m c)
      ∧ r.2.mem ((c : Thread nD τ).loc main_v10_1) = hArr (args m c)
      ∧ r.2.mem ((c : Thread nD τ).loc main_v10_2) = lArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_x m c), (h c).2.1.trans (final_h m c), (h c).2.2.1.trans (final_l m c), (h c).2.2.2⟩)
    (Value.run_blocks m ρ)

end Cert.Kernel6Ideal.OutProj

end
-- ==== Proof.OutProj.RefValue.lean ====
/- The reference's results are the tokens, the rows the experts take and the logits of the first layer's output projection. -/
module

public import proofs.«01_k».proof.Proof.Gen.Reference6Ideal.Read
public import proofs.«01_k».proof.Proof.OutProj.Spec
public import Idealize.ShloMosaic.Lib.Pipeline.ValueKit

@[expose] public section

set_option maxRecDepth 16384

noncomputable section

namespace Cert.Reference6Ideal.OutProj

open Cert.InProj (normRow)
open Cert.OutProj Cert.Reference6Ideal Cert.Reference6Ideal.Gen Cert.Reference6Ideal.Read Idealize.ShloMosaic Idealize.SL.Sem

variable (x0 x1 : FVec Ideal S10240x512 .bf16) (x2 : FVec Ideal S1x1024x1024 .f32) (x3 : FVec Ideal S10240x1024 .f32)
  (x4 : FVec Ideal S2x2x1024 .f32) (x5 : FVec Ideal S2x8x6x1024 .f32) (x6 : FVec Ideal S1024x16 .f32)

def argsOf : Args where
  act t j := if h : j.val < 512 then x0 (ix2 t ⟨j.val, h⟩) else x1 (ix2 t ⟨j.val - 512, by omega⟩)
  w j k := x2 (ix3 0 j k)
  x t k := x3 (ix2 t k)
  gate a k := x5 (ix4 0 a 2 k)
  gain k := x4 (ix3 0 1 k)
  scale a k := x5 (ix4 0 a 4 k)
  shift a k := x5 (ix4 0 a 3 k)
  router k e := x6 (ix2 k e)

theorem join_act (t : Fin 10240) (j : Fin 1024) : val_main_v2 (F := Ideal) x0 x1 (ix2 t j)
    = (if h : j.val < 512 then x0 (ix2 t ⟨j.val, h⟩) else x1 (ix2 t ⟨j.val - 512, by omega⟩) : EReal) := by
  unfold val_main_v2 val_main_v0 val_main_v1
  pointwise

theorem proj_apply (t : Fin 10240) (k : Fin 1024) : val_main_v4 (F := Ideal) x0 x1 x2 (ix2 t k) = proj (argsOf x0 x1 x2 x3 x4 x5 x6) t k := by
  have hj : ∀ j, (argsOf x0 x1 x2 x3 x4 x5 x6).act t j = val_main_v2 (F := Ideal) x0 x1 (ix2 t j) := fun j => (join_act x0 x1 t j).symm
  unfold proj
  rw [funext hj]
  unfold val_main_v4
  generalize val_main_v2 (F := Ideal) x0 x1 = q
  pointwise [val_main_v3]
  rfl

/-- The tokens of the prompt and those of the two other sequences. -/
theorem tokP_apply (t : Fin 8192) (k : Fin 1024) : val_main_v22 (F := Ideal) x0 x1 x2 x3 x5 (ix2 t k)
    = (x3 (ix2 ⟨t.val, by omega⟩ k) + x5 (ix4 0 0 2 k) * val_main_v4 (F := Ideal) x0 x1 x2 (ix2 ⟨t.val, by omega⟩ k) : EReal) := by
  unfold val_main_v22 val_main_v21 val_main_v18
  generalize val_main_v4 (F := Ideal) x0 x1 x2 = q
  pointwise [val_main_v20, val_main_v19, val_main_v17, val_main_v16, val_main_v15, val_main_v10, val_main_v9, val_main_v6, val_main_v5]

theorem tokL_apply (b : Fin 2) (s : Fin 1024) (k : Fin 1024) : val_main_v31 (F := Ideal) x0 x1 x2 x3 x5 (ix3 b s k)
    = (x3 (ix2 ⟨8192 + (b.val * 1024 + s.val), by omega⟩ k) + x5 (ix4 0 ⟨1 + b.val, by omega⟩ 2 k)
        * val_main_v4 (F := Ideal) x0 x1 x2 (ix2 ⟨8192 + (b.val * 1024 + s.val), by omega⟩ k) : EReal) := by
  unfold val_main_v31 val_main_v30 val_main_v28 val_main_v27
  generalize val_main_v4 (F := Ideal) x0 x1 x2 = q
  pointwise [val_main_v29, val_main_v26, val_main_v25, val_main_v24, val_main_v23, val_main_v10, val_main_v9, val_main_v6, val_main_v5]

/-- The normed rows. -/
theorem normP_apply (t : Fin 8192) (k : Fin 1024) : val_main_v56 (F := Ideal) x0 x1 x2 x3 x4 x5 (ix2 t k)
    = normRow (fun k => val_main_v22 (F := Ideal) x0 x1 x2 x3 x5 (ix2 t k)) (fun k => x4 (ix3 0 1 k))
      (fun k => x5 (ix4 0 0 4 k)) (fun k => x5 (ix4 0 0 3 k)) k := by
  unfold normRow val_main_v56 val_main_v51 val_main_v44 val_main_v41 val_main_v40 val_main_v39 val_main_v38 val_main_v36 val_main_v34 val_main_v33 val_main_v32
  generalize val_main_v22 (F := Ideal) x0 x1 x2 x3 x5 = q
  pointwise [val_main_v55, val_main_v54, val_main_v53, val_main_v52, val_main_v50, val_main_v49, val_main_v48, val_main_v47, val_main_v46, val_main_v45, val_main_v43, val_main_v42, val_main_v37, val_main_v35, val_main_v14, val_main_v13, val_main_v12, val_main_v11, val_main_v8, val_main_v7, val_main_v6, val_main_v5, val_main_cst, val_main_cst_0, val_main_cst_1, val_main_cst_2]

theorem normL_apply (b : Fin 2) (s : Fin 1024) (k : Fin 1024) : val_main_v79 (F := Ideal) x0 x1 x2 x3 x4 x5 (ix3 b s k)
    = normRow (fun k => val_main_v31 (F := Ideal) x0 x1 x2 x3 x5 (ix3 b s k)) (fun k => x4 (ix3 0 1 k))
      (fun k => x5 (ix4 0 ⟨1 + b.val, by omega⟩ 4 k)) (fun k => x5 (ix4 0 ⟨1 + b.val, by omega⟩ 3 k)) k := by
  unfold normRow val_main_v79 val_main_v75 val_main_v69 val_main_v66 val_main_v65 val_main_v64 val_main_v63 val_main_v61 val_main_v59 val_main_v58 val_main_v57
  generalize val_main_v31 (F := Ideal) x0 x1 x2 x3 x5 = q
  pointwise [val_main_v78, val_main_v77, val_main_v76, val_main_v74, val_main_v73, val_main_v72, val_main_v71, val_main_v70, val_main_v68, val_main_v67, val_main_v62, val_main_v60, val_main_v14, val_main_v13, val_main_v12, val_main_v11, val_main_v8, val_main_v7, val_main_v6, val_main_v5, val_main_cst_3, val_main_cst_4, val_main_cst_5, val_main_cst_6]

/-- The joined tokens and the joined normed rows. -/
theorem join_apply (p : Vec Ideal S8192x1024 .f32) (q : Vec Ideal S2x1024x1024 .f32) (t : Fin 10240) (k : Fin 1024) :
    concatenate S10240x1024 0 [⟨S8192x1024, p⟩, ⟨S2048x1024, shapeCast S2048x1024 q shapeCasts_S2x1024x1024_S2048x1024⟩]
        concatenates_S8192x1024_S2048x1024_S10240x1024_d0 (ix2 t k)
      = (if h : t.val < 8192 then p (ix2 ⟨t.val, h⟩ k)
          else q (ix3 ⟨(t.val - 8192) / 1024, by omega⟩ ⟨(t.val - 8192) % 1024, by omega⟩ k) : EReal) := by
  pointwise

theorem tok_apply (t : Fin 10240) (k : Fin 1024) :
    val_main_v83 (F := Ideal) x0 x1 x2 x3 x5 (ix2 t k) = tok (argsOf x0 x1 x2 x3 x4 x5 x6) t k := by
  unfold val_main_v83 val_main_v82
  rw [join_apply]
  unfold tok
  rw [← proj_apply]
  unfold argsOf Cert.Moe.cond
  by_cases h : t.val < 8192
  · rw [dif_pos h, tokP_apply]
    simp only [if_pos h]
  · rw [dif_neg h, tokL_apply]
    have e : (⟨8192 + ((t.val - 8192) / 1024 * 1024 + (t.val - 8192) % 1024), by omega⟩ : Fin 10240) = t := Fin.ext (by dsimp only; omega)
    simp only [if_neg h, e]

theorem row_apply (t : Fin 10240) (k : Fin 1024) :
    val_main_v81 (F := Ideal) x0 x1 x2 x3 x4 x5 (ix2 t k) = row (argsOf x0 x1 x2 x3 x4 x5 x6) t k := by
  have ht : tok (argsOf x0 x1 x2 x3 x4 x5 x6) t = fun k => val_main_v83 (F := Ideal) x0 x1 x2 x3 x5 (ix2 t k) :=
    funext fun k => (tok_apply x0 x1 x2 x3 x4 x5 x6 t k).symm
  unfold row
  rw [ht]
  unfold val_main_v81 val_main_v80
  rw [join_apply]
  by_cases h : t.val < 8192
  · have e : (fun k => val_main_v83 (F := Ideal) x0 x1 x2 x3 x5 (ix2 t k)) = fun k => val_main_v22 (F := Ideal) x0 x1 x2 x3 x5 (ix2 ⟨t.val, h⟩ k) := by
      funext k
      unfold val_main_v83 val_main_v82
      rw [join_apply, dif_pos h]
    rw [dif_pos h, normP_apply, e]
    unfold argsOf Cert.Moe.cond
    simp only [if_pos h]
  · have e : (fun k => val_main_v83 (F := Ideal) x0 x1 x2 x3 x5 (ix2 t k)) = fun k => val_main_v31 (F := Ideal) x0 x1 x2 x3 x5
        (ix3 ⟨(t.val - 8192) / 1024, by omega⟩ ⟨(t.val - 8192) % 1024, by omega⟩ k) := by
      funext k
      unfold val_main_v83 val_main_v82
      rw [join_apply, dif_neg h]
    rw [dif_neg h, normL_apply, e]
    unfold argsOf Cert.Moe.cond
    simp only [if_neg h]

theorem rowbf_apply (t : Fin 10240) (k : Fin 1024) :
    val_main_v84 (F := Ideal) x0 x1 x2 x3 x4 x5 (ix2 t k) = row (argsOf x0 x1 x2 x3 x4 x5 x6) t k := by
  rw [← row_apply]
  unfold val_main_v84
  generalize val_main_v81 (F := Ideal) x0 x1 x2 x3 x4 x5 = q
  pointwise

theorem logit_apply (e : Fin 16) (t : Fin 10240) :
    val_main_v86 (F := Ideal) x0 x1 x2 x3 x4 x5 x6 (ix2 e t) = logit (argsOf x0 x1 x2 x3 x4 x5 x6) e t := by
  have hr : ∀ k, row (argsOf x0 x1 x2 x3 x4 x5 x6) t k = val_main_v81 (F := Ideal) x0 x1 x2 x3 x4 x5 (ix2 t k) := fun k => (row_apply x0 x1 x2 x3 x4 x5 x6 t k).symm
  unfold logit
  rw [funext hr]
  unfold val_main_v86 val_main_v85
  generalize val_main_v81 (F := Ideal) x0 x1 x2 x3 x4 x5 = q
  pointwise
  rfl

end Cert.Reference6Ideal.OutProj

end
-- ==== Proof.OutProj.Claims.lean ====
/- The frame of the reference of the first layer's output projection, and the equality of the three results. -/
module

public import proofs.«01_k».proof.Defs
public import proofs.«01_k».proof.Proof.Gen.Reference6Ideal.Run
public import proofs.«01_k».proof.Proof.OutProj.Arrays
public import proofs.«01_k».proof.Proof.OutProj.RefValue
public import Idealize.ShloMosaic.Adequacy
public import Idealize.ShloMosaic.Init

@[expose] public section

set_option maxRecDepth 16384

noncomputable section

namespace Cert.Proof.OutProj

open Cert.OutProj Idealize.ShloMosaic Idealize.ShloMosaic.StableHlo Idealize.SL.Sem

theorem frame_reference : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

section

variable (x0 x1 : FVec Ideal Cert.Reference6Ideal.S10240x512 .bf16) (x2 : FVec Ideal Cert.Reference6Ideal.S1x1024x1024 .f32) (x3 : FVec Ideal Cert.Reference6Ideal.S10240x1024 .f32)
  (x4 : FVec Ideal Cert.Reference6Ideal.S2x2x1024 .f32) (x5 : FVec Ideal Cert.Reference6Ideal.S2x8x6x1024 .f32) (x6 : FVec Ideal Cert.Reference6Ideal.S1024x16 .f32)

/-- The three results of the reference, as arrays. -/
theorem x_arr : Cert.Reference6Ideal.Read.val_main_v83 (F := Ideal) x0 x1 x2 x3 x5 = Cert.Kernel6Ideal.OutProj.xArr (Cert.Reference6Ideal.OutProj.argsOf x0 x1 x2 x3 x4 x5 x6) := by
  funext y
  rw [eq_ix2 y]
  exact Cert.Reference6Ideal.OutProj.tok_apply x0 x1 x2 x3 x4 x5 x6 (y 0) (y 1)
theorem h_arr : Cert.Reference6Ideal.Read.val_main_v84 (F := Ideal) x0 x1 x2 x3 x4 x5 = Cert.Kernel6Ideal.OutProj.hArr (Cert.Reference6Ideal.OutProj.argsOf x0 x1 x2 x3 x4 x5 x6) := by
  funext y
  rw [eq_ix2 y]
  exact Cert.Reference6Ideal.OutProj.rowbf_apply x0 x1 x2 x3 x4 x5 x6 (y 0) (y 1)
theorem l_arr : Cert.Reference6Ideal.Read.val_main_v86 (F := Ideal) x0 x1 x2 x3 x4 x5 x6 = Cert.Kernel6Ideal.OutProj.lArr (Cert.Reference6Ideal.OutProj.argsOf x0 x1 x2 x3 x4 x5 x6) := by
  funext y
  rw [eq_ix2 y]
  exact Cert.Reference6Ideal.OutProj.logit_apply x0 x1 x2 x3 x4 x5 x6 (y 0) (y 1)

end

/-- The values of the run of the kernel and of the run of the reference agree. -/
theorem values : Cert.algebraic_Kernel6Ideal_Reference6Ideal := fun m ρ m' ρ' _ hag =>
  ⟨fun c => Cert.Kernel6Ideal.OutProj.xArr (Cert.Kernel6Ideal.OutProj.args m c),
    fun c => Cert.Kernel6Ideal.OutProj.hArr (Cert.Kernel6Ideal.OutProj.args m c),
    fun c => Cert.Kernel6Ideal.OutProj.lArr (Cert.Kernel6Ideal.OutProj.args m c),
    Cert.Kernel6Ideal.OutProj.run_out m ρ,
    (θ_run Cert.Reference6Ideal.defs _ _).mono (fun _ h c => by
        obtain ⟨a0, a1, a2, a3, a4, a5, a6⟩ := hag c
        refine ⟨(h c).1.trans ((Cert.Reference6Ideal.Read.val_main_v83_eq _ _ _ _ _ ).trans
            ((x_arr (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4)) (m' ((c.tc : Thread _ _).loc Cert.Reference6Ideal.main_arg5)) (m' ((c.tc : Thread _ _).loc Cert.Reference6Ideal.main_arg6))).trans ?_)),
          (h c).2.1.trans ((Cert.Reference6Ideal.Read.val_main_v84_eq m' c).trans
            ((h_arr (m' ((c.tc : Thread _ _).loc Cert.Reference6Ideal.main_arg0)) (m' ((c.tc : Thread _ _).loc Cert.Reference6Ideal.main_arg1)) (m' ((c.tc : Thread _ _).loc Cert.Reference6Ideal.main_arg2)) (m' ((c.tc : Thread _ _).loc Cert.Reference6Ideal.main_arg3)) (m' ((c.tc : Thread _ _).loc Cert.Reference6Ideal.main_arg4)) (m' ((c.tc : Thread _ _).loc Cert.Reference6Ideal.main_arg5)) (m' ((c.tc : Thread _ _).loc Cert.Reference6Ideal.main_arg6))).trans ?_)),
          (h c).2.2.1.trans ((Cert.Reference6Ideal.Read.val_main_v86_eq m' c).trans ((l_arr _ _ _ _ _ _ _ ).trans ?_)), (h c).2.2.2⟩
        · rw [a0, a1, a2, a3, a4, a5, a6]
          rfl
        · rw [a0, a1, a2, a3, a4, a5, a6]
          rfl
        · rw [a0, a1, a2, a3, a4, a5, a6]
          rfl)
      (Cert.Reference6Ideal.Value.run (F := Ideal) m' ρ')⟩

end Cert.Proof.OutProj

end
-- ==== Proof.OutProj1.Point.lean ====
/- What one point of the second layer's output projection leaves in its three output blocks, read at an index. -/
module

public import proofs.«01_k».proof.Proof.Gen.Kernel7Ideal.Frame
public import proofs.«01_k».proof.Proof.OutProj.Spec
public import Idealize.ShloMosaic.Lib.Pipeline.ValueKit

@[expose] public section

set_option maxRecDepth 16384

noncomputable section

namespace Cert.Kernel7Ideal.OutProj1

open Cert.InProj (normRow)
open Cert.OutProj Cert.Kernel7Ideal Cert.Kernel7Ideal.Gen Idealize.ShloMosaic Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

variable (x0 : Vec Ideal S256x1024 .bf16) (x1 : Vec Ideal S1024x1024 .bf16) (x2 : Vec Ideal S256x1024 .f32) (x3 : Vec Ideal S1x1024 .f32) (x4 : Vec Ideal S1x6x1024 .f32) (x5 : Vec Ideal S16x1024 .f32)

theorem out_x_eq : out0_6 x0 x1 x2 x3 x4 x5 = k0_pay3 x0 x1 x4 x2 := by
  unfold out0_6
  rw [View.canon_unit_zero (S := S256x1024) zero2]
  simp only [View.ld_unit_zero (S := S256x1024) zero2, View.ld_unit_zero (S := S1024x1024) zero2, View.ld_unit_zero (S := S1x1024) zero2, View.ld_unit_zero (S := S1x6x1024) zero3, View.ld_unit_zero (S := S16x1024) zero2]

theorem out_h_eq : out0_7 x0 x1 x2 x3 x4 x5 = k0_pay5 x0 x1 x4 x2 x3 := by
  unfold out0_7
  rw [View.canon_unit_zero (S := S256x1024) zero2]
  simp only [View.ld_unit_zero (S := S256x1024) zero2, View.ld_unit_zero (S := S1024x1024) zero2, View.ld_unit_zero (S := S1x1024) zero2, View.ld_unit_zero (S := S1x6x1024) zero3, View.ld_unit_zero (S := S16x1024) zero2]

theorem out_l_eq : out0_8 x0 x1 x2 x3 x4 x5 = k0_pay1 (k0_pay4 x0 x1 x4 x2 x3) x5 := by
  unfold out0_8
  rw [View.canon_unit_zero (S := S16x256) zero2]
  simp only [View.ld_unit_zero (S := S256x1024) zero2, View.ld_unit_zero (S := S1024x1024) zero2, View.ld_unit_zero (S := S1x1024) zero2, View.ld_unit_zero (S := S1x6x1024) zero3, View.ld_unit_zero (S := S16x1024) zero2]

/-- The token of a row, with its product. -/
theorem tok_point (r : Fin 256) (k : Fin 1024) : k0_pay3 x0 x1 x4 x2 (ix2 r k)
    = (x2 (ix2 r k) + x4 (ix3 0 2 k) * (∑ j : Fin 1024, x0 (ix2 r j) * x1 (ix2 j k)) : EReal) := by
  pointwise [k0_pay3, k0_pay2]

/-- The normed row. -/
theorem row_point (r : Fin 256) (k : Fin 1024) : k0_pay4 x0 x1 x4 x2 x3 (ix2 r k)
    = normRow (fun k => k0_pay3 x0 x1 x4 x2 (ix2 r k)) (fun k => x3 (ix2 0 k)) (fun k => x4 (ix3 0 4 k)) (fun k => x4 (ix3 0 3 k)) k := by
  unfold normRow k0_pay4
  generalize k0_pay3 x0 x1 x4 x2 = q
  pointwise [k0_pay2]

theorem rowbf_point (r : Fin 256) (k : Fin 1024) : k0_pay5 x0 x1 x4 x2 x3 (ix2 r k) = (k0_pay4 x0 x1 x4 x2 x3 (ix2 r k) : EReal) := by
  unfold k0_pay5
  generalize k0_pay4 x0 x1 x4 x2 x3 = q
  pointwise

/-- The logits. -/
theorem logit_point (e : Fin 16) (r : Fin 256) : k0_pay1 (k0_pay4 x0 x1 x4 x2 x3) x5 (ix2 e r)
    = (∑ k : Fin 1024, x5 (ix2 e k) * k0_pay4 x0 x1 x4 x2 x3 (ix2 r k) : EReal) := by
  unfold k0_pay1
  generalize k0_pay4 x0 x1 x4 x2 x3 = q
  pointwise

end Cert.Kernel7Ideal.OutProj1

end
-- ==== Proof.OutProj1.Arrays.lean ====
/- The blocks of the grid's points, and the arrays the launch of the second layer's output projection leaves. -/
module

public import proofs.«01_k».proof.Proof.Gen.Kernel7Ideal.Value
public import proofs.«01_k».proof.Proof.OutProj1.Point

@[expose] public section

set_option maxRecDepth 16384

noncomputable section

namespace Cert.Kernel7Ideal.OutProj1

open Cert.Moe (cond cond_val)
open Cert.InProj (normRow)
open Cert.OutProj Cert.Kernel7Ideal Cert.Kernel7Ideal.Gen Idealize.ShloMosaic Idealize.ShloMosaic.TcCoe Idealize.ShloMosaic.Tactic Idealize.SL.Sem

variable (m : (ℓ : Loc nD τ sig) → Buf (Elt Ideal) ℓ) (c : Dev nD)

/-- The arguments as launched. -/
def args : Args where
  act t j := m ((c : Thread nD τ).loc main_arg0) (ix2 t j)
  w j k := m ((c : Thread nD τ).loc main_arg1) (ix3 0 j k)
  x t k := m ((c : Thread nD τ).loc main_arg2) (ix2 t k)
  gate a k := m ((c : Thread nD τ).loc main_arg4) (ix4 1 a 2 k)
  gain k := m ((c : Thread nD τ).loc main_arg3) (ix3 1 1 k)
  scale a k := m ((c : Thread nD τ).loc main_arg4) (ix4 1 a 4 k)
  shift a k := m ((c : Thread nD τ).loc main_arg4) (ix4 1 a 3 k)
  router k e := m ((c : Thread nD τ).loc main_arg5) (ix2 k e)

/-- Row `r` of a point's block of tokens. -/
def at' (t : Fin cfg0.N) (r : Fin 256) : Fin 10240 := ⟨256 * t.val + r.val, by have : t.val < 40 := t.isLt; omega⟩

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0] :=
  (by decide +kernel : ∀ t : Fin grid0.N, win0_3.index t = ![0, 0])
theorem index4 : ∀ t : Fin cfg0.N, win0_4.index t = ![if t.val < 32 then 0 else 1 + (t.val - 32) / 4, 0, 0] :=
  (by decide +kernel : ∀ t : Fin grid0.N, win0_4.index t = ![if t.val < 32 then 0 else 1 + (t.val - 32) / 4, 0, 0])
theorem index5 : ∀ t : Fin cfg0.N, win0_5.index t = ![0, 0] :=
  (by decide +kernel : ∀ t : Fin grid0.N, win0_5.index t = ![0, 0])
theorem index6 : ∀ t : Fin cfg0.N, win0_6.index t = ![t.val, 0] :=
  (by decide +kernel : ∀ t : Fin grid0.N, win0_6.index t = ![t.val, 0])
theorem index7 : ∀ t : Fin cfg0.N, win0_7.index t = ![t.val, 0] :=
  (by decide +kernel : ∀ t : Fin grid0.N, win0_7.index t = ![t.val, 0])
theorem index8 : ∀ t : Fin cfg0.N, win0_8.index t = ![0, t.val] :=
  (by decide +kernel : ∀ t : Fin grid0.N, win0_8.index t = ![0, t.val])

/-- What the host operations leave for the launch. -/
theorem gain_V (k : Fin 1024) : V m c main_v7 (ix2 0 k) = (args m c).gain k := by
  have e : V m c main_v7 = shapeCast S1x1024 (shapeCast S1024 (extractStridedSlice S1x1x1024 ![1, 1, 0] (m ((c : Thread nD τ).loc main_arg3))
      slices_S2x2x1024_S1x1x1024_1_1_0) shapeCasts_S1x1x1024_S1024) shapeCasts_S1024_S1x1024 := by
    unfold_abbrev_sides
    after_results
    rfl
  rw [e]
  pointwise
  rfl

theorem mods_V (a : Fin 8) (b : Fin 6) (k : Fin 1024) : V m c main_v5 (ix3 a b k) = m ((c : Thread nD τ).loc main_arg4) (ix4 1 a b k) := by
  have e : V m c main_v5 = shapeCast S8x6x1024 (extractStridedSlice S1x8x6x1024 ![1, 0, 0, 0] (m ((c : Thread nD τ).loc main_arg4))
      slices_S2x8x6x1024_S1x8x6x1024_1_0_0_0) shapeCasts_S1x8x6x1024_S8x6x1024 := by
    unfold_abbrev_sides
    after_results
    rfl
  rw [e]
  pointwise

theorem flip_apply (w : Vec Ideal S1024x16 .f32) (e : Fin 16) (k : Fin 1024) :
    transpose S16x1024 [1, 0] w transposes_S1024x16_S16x1024_1_0 (ix2 e k) = (w (ix2 k e) : EReal) := by
  pointwise

theorem router_V (e : Fin 16) (k : Fin 1024) : V m c main_v6 (ix2 e k) = (args m c).router k e := by
  have e' : V m c main_v6 = transpose S16x1024 [1, 0] (m ((c : Thread nD τ).loc main_arg5)) transposes_S1024x16_S16x1024_1_0 := by
    unfold_abbrev_sides
    after_results
  rw [e']
  exact flip_apply _ e k

theorem cast_apply (w : Vec Ideal S1x1024x1024 .f32) (j k : Fin 1024) :
    truncf .bf16 (shapeCast S1024x1024 w shapeCasts_S1x1024x1024_S1024x1024 : FVec Ideal S1024x1024 .f32) bitsLt_bf16_f32 (ix2 j k) = (w (ix3 0 j k) : EReal) := by
  pointwise

theorem w_V (j k : Fin 1024) : V m c main_v1 (ix2 j k) = (args m c).w j k := by
  have e : V m c main_v1 = truncf .bf16 (shapeCast S1024x1024 (m ((c : Thread nD τ).loc main_arg1)) shapeCasts_S1x1024x1024_S1024x1024 : FVec Ideal S1024x1024 .f32) bitsLt_bf16_f32 := by
    unfold_abbrev_sides
    after_results
    rfl
  rw [e]
  exact cast_apply _ j k

variable (t : Fin cfg0.N)

theorem in0 (r : Fin 256) (j : Fin 1024) : iblk m c 0 t (ix2 r j) = (args m c).act (at' t r) j := by
  show _ = m ((c : Thread nD τ).loc main_arg0) (ix2 (at' t r) j)
  blk_simp [iblk]
  rw [V_main_arg0]
  refine congrArg _ ?_
  funext a
  fin_cases a <;> apply Fin.ext <;> blk_simp [index0] <;> simp [ix2, at'] <;> omega

theorem in1 (j k : Fin 1024) : iblk m c 1 t (ix2 j k) = (args m c).w j k := by
  rw [← w_V m c]
  blk_simp [iblk]
  refine congrArg _ ?_
  funext a
  fin_cases a <;> apply Fin.ext <;> blk_simp [index1] <;> simp [ix2]

theorem in_x (r : Fin 256) (k : Fin 1024) : iblk m c 2 t (ix2 r k) = (args m c).x (at' t r) k := by
  show _ = m ((c : Thread nD τ).loc main_arg2) (ix2 (at' t r) k)
  blk_simp [iblk]
  rw [V_main_arg2]
  refine congrArg _ ?_
  funext a
  fin_cases a <;> apply Fin.ext <;> blk_simp [index2] <;> simp [ix2, at'] <;> omega

theorem in_gain (k : Fin 1024) : iblk m c 3 t (ix2 0 k) = (args m c).gain k := by
  rw [← gain_V m c]
  blk_simp [iblk]
  refine congrArg _ ?_
  funext a
  fin_cases a <;> apply Fin.ext <;> blk_simp [index3] <;> simp [ix2]

theorem cond_at (r : Fin 256) : (cond (at' t r)).val = if t.val < 32 then 0 else 1 + (t.val - 32) / 4 := by
  have ht : t.val < 40 := t.isLt
  have hr := r.isLt
  rw [cond_val]
  show (if 256 * t.val + r.val < 8192 then 0 else 1 + (256 * t.val + r.val - 8192) / 1024) = _
  split <;> split <;> omega

theorem in_mod (r : Fin 256) (b : Fin 6) (k : Fin 1024) :
    iblk m c 4 t (ix3 0 b k) = m ((c : Thread nD τ).loc main_arg4) (ix4 1 (cond (at' t r)) b k) := by
  rw [← mods_V m c]
  blk_simp [iblk]
  refine congrArg _ ?_
  funext a
  fin_cases a <;> apply Fin.ext <;> blk_simp [index4] <;> simp [ix3]
  exact (cond_at t r).symm

theorem in_router (e : Fin 16) (k : Fin 1024) : iblk m c 5 t (ix2 e k) = (args m c).router k e := by
  rw [← router_V m c]
  blk_simp [iblk]
  refine congrArg _ ?_
  funext a
  fin_cases a <;> apply Fin.ext <;> blk_simp [index5] <;> simp [ix2]

/-- The three arrays. -/
def xArr (A : Args) : S10240x1024.Idx → EReal := fun y => tok A (y 0) (y 1)
def hArr (A : Args) : S10240x1024.Idx → EReal := fun y => row A (y 0) (y 1)
def lArr (A : Args) : S16x10240.Idx → EReal := fun y => logit A (y 0) (y 1)

/-- The output blocks of every point are the blocks of those arrays. -/
theorem tok_at (r : Fin 256) (k : Fin 1024) : (k0_pay3 (iblk m c 0 t) (iblk m c 1 t) (iblk m c 4 t) (iblk m c 2 t)) (ix2 r k) = tok (args m c) (at' t r) k := by
  refine (tok_point (iblk m c 0 t) (iblk m c 1 t) (iblk m c 2 t) (iblk m c 4 t) r k).trans (congrArg₂ (fun a b : EReal => a + b) (in_x m c t r k)
    (congrArg₂ (fun a b : EReal => a * b) (in_mod m c t r 2 k) ?_))
  exact Finset.sum_congr rfl fun j _ => congrArg₂ (fun a b : EReal => a * b) (in0 m c t r j) (in1 m c t j k)

theorem row_at (r : Fin 256) (k : Fin 1024) : (k0_pay4 (iblk m c 0 t) (iblk m c 1 t) (iblk m c 4 t) (iblk m c 2 t) (iblk m c 3 t)) (ix2 r k) = row (args m c) (at' t r) k := by
  refine (row_point (iblk m c 0 t) (iblk m c 1 t) (iblk m c 2 t) (iblk m c 3 t) (iblk m c 4 t) r k).trans ?_
  simp only [tok_at, in_gain, in_mod m c t r]
  rfl

theorem x_at (r : Fin 256) (k : Fin 1024) : out0_6 (iblk m c 0 t) (iblk m c 1 t) (iblk m c 2 t) (iblk m c 3 t) (iblk m c 4 t) (iblk m c 5 t) (ix2 r k) = tok (args m c) (at' t r) k := by
  rw [out_x_eq]
  exact tok_at m c t r k

theorem h_at (r : Fin 256) (k : Fin 1024) : out0_7 (iblk m c 0 t) (iblk m c 1 t) (iblk m c 2 t) (iblk m c 3 t) (iblk m c 4 t) (iblk m c 5 t) (ix2 r k) = row (args m c) (at' t r) k := by
  rw [out_h_eq]
  exact (rowbf_point (iblk m c 0 t) (iblk m c 1 t) (iblk m c 2 t) (iblk m c 3 t) (iblk m c 4 t) r k).trans (row_at m c t r k)

theorem l_at (e : Fin 16) (r : Fin 256) : out0_8 (iblk m c 0 t) (iblk m c 1 t) (iblk m c 2 t) (iblk m c 3 t) (iblk m c 4 t) (iblk m c 5 t) (ix2 e r) = logit (args m c) e (at' t r) := by
  rw [out_l_eq]
  refine (logit_point (iblk m c 0 t) (iblk m c 1 t) (iblk m c 2 t) (iblk m c 3 t) (iblk m c 4 t) (iblk m c 5 t) e r).trans ?_
  unfold logit
  refine Finset.sum_congr rfl fun k _ => ?_
  rw [row_at, in_router, mul_comm]

theorem emb_x (r : Fin 256) (j : Fin 1024) : (win0_6.blk t).view.emb (ix2 r j) = (ix2 (at' t r) j : S10240x1024.Idx) := by
  funext a
  fin_cases a <;> apply Fin.ext <;> blk_simp [index6] <;> simp [ix2, at'] <;> omega
theorem emb_h (r : Fin 256) (j : Fin 1024) : (win0_7.blk t).view.emb (ix2 r j) = (ix2 (at' t r) j : S10240x1024.Idx) := by
  funext a
  fin_cases a <;> apply Fin.ext <;> blk_simp [index7] <;> simp [ix2, at'] <;> omega
theorem emb_l (e : Fin 16) (r : Fin 256) : (win0_8.blk t).view.emb (ix2 e r) = (ix2 e (at' t r) : S16x10240.Idx) := by
  funext a
  fin_cases a <;> apply Fin.ext <;> blk_simp [index8] <;> simp [ix2, at'] <;> omega

theorem final_x : (dats m 0 c).arrAt 6 cfg0.N = xArr (args m c) := by
  refine (dats m 0 c).arrAt_eq_of_covers 6 _ (by decide +kernel) fun t hf y => ?_
  obtain ⟨r, l, rfl⟩ : ∃ (r : Fin 256) (l : Fin 1024), y = ix2 r l := ⟨y 0, y 1, by funext a; fin_cases a <;> rfl⟩
  blk_simp
  rw [after0_6]
  exact (x_at m c t r l).trans (congrArg (xArr (args m c)) (emb_x t r l)).symm

theorem final_h : (dats m 0 c).arrAt 7 cfg0.N = hArr (args m c) := by
  refine (dats m 0 c).arrAt_eq_of_covers 7 _ (by decide +kernel) fun t hf y => ?_
  obtain ⟨r, l, rfl⟩ : ∃ (r : Fin 256) (l : Fin 1024), y = ix2 r l := ⟨y 0, y 1, by funext a; fin_cases a <;> rfl⟩
  blk_simp
  rw [after0_7]
  exact (h_at m c t r l).trans (congrArg (hArr (args m c)) (emb_h t r l)).symm

theorem final_l : (dats m 0 c).arrAt 8 cfg0.N = lArr (args m c) := by
  refine (dats m 0 c).arrAt_eq_of_covers 8 _ (by decide +kernel) fun t hf y => ?_
  obtain ⟨e, r, rfl⟩ : ∃ (e : Fin 16) (r : Fin 256), y = ix2 e r := ⟨y 0, y 1, by funext a; fin_cases a <;> rfl⟩
  blk_simp
  rw [after0_8]
  exact (l_at m c t e r).trans (congrArg (lArr (args m c)) (emb_l t e r)).symm

variable (ρ : Dev nD → PrngReg)

/-- The run, with the arrays it leaves. -/
theorem run_out : θ_run defs (onTc (τ := τ) (main (F := Ideal))) ⟨m, fun _ => 0, ρ⟩ fun r => ∀ c : Dev nD,
    r.2.mem ((c : Thread nD τ).loc main_v8_0) = xArr (args m c)
      ∧ r.2.mem ((c : Thread nD τ).loc main_v8_1) = hArr (args m c)
      ∧ r.2.mem ((c : Thread nD τ).loc main_v8_2) = lArr (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_x m c), (h c).2.1.trans (final_h m c), (h c).2.2.1.trans (final_l m c), (h c).2.2.2⟩)
    (Value.run_blocks m ρ)

end Cert.Kernel7Ideal.OutProj1

end
-- ==== Proof.OutProj1.RefValue.lean ====
/- The reference's results are the tokens, the rows the experts take and the logits of the second layer's output projection. -/
module

public import proofs.«01_k».proof.Proof.Gen.Reference7Ideal.Read
public import proofs.«01_k».proof.Proof.OutProj.Spec
public import Idealize.ShloMosaic.Lib.Pipeline.ValueKit

@[expose] public section

set_option maxRecDepth 16384

noncomputable section

namespace Cert.Reference7Ideal.OutProj1

open Cert.InProj (normRow)
open Cert.OutProj Cert.Reference7Ideal Cert.Reference7Ideal.Gen Cert.Reference7Ideal.Read Idealize.ShloMosaic Idealize.SL.Sem

variable (x0 : FVec Ideal S10240x1024 .bf16) (x1 : FVec Ideal S1x1024x1024 .f32) (x2 : FVec Ideal S10240x1024 .f32)
  (x3 : FVec Ideal S2x2x1024 .f32) (x4 : FVec Ideal S2x8x6x1024 .f32) (x5 : FVec Ideal S1024x16 .f32)

def argsOf : Args where
  act t j := x0 (ix2 t j)
  w j k := x1 (ix3 0 j k)
  x t k := x2 (ix2 t k)
  gate a k := x4 (ix4 1 a 2 k)
  gain k := x3 (ix3 1 1 k)
  scale a k := x4 (ix4 1 a 4 k)
  shift a k := x4 (ix4 1 a 3 k)
  router k e := x5 (ix2 k e)

theorem proj_apply (t : Fin 10240) (k : Fin 1024) : val_main_v2 (F := Ideal) x0 x1 (ix2 t k) = proj (argsOf x0 x1 x2 x3 x4 x5) t k := by
  unfold proj
  pointwise [val_main_v2, val_main_v1, val_main_v0]
  rfl

/-- The tokens of the prompt and those of the two other sequences. -/
theorem tokP_apply (t : Fin 8192) (k : Fin 1024) : val_main_v20 (F := Ideal) x0 x1 x2 x4 (ix2 t k)
    = (x2 (ix2 ⟨t.val, by omega⟩ k) + x4 (ix4 1 0 2 k) * val_main_v2 (F := Ideal) x0 x1 (ix2 ⟨t.val, by omega⟩ k) : EReal) := by
  unfold val_main_v20 val_main_v19 val_main_v16
  generalize val_main_v2 (F := Ideal) x0 x1 = q
  pointwise [val_main_v18, val_main_v17, val_main_v15, val_main_v14, val_main_v13, val_main_v8, val_main_v7, val_main_v4, val_main_v3]

theorem tokL_apply (b : Fin 2) (s : Fin 1024) (k : Fin 1024) : val_main_v29 (F := Ideal) x0 x1 x2 x4 (ix3 b s k)
    = (x2 (ix2 ⟨8192 + (b.val * 1024 + s.val), by omega⟩ k) + x4 (ix4 1 ⟨1 + b.val, by omega⟩ 2 k)
        * val_main_v2 (F := Ideal) x0 x1 (ix2 ⟨8192 + (b.val * 1024 + s.val), by omega⟩ k) : EReal) := by
  unfold val_main_v29 val_main_v28 val_main_v26 val_main_v25
  generalize val_main_v2 (F := Ideal) x0 x1 = q
  pointwise [val_main_v27, val_main_v24, val_main_v23, val_main_v22, val_main_v21, val_main_v8, val_main_v7, val_main_v4, val_main_v3]

/-- The normed rows. -/
theorem normP_apply (t : Fin 8192) (k : Fin 1024) : val_main_v54 (F := Ideal) x0 x1 x2 x3 x4 (ix2 t k)
    = normRow (fun k => val_main_v20 (F := Ideal) x0 x1 x2 x4 (ix2 t k)) (fun k => x3 (ix3 1 1 k))
      (fun k => x4 (ix4 1 0 4 k)) (fun k => x4 (ix4 1 0 3 k)) k := by
  unfold normRow val_main_v54 val_main_v49 val_main_v42 val_main_v39 val_main_v38 val_main_v37 val_main_v36 val_main_v34 val_main_v32 val_main_v31 val_main_v30
  generalize val_main_v20 (F := Ideal) x0 x1 x2 x4 = q
  pointwise [val_main_v53, val_main_v52, val_main_v51, val_main_v50, val_main_v48, val_main_v47, val_main_v46, val_main_v45, val_main_v44, val_main_v43, val_main_v41, val_main_v40, val_main_v35, val_main_v33, val_main_v12, val_main_v11, val_main_v10, val_main_v9, val_main_v6, val_main_v5, val_main_v4, val_main_v3, val_main_cst, val_main_cst_0, val_main_cst_1, val_main_cst_2]

theorem normL_apply (b : Fin 2) (s : Fin 1024) (k : Fin 1024) : val_main_v77 (F := Ideal) x0 x1 x2 x3 x4 (ix3 b s k)
    = normRow (fun k => val_main_v29 (F := Ideal) x0 x1 x2 x4 (ix3 b s k)) (fun k => x3 (ix3 1 1 k))
      (fun k => x4 (ix4 1 ⟨1 + b.val, by omega⟩ 4 k)) (fun k => x4 (ix4 1 ⟨1 + b.val, by omega⟩ 3 k)) k := by
  unfold normRow val_main_v77 val_main_v73 val_main_v67 val_main_v64 val_main_v63 val_main_v62 val_main_v61 val_main_v59 val_main_v57 val_main_v56 val_main_v55
  generalize val_main_v29 (F := Ideal) x0 x1 x2 x4 = q
  pointwise [val_main_v76, val_main_v75, val_main_v74, val_main_v72, val_main_v71, val_main_v70, val_main_v69, val_main_v68, val_main_v66, val_main_v65, val_main_v60, val_main_v58, val_main_v12, val_main_v11, val_main_v10, val_main_v9, val_main_v6, val_main_v5, val_main_v4, val_main_v3, val_main_cst_3, val_main_cst_4, val_main_cst_5, val_main_cst_6]

/-- The joined tokens and the joined normed rows. -/
theorem join_apply (p : Vec Ideal S8192x1024 .f32) (q : Vec Ideal S2x1024x1024 .f32) (t : Fin 10240) (k : Fin 1024) :
    concatenate S10240x1024 0 [⟨S8192x1024, p⟩, ⟨S2048x1024, shapeCast S2048x1024 q shapeCasts_S2x1024x1024_S2048x1024⟩]
        concatenates_S8192x1024_S2048x1024_S10240x1024_d0 (ix2 t k)
      = (if h : t.val < 8192 then p (ix2 ⟨t.val, h⟩ k)
          else q (ix3 ⟨(t.val - 8192) / 1024, by omega⟩ ⟨(t.val - 8192) % 1024, by omega⟩ k) : EReal) := by
  pointwise

theorem tok_apply (t : Fin 10240) (k : Fin 1024) :
    val_main_v81 (F := Ideal) x0 x1 x2 x4 (ix2 t k) = tok (argsOf x0 x1 x2 x3 x4 x5) t k := by
  unfold val_main_v81 val_main_v80
  rw [join_apply]
  unfold tok
  rw [← proj_apply]
  unfold argsOf Cert.Moe.cond
  by_cases h : t.val < 8192
  · rw [dif_pos h, tokP_apply]
    simp only [if_pos h]
  · rw [dif_neg h, tokL_apply]
    have e : (⟨8192 + ((t.val - 8192) / 1024 * 1024 + (t.val - 8192) % 1024), by omega⟩ : Fin 10240) = t := Fin.ext (by dsimp only; omega)
    simp only [if_neg h, e]

theorem row_apply (t : Fin 10240) (k : Fin 1024) :
    val_main_v79 (F := Ideal) x0 x1 x2 x3 x4 (ix2 t k) = row (argsOf x0 x1 x2 x3 x4 x5) t k := by
  have ht : tok (argsOf x0 x1 x2 x3 x4 x5) t = fun k => val_main_v81 (F := Ideal) x0 x1 x2 x4 (ix2 t k) :=
    funext fun k => (tok_apply x0 x1 x2 x3 x4 x5 t k).symm
  unfold row
  rw [ht]
  unfold val_main_v79 val_main_v78
  rw [join_apply]
  by_cases h : t.val < 8192
  · have e : (fun k => val_main_v81 (F := Ideal) x0 x1 x2 x4 (ix2 t k)) = fun k => val_main_v20 (F := Ideal) x0 x1 x2 x4 (ix2 ⟨t.val, h⟩ k) := by
      funext k
      unfold val_main_v81 val_main_v80
      rw [join_apply, dif_pos h]
    rw [dif_pos h, normP_apply, e]
    unfold argsOf Cert.Moe.cond
    simp only [if_pos h]
  · have e : (fun k => val_main_v81 (F := Ideal) x0 x1 x2 x4 (ix2 t k)) = fun k => val_main_v29 (F := Ideal) x0 x1 x2 x4
        (ix3 ⟨(t.val - 8192) / 1024, by omega⟩ ⟨(t.val - 8192) % 1024, by omega⟩ k) := by
      funext k
      unfold val_main_v81 val_main_v80
      rw [join_apply, dif_neg h]
    rw [dif_neg h, normL_apply, e]
    unfold argsOf Cert.Moe.cond
    simp only [if_neg h]

theorem rowbf_apply (t : Fin 10240) (k : Fin 1024) :
    val_main_v82 (F := Ideal) x0 x1 x2 x3 x4 (ix2 t k) = row (argsOf x0 x1 x2 x3 x4 x5) t k := by
  rw [← row_apply]
  unfold val_main_v82
  generalize val_main_v79 (F := Ideal) x0 x1 x2 x3 x4 = q
  pointwise

theorem logit_apply (e : Fin 16) (t : Fin 10240) :
    val_main_v84 (F := Ideal) x0 x1 x2 x3 x4 x5 (ix2 e t) = logit (argsOf x0 x1 x2 x3 x4 x5) e t := by
  have hr : ∀ k, row (argsOf x0 x1 x2 x3 x4 x5) t k = val_main_v79 (F := Ideal) x0 x1 x2 x3 x4 (ix2 t k) := fun k => (row_apply x0 x1 x2 x3 x4 x5 t k).symm
  unfold logit
  rw [funext hr]
  unfold val_main_v84 val_main_v83
  generalize val_main_v79 (F := Ideal) x0 x1 x2 x3 x4 = q
  pointwise
  rfl

end Cert.Reference7Ideal.OutProj1

end
-- ==== Proof.OutProj1.Claims.lean ====
/- The frame of the reference of the second layer's output projection, and the equality of the three results. -/
module

public import proofs.«01_k».proof.Defs
public import proofs.«01_k».proof.Proof.Gen.Reference7Ideal.Run
public import proofs.«01_k».proof.Proof.OutProj1.Arrays
public import proofs.«01_k».proof.Proof.OutProj1.RefValue
public import Idealize.ShloMosaic.Adequacy
public import Idealize.ShloMosaic.Init

@[expose] public section

set_option maxRecDepth 16384

noncomputable section

namespace Cert.Proof.OutProj1

open Cert.OutProj Idealize.ShloMosaic Idealize.ShloMosaic.StableHlo Idealize.SL.Sem

theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

section

variable (x0 : FVec Ideal Cert.Reference7Ideal.S10240x1024 .bf16) (x1 : FVec Ideal Cert.Reference7Ideal.S1x1024x1024 .f32) (x2 : FVec Ideal Cert.Reference7Ideal.S10240x1024 .f32)
  (x3 : FVec Ideal Cert.Reference7Ideal.S2x2x1024 .f32) (x4 : FVec Ideal Cert.Reference7Ideal.S2x8x6x1024 .f32) (x5 : FVec Ideal Cert.Reference7Ideal.S1024x16 .f32)

/-- The three results of the reference, as arrays. -/
theorem x_arr : Cert.Reference7Ideal.Read.val_main_v81 (F := Ideal) x0 x1 x2 x4 = Cert.Kernel7Ideal.OutProj1.xArr (Cert.Reference7Ideal.OutProj1.argsOf x0 x1 x2 x3 x4 x5) := by
  funext y
  rw [eq_ix2 y]
  exact Cert.Reference7Ideal.OutProj1.tok_apply x0 x1 x2 x3 x4 x5 (y 0) (y 1)
theorem h_arr : Cert.Reference7Ideal.Read.val_main_v82 (F := Ideal) x0 x1 x2 x3 x4 = Cert.Kernel7Ideal.OutProj1.hArr (Cert.Reference7Ideal.OutProj1.argsOf x0 x1 x2 x3 x4 x5) := by
  funext y
  rw [eq_ix2 y]
  exact Cert.Reference7Ideal.OutProj1.rowbf_apply x0 x1 x2 x3 x4 x5 (y 0) (y 1)
theorem l_arr : Cert.Reference7Ideal.Read.val_main_v84 (F := Ideal) x0 x1 x2 x3 x4 x5 = Cert.Kernel7Ideal.OutProj1.lArr (Cert.Reference7Ideal.OutProj1.argsOf x0 x1 x2 x3 x4 x5) := by
  funext y
  rw [eq_ix2 y]
  exact Cert.Reference7Ideal.OutProj1.logit_apply x0 x1 x2 x3 x4 x5 (y 0) (y 1)

end

/-- The values of the run of the kernel and of the run of the reference agree. -/
theorem values : Cert.algebraic_Kernel7Ideal_Reference7Ideal := fun m ρ m' ρ' _ hag =>
  ⟨fun c => Cert.Kernel7Ideal.OutProj1.xArr (Cert.Kernel7Ideal.OutProj1.args m c),
    fun c => Cert.Kernel7Ideal.OutProj1.hArr (Cert.Kernel7Ideal.OutProj1.args m c),
    fun c => Cert.Kernel7Ideal.OutProj1.lArr (Cert.Kernel7Ideal.OutProj1.args m c),
    Cert.Kernel7Ideal.OutProj1.run_out m ρ,
    (θ_run Cert.Reference7Ideal.defs _ _).mono (fun _ h c => by
        obtain ⟨a0, a1, a2, a3, a4, a5⟩ := hag c
        refine ⟨(h c).1.trans ((Cert.Reference7Ideal.Read.val_main_v81_eq _ _ _ _ ).trans
            ((x_arr (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5))).trans ?_)),
          (h c).2.1.trans ((Cert.Reference7Ideal.Read.val_main_v82_eq m' c).trans
            ((h_arr (m' ((c.tc : Thread _ _).loc Cert.Reference7Ideal.main_arg0)) (m' ((c.tc : Thread _ _).loc Cert.Reference7Ideal.main_arg1)) (m' ((c.tc : Thread _ _).loc Cert.Reference7Ideal.main_arg2)) (m' ((c.tc : Thread _ _).loc Cert.Reference7Ideal.main_arg3)) (m' ((c.tc : Thread _ _).loc Cert.Reference7Ideal.main_arg4)) (m' ((c.tc : Thread _ _).loc Cert.Reference7Ideal.main_arg5))).trans ?_)),
          (h c).2.2.1.trans ((Cert.Reference7Ideal.Read.val_main_v84_eq m' c).trans ((l_arr _ _ _ _ _ _ ).trans ?_)), (h c).2.2.2⟩
        · rw [a0, a1, a2, a3, a4, a5]
          rfl
        · rw [a0, a1, a2, a3, a4, a5]
          rfl
        · rw [a0, a1, a2, a3, a4, a5]
          rfl)
      (Cert.Reference7Ideal.Value.run (F := Ideal) m' ρ')⟩

end Cert.Proof.OutProj1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Hgrn.Claims
public import proofs.«01_k».proof.Proof.Moe.Claims
public import proofs.«01_k».proof.Proof.InProj.Claims
public import proofs.«01_k».proof.Proof.InProj1.Claims
public import proofs.«01_k».proof.Proof.Attn.Claims
public import proofs.«01_k».proof.Proof.OutProj.Claims
public import proofs.«01_k».proof.Proof.OutProj1.Claims
public import Idealize.ShloMosaic.Adequacy
public import Idealize.ShloMosaic.Init

@[expose] public section

noncomputable section

namespace Cert.Proof

open Idealize.ShloMosaic Idealize.SL.Sem

/-- For the prompt recurrence, the mixture of experts, the two layers' input projections, the prompt's attention and the two layers' output projections: three frames, the idealization, and the equality of the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_qk_finite.facts,
  fun m ρ _ => Cert.Kernel.Gen.frame m ρ, fun m ρ _ => Cert.KernelIdeal.Gen.frame m ρ, Hgrn.frame_reference,
  fun m ρ _ => Cert.Kernel2.Gen.frame m ρ, fun m ρ _ => Cert.Kernel2Ideal.Gen.frame m ρ, Moe.frame_reference,
  fun m ρ _ => Cert.Kernel3.Gen.frame m ρ, fun m ρ _ => Cert.Kernel3Ideal.Gen.frame m ρ, InProj.frame_reference,
  fun m ρ _ => Cert.Kernel4.Gen.frame m ρ, fun m ρ _ => Cert.Kernel4Ideal.Gen.frame m ρ, InProj1.frame_reference,
  fun m ρ _ => Cert.Kernel5.Gen.frame m ρ, fun m ρ _ => Cert.Kernel5Ideal.Gen.frame m ρ, fun m ρ _ => Cert.Kernel5Ideal.Gen.frame m ρ,
  Attn.frame_reference, fun m ρ _ => Attn.frame_reference m ρ trivial,
  fun m ρ _ => Cert.Kernel6.Gen.frame m ρ, fun m ρ _ => Cert.Kernel6Ideal.Gen.frame m ρ, OutProj.frame_reference,
  fun m ρ _ => Cert.Kernel7.Gen.frame m ρ, fun m ρ _ => Cert.Kernel7Ideal.Gen.frame m ρ, OutProj1.frame_reference,
  trivial, Hgrn.values, trivial, Moe.values, trivial, InProj.values, trivial, InProj1.values,
  trivial, Attn.values, trivial, OutProj.values, trivial, OutProj1.values⟩

end Cert.Proof

end
